-- ==== Defs.lean ====
def Pre_Ctx (m : (ℓ : Loc Cert.Ctx.nD Cert.Ctx.τ Cert.Ctx.sig) → Buf (Elt Bits) ℓ) : Prop :=
  True

def Pre_CtxIdeal (m : (ℓ : Loc Cert.CtxIdeal.nD Cert.CtxIdeal.τ Cert.CtxIdeal.sig) → Buf (Elt Ideal) ℓ) : Prop :=
  True

def Pre_CtxIdeal_finite_queries_keys [hPre_finite_queries_keys : Cert.Pre_finite_queries_keys.Facts] (m : (ℓ : Loc Cert.CtxIdeal.nD Cert.CtxIdeal.τ Cert.CtxIdeal.sig) → Buf (Elt Ideal) ℓ) : Prop :=
  ∀ c : Dev Cert.CtxIdeal.nD,
    (Cert.Pre_finite_queries_keys.fn (F := Ideal) (m ((c.tc : Thread Cert.CtxIdeal.nD Cert.CtxIdeal.τ).loc Cert.CtxIdeal.main_arg0)) (m ((c.tc : Thread Cert.CtxIdeal.nD Cert.CtxIdeal.τ).loc Cert.CtxIdeal.main_arg1)) (m ((c.tc : Thread Cert.CtxIdeal.nD Cert.CtxIdeal.τ).loc Cert.CtxIdeal.main_arg2))).1 = (fun _ => 1#1)
    ∧ (Cert.Pre_finite_queries_keys.fn (F := Ideal) (m ((c.tc : Thread Cert.CtxIdeal.nD Cert.CtxIdeal.τ).loc Cert.CtxIdeal.main_arg0)) (m ((c.tc : Thread Cert.CtxIdeal.nD Cert.CtxIdeal.τ).loc Cert.CtxIdeal.main_arg1)) (m ((c.tc : Thread Cert.CtxIdeal.nD Cert.CtxIdeal.τ).loc Cert.CtxIdeal.main_arg2))).2 = (fun _ => 1#1)

def Pre_CtxRefIdeal (m : (ℓ : Loc Cert.CtxRefIdeal.nD Cert.CtxRefIdeal.τ Cert.CtxRefIdeal.sig) → Buf (Elt Ideal) ℓ) : Prop :=
  True

def Pre_CtxRefIdeal_finite_queries_keys [hPre_finite_queries_keys : Cert.Pre_finite_queries_keys.Facts] (m : (ℓ : Loc Cert.CtxRefIdeal.nD Cert.CtxRefIdeal.τ Cert.CtxRefIdeal.sig) → Buf (Elt Ideal) ℓ) : Prop :=
  ∀ c : Dev Cert.CtxRefIdeal.nD,
    (Cert.Pre_finite_queries_keys.fn (F := Ideal) (m ((c.tc : Thread Cert.CtxRefIdeal.nD Cert.CtxRefIdeal.τ).loc Cert.CtxRefIdeal.main_arg0)) (m ((c.tc : Thread Cert.CtxRefIdeal.nD Cert.CtxRefIdeal.τ).loc Cert.CtxRefIdeal.main_arg1)) (m ((c.tc : Thread Cert.CtxRefIdeal.nD Cert.CtxRefIdeal.τ).loc Cert.CtxRefIdeal.main_arg2))).1 = (fun _ => 1#1)
    ∧ (Cert.Pre_finite_queries_keys.fn (F := Ideal) (m ((c.tc : Thread Cert.CtxRefIdeal.nD Cert.CtxRefIdeal.τ).loc Cert.CtxRefIdeal.main_arg0)) (m ((c.tc : Thread Cert.CtxRefIdeal.nD Cert.CtxRefIdeal.τ).loc Cert.CtxRefIdeal.main_arg1)) (m ((c.tc : Thread Cert.CtxRefIdeal.nD Cert.CtxRefIdeal.τ).loc Cert.CtxRefIdeal.main_arg2))).2 = (fun _ => 1#1)

def Pre_Ffn1 (m : (ℓ : Loc Cert.Ffn1.nD Cert.Ffn1.τ Cert.Ffn1.sig) → Buf (Elt Bits) ℓ) : Prop :=
  True

def Pre_Ffn1Ideal (m : (ℓ : Loc Cert.Ffn1Ideal.nD Cert.Ffn1Ideal.τ Cert.Ffn1Ideal.sig) → Buf (Elt Ideal) ℓ) : Prop :=
  True

def Pre_Ffn1RefIdeal (m : (ℓ : Loc Cert.Ffn1RefIdeal.nD Cert.Ffn1RefIdeal.τ Cert.Ffn1RefIdeal.sig) → Buf (Elt Ideal) ℓ) : Prop :=
  True

def Pre_Ffn0 (m : (ℓ : Loc Cert.Ffn0.nD Cert.Ffn0.τ Cert.Ffn0.sig) → Buf (Elt Bits) ℓ) : Prop :=
  True

def Pre_Ffn0Ideal (m : (ℓ : Loc Cert.Ffn0Ideal.nD Cert.Ffn0Ideal.τ Cert.Ffn0Ideal.sig) → Buf (Elt Ideal) ℓ) : Prop :=
  True

def Pre_Ffn0RefIdeal (m : (ℓ : Loc Cert.Ffn0RefIdeal.nD Cert.Ffn0RefIdeal.τ Cert.Ffn0RefIdeal.sig) → Buf (Elt Ideal) ℓ) : Prop :=
  True

def Pre_InEven (m : (ℓ : Loc Cert.InEven.nD Cert.InEven.τ Cert.InEven.sig) → Buf (Elt Bits) ℓ) : Prop :=
  True

def Pre_InEvenIdeal (m : (ℓ : Loc Cert.InEvenIdeal.nD Cert.InEvenIdeal.τ Cert.InEvenIdeal.sig) → Buf (Elt Ideal) ℓ) : Prop :=
  True

def Pre_InEvenRefIdeal (m : (ℓ : Loc Cert.InEvenRefIdeal.nD Cert.InEvenRefIdeal.τ Cert.InEvenRefIdeal.sig) → Buf (Elt Ideal) ℓ) : Prop :=
  True

def Pre_InOdd (m : (ℓ : Loc Cert.InOdd.nD Cert.InOdd.τ Cert.InOdd.sig) → Buf (Elt Bits) ℓ) : Prop :=
  True

def Pre_InOddIdeal (m : (ℓ : Loc Cert.InOddIdeal.nD Cert.InOddIdeal.τ Cert.InOddIdeal.sig) → Buf (Elt Ideal) ℓ) : Prop :=
  True

def Pre_InOddRefIdeal (m : (ℓ : Loc Cert.InOddRefIdeal.nD Cert.InOddRefIdeal.τ Cert.InOddRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvIdeal_finite_projected [hPre_finite_projected : Cert.Pre_finite_projected.Facts] (m : (ℓ : Loc Cert.QkvIdeal.nD Cert.QkvIdeal.τ Cert.QkvIdeal.sig) → Buf (Elt Ideal) ℓ) : Prop :=
  ∀ c : Dev Cert.QkvIdeal.nD,
    (Cert.Pre_finite_projected.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2))) = (fun _ => 1#1)

def Pre_QkvRefIdeal (m : (ℓ : Loc Cert.QkvRefIdeal.nD Cert.QkvRefIdeal.τ Cert.QkvRefIdeal.sig) → Buf (Elt Ideal) ℓ) : Prop :=
  True

def Pre_QkvRefIdeal_finite_projected [hPre_finite_projected : Cert.Pre_finite_projected.Facts] (m : (ℓ : Loc Cert.QkvRefIdeal.nD Cert.QkvRefIdeal.τ Cert.QkvRefIdeal.sig) → Buf (Elt Ideal) ℓ) : Prop :=
  ∀ c : Dev Cert.QkvRefIdeal.nD,
    (Cert.Pre_finite_projected.fn (F := Ideal) (m ((c.tc : Thread Cert.QkvRefIdeal.nD Cert.QkvRefIdeal.τ).loc Cert.QkvRefIdeal.main_arg0)) (m ((c.tc : Thread Cert.QkvRefIdeal.nD Cert.QkvRefIdeal.τ).loc Cert.QkvRefIdeal.main_arg1)) (m ((c.tc : Thread Cert.QkvRefIdeal.nD Cert.QkvRefIdeal.τ).loc Cert.QkvRefIdeal.main_arg2))) = (fun _ => 1#1)

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_Rg (m : (ℓ : Loc Cert.Rg.nD Cert.Rg.τ Cert.Rg.sig) → Buf (Elt Bits) ℓ) : Prop :=
  True

def Pre_RgIdeal (m : (ℓ : Loc Cert.RgIdeal.nD Cert.RgIdeal.τ Cert.RgIdeal.sig) → Buf (Elt Ideal) ℓ) : Prop :=
  True

def Pre_RgRefIdeal (m : (ℓ : Loc Cert.RgRefIdeal.nD Cert.RgRefIdeal.τ Cert.RgRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def quiescent_Ctx [hCtx : Cert.Ctx.Facts] : Prop :=
  ∀ (m : (ℓ : Loc Cert.Ctx.nD Cert.Ctx.τ Cert.Ctx.sig) → Buf (Elt Bits) ℓ) (g : Dev Cert.Ctx.nD → PrngReg), Pre_Ctx m →
    θ_run (Cert.Ctx.defs (F := Bits)) (onTc (τ := Cert.Ctx.τ) (Cert.Ctx.main (F := Bits))) ⟨m, fun _ => 0, g⟩ (fun r => (∀ c : Dev Cert.Ctx.nD,
      r.2.mem ((c.tc : Thread Cert.Ctx.nD Cert.Ctx.τ).loc Cert.Ctx.main_arg0) = m ((c.tc : Thread Cert.Ctx.nD Cert.Ctx.τ).loc Cert.Ctx.main_arg0)
      ∧ r.2.mem ((c.tc : Thread Cert.Ctx.nD Cert.Ctx.τ).loc Cert.Ctx.main_arg1) = m ((c.tc : Thread Cert.Ctx.nD Cert.Ctx.τ).loc Cert.Ctx.main_arg1)
      ∧ r.2.mem ((c.tc : Thread Cert.Ctx.nD Cert.Ctx.τ).loc Cert.Ctx.main_arg2) = m ((c.tc : Thread Cert.Ctx.nD Cert.Ctx.τ).loc Cert.Ctx.main_arg2))
      ∧ r.2.sem = fun _ => 0)

def quiescent_CtxIdeal [hCtxIdeal : Cert.CtxIdeal.Facts] : Prop :=
  ∀ (m : (ℓ : Loc Cert.CtxIdeal.nD Cert.CtxIdeal.τ Cert.CtxIdeal.sig) → Buf (Elt Ideal) ℓ) (g : Dev Cert.CtxIdeal.nD → PrngReg), Pre_CtxIdeal m →
    θ_run (Cert.CtxIdeal.defs (F := Ideal)) (onTc (τ := Cert.CtxIdeal.τ) (Cert.CtxIdeal.main (F := Ideal))) ⟨m, fun _ => 0, g⟩ (fun r => (∀ c : Dev Cert.CtxIdeal.nD,
      r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
      ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
      ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2))
      ∧ r.2.sem = fun _ => 0)

def quiescent_CtxIdeal_pre_finite_queries_keys [hCtxIdeal : Cert.CtxIdeal.Facts] [hPre_finite_queries_keys : Cert.Pre_finite_queries_keys.Facts] : Prop :=
  ∀ (m : (ℓ : Loc Cert.CtxIdeal.nD Cert.CtxIdeal.τ Cert.CtxIdeal.sig) → Buf (Elt Ideal) ℓ) (g : Dev Cert.CtxIdeal.nD → PrngReg), Pre_CtxIdeal_finite_queries_keys m →
    θ_run (Cert.CtxIdeal.defs (F := Ideal)) (onTc (τ := Cert.CtxIdeal.τ) (Cert.CtxIdeal.main (F := Ideal))) ⟨m, fun _ => 0, g⟩ (fun r => (∀ c : Dev Cert.CtxIdeal.nD,
      r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
      ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
      ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2))
      ∧ r.2.sem = fun _ => 0)

def quiescent_CtxRefIdeal [hCtxRefIdeal : Cert.CtxRefIdeal.Facts] : Prop :=
  ∀ (m : (ℓ : Loc Cert.CtxRefIdeal.nD Cert.CtxRefIdeal.τ Cert.CtxRefIdeal.sig) → Buf (Elt Ideal) ℓ) (g : Dev Cert.CtxRefIdeal.nD → PrngReg), Pre_CtxRefIdeal m →
    θ_run (Cert.CtxRefIdeal.defs (F := Ideal)) (onTc (τ := Cert.CtxRefIdeal.τ) (Cert.CtxRefIdeal.main (F := Ideal))) ⟨m, fun _ => 0, g⟩ (fun r => (∀ c : Dev Cert.CtxRefIdeal.nD,
      r.2.mem ((c.tc : Thread Cert.CtxRefIdeal.nD Cert.CtxRefIdeal.τ).loc Cert.CtxRefIdeal.main_arg0) = m ((c.tc : Thread Cert.CtxRefIdeal.nD Cert.CtxRefIdeal.τ).loc Cert.CtxRefIdeal.main_arg0)
      ∧ r.2.mem ((c.tc : Thread Cert.CtxRefIdeal.nD Cert.CtxRefIdeal.τ).loc Cert.CtxRefIdeal.main_arg1) = m ((c.tc : Thread Cert.CtxRefIdeal.nD Cert.CtxRefIdeal.τ).loc Cert.CtxRefIdeal.main_arg1)
      ∧ r.2.mem ((c.tc : Thread Cert.CtxRefIdeal.nD Cert.CtxRefIdeal.τ).loc Cert.CtxRefIdeal.main_arg2) = m ((c.tc : Thread Cert.CtxRefIdeal.nD Cert.CtxRefIdeal.τ).loc Cert.CtxRefIdeal.main_arg2))
      ∧ r.2.sem = fun _ => 0)

def quiescent_CtxRefIdeal_pre_finite_queries_keys [hCtxRefIdeal : Cert.CtxRefIdeal.Facts] [hPre_finite_queries_keys : Cert.Pre_finite_queries_keys.Facts] : Prop :=
  ∀ (m : (ℓ : Loc Cert.CtxRefIdeal.nD Cert.CtxRefIdeal.τ Cert.CtxRefIdeal.sig) → Buf (Elt Ideal) ℓ) (g : Dev Cert.CtxRefIdeal.nD → PrngReg), Pre_CtxRefIdeal_finite_queries_keys m →
    θ_run (Cert.CtxRefIdeal.defs (F := Ideal)) (onTc (τ := Cert.CtxRefIdeal.τ) (Cert.CtxRefIdeal.main (F := Ideal))) ⟨m, fun _ => 0, g⟩ (fun r => (∀ c : Dev Cert.CtxRefIdeal.nD,
      r.2.mem ((c.tc : Thread Cert.CtxRefIdeal.nD Cert.CtxRefIdeal.τ).loc Cert.CtxRefIdeal.main_arg0) = m ((c.tc : Thread Cert.CtxRefIdeal.nD Cert.CtxRefIdeal.τ).loc Cert.CtxRefIdeal.main_arg0)
      ∧ r.2.mem ((c.tc : Thread Cert.CtxRefIdeal.nD Cert.CtxRefIdeal.τ).loc Cert.CtxRefIdeal.main_arg1) = m ((c.tc : Thread Cert.CtxRefIdeal.nD Cert.CtxRefIdeal.τ).loc Cert.CtxRefIdeal.main_arg1)
      ∧ r.2.mem ((c.tc : Thread Cert.CtxRefIdeal.nD Cert.CtxRefIdeal.τ).loc Cert.CtxRefIdeal.main_arg2) = m ((c.tc : Thread Cert.CtxRefIdeal.nD Cert.CtxRefIdeal.τ).loc Cert.CtxRefIdeal.main_arg2))
      ∧ r.2.sem = fun _ => 0)

def quiescent_Ffn1 [hFfn1 : Cert.Ffn1.Facts] : Prop :=
  ∀ (m : (ℓ : Loc Cert.Ffn1.nD Cert.Ffn1.τ Cert.Ffn1.sig) → Buf (Elt Bits) ℓ) (g : Dev Cert.Ffn1.nD → PrngReg), Pre_Ffn1 m →
    θ_run (Cert.Ffn1.defs (F := Bits)) (onTc (τ := Cert.Ffn1.τ) (Cert.Ffn1.main (F := Bits))) ⟨m, fun _ => 0, g⟩ (fun r => (∀ c : Dev Cert.Ffn1.nD,
      r.2.mem ((c.tc : Thread Cert.Ffn1.nD Cert.Ffn1.τ).loc Cert.Ffn1.main_arg0) = m ((c.tc : Thread Cert.Ffn1.nD Cert.Ffn1.τ).loc Cert.Ffn1.main_arg0)
      ∧ r.2.mem ((c.tc : Thread Cert.Ffn1.nD Cert.Ffn1.τ).loc Cert.Ffn1.main_arg1) = m ((c.tc : Thread Cert.Ffn1.nD Cert.Ffn1.τ).loc Cert.Ffn1.main_arg1)
      ∧ r.2.mem ((c.tc : Thread Cert.Ffn1.nD Cert.Ffn1.τ).loc Cert.Ffn1.main_arg2) = m ((c.tc : Thread Cert.Ffn1.nD Cert.Ffn1.τ).loc Cert.Ffn1.main_arg2)
      ∧ r.2.mem ((c.tc : Thread Cert.Ffn1.nD Cert.Ffn1.τ).loc Cert.Ffn1.main_arg3) = m ((c.tc : Thread Cert.Ffn1.nD Cert.Ffn1.τ).loc Cert.Ffn1.main_arg3)
      ∧ r.2.mem ((c.tc : Thread Cert.Ffn1.nD Cert.Ffn1.τ).loc Cert.Ffn1.main_arg4) = m ((c.tc : Thread Cert.Ffn1.nD Cert.Ffn1.τ).loc Cert.Ffn1.main_arg4)
      ∧ r.2.mem ((c.tc : Thread Cert.Ffn1.nD Cert.Ffn1.τ).loc Cert.Ffn1.main_arg5) = m ((c.tc : Thread Cert.Ffn1.nD Cert.Ffn1.τ).loc Cert.Ffn1.main_arg5))
      ∧ r.2.sem = fun _ => 0)

def quiescent_Ffn1Ideal [hFfn1Ideal : Cert.Ffn1Ideal.Facts] : Prop :=
  ∀ (m : (ℓ : Loc Cert.Ffn1Ideal.nD Cert.Ffn1Ideal.τ Cert.Ffn1Ideal.sig) → Buf (Elt Ideal) ℓ) (g : Dev Cert.Ffn1Ideal.nD → PrngReg), Pre_Ffn1Ideal m →
    θ_run (Cert.Ffn1Ideal.defs (F := Ideal)) (onTc (τ := Cert.Ffn1Ideal.τ) (Cert.Ffn1Ideal.main (F := Ideal))) ⟨m, fun _ => 0, g⟩ (fun r => (∀ c : Dev Cert.Ffn1Ideal.nD,
      r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
      ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
      ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
      ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3)
      ∧ r.2.mem ((c.tc : Thread Cert.Ffn1Ideal.nD Cert.Ffn1Ideal.τ).loc Cert.Ffn1Ideal.main_arg4) = m ((c.tc : Thread Cert.Ffn1Ideal.nD Cert.Ffn1Ideal.τ).loc Cert.Ffn1Ideal.main_arg4)
      ∧ r.2.mem ((c.tc : Thread Cert.Ffn1Ideal.nD Cert.Ffn1Ideal.τ).loc Cert.Ffn1Ideal.main_arg5) = m ((c.tc : Thread Cert.Ffn1Ideal.nD Cert.Ffn1Ideal.τ).loc Cert.Ffn1Ideal.main_arg5))
      ∧ r.2.sem = fun _ => 0)

def quiescent_Ffn1RefIdeal [hFfn1RefIdeal : Cert.Ffn1RefIdeal.Facts] : Prop :=
  ∀ (m : (ℓ : Loc Cert.Ffn1RefIdeal.nD Cert.Ffn1RefIdeal.τ Cert.Ffn1RefIdeal.sig) → Buf (Elt Ideal) ℓ) (g : Dev Cert.Ffn1RefIdeal.nD → PrngReg), Pre_Ffn1RefIdeal m →
    θ_run (Cert.Ffn1RefIdeal.defs (F := Ideal)) (onTc (τ := Cert.Ffn1RefIdeal.τ) (Cert.Ffn1RefIdeal.main (F := Ideal))) ⟨m, fun _ => 0, g⟩ (fun r => (∀ c : Dev Cert.Ffn1RefIdeal.nD,
      r.2.mem ((c.tc : Thread Cert.Ffn1RefIdeal.nD Cert.Ffn1RefIdeal.τ).loc Cert.Ffn1RefIdeal.main_arg0) = m ((c.tc : Thread Cert.Ffn1RefIdeal.nD Cert.Ffn1RefIdeal.τ).loc Cert.Ffn1RefIdeal.main_arg0)
      ∧ r.2.mem ((c.tc : Thread Cert.Ffn1RefIdeal.nD Cert.Ffn1RefIdeal.τ).loc Cert.Ffn1RefIdeal.main_arg1) = m ((c.tc : Thread Cert.Ffn1RefIdeal.nD Cert.Ffn1RefIdeal.τ).loc Cert.Ffn1RefIdeal.main_arg1)
      ∧ r.2.mem ((c.tc : Thread Cert.Ffn1RefIdeal.nD Cert.Ffn1RefIdeal.τ).loc Cert.Ffn1RefIdeal.main_arg2) = m ((c.tc : Thread Cert.Ffn1RefIdeal.nD Cert.Ffn1RefIdeal.τ).loc Cert.Ffn1RefIdeal.main_arg2)
      ∧ r.2.mem ((c.tc : Thread Cert.Ffn1RefIdeal.nD Cert.Ffn1RefIdeal.τ).loc Cert.Ffn1RefIdeal.main_arg3) = m ((c.tc : Thread Cert.Ffn1RefIdeal.nD Cert.Ffn1RefIdeal.τ).loc Cert.Ffn1RefIdeal.main_arg3)
      ∧ r.2.mem ((c.tc : Thread Cert.Ffn1RefIdeal.nD Cert.Ffn1RefIdeal.τ).loc Cert.Ffn1RefIdeal.main_arg4) = m ((c.tc : Thread Cert.Ffn1RefIdeal.nD Cert.Ffn1RefIdeal.τ).loc Cert.Ffn1RefIdeal.main_arg4)
      ∧ r.2.mem ((c.tc : Thread Cert.Ffn1RefIdeal.nD Cert.Ffn1RefIdeal.τ).loc Cert.Ffn1RefIdeal.main_arg5) = m ((c.tc : Thread Cert.Ffn1RefIdeal.nD Cert.Ffn1RefIdeal.τ).loc Cert.Ffn1RefIdeal.main_arg5))
      ∧ r.2.sem = fun _ => 0)

def quiescent_Ffn0 [hFfn0 : Cert.Ffn0.Facts] : Prop :=
  ∀ (m : (ℓ : Loc Cert.Ffn0.nD Cert.Ffn0.τ Cert.Ffn0.sig) → Buf (Elt Bits) ℓ) (g : Dev Cert.Ffn0.nD → PrngReg), Pre_Ffn0 m →
    θ_run (Cert.Ffn0.defs (F := Bits)) (onTc (τ := Cert.Ffn0.τ) (Cert.Ffn0.main (F := Bits))) ⟨m, fun _ => 0, g⟩ (fun r => (∀ c : Dev Cert.Ffn0.nD,
      r.2.mem ((c.tc : Thread Cert.Ffn0.nD Cert.Ffn0.τ).loc Cert.Ffn0.main_arg0) = m ((c.tc : Thread Cert.Ffn0.nD Cert.Ffn0.τ).loc Cert.Ffn0.main_arg0)
      ∧ r.2.mem ((c.tc : Thread Cert.Ffn0.nD Cert.Ffn0.τ).loc Cert.Ffn0.main_arg1) = m ((c.tc : Thread Cert.Ffn0.nD Cert.Ffn0.τ).loc Cert.Ffn0.main_arg1)
      ∧ r.2.mem ((c.tc : Thread Cert.Ffn0.nD Cert.Ffn0.τ).loc Cert.Ffn0.main_arg2) = m ((c.tc : Thread Cert.Ffn0.nD Cert.Ffn0.τ).loc Cert.Ffn0.main_arg2)
      ∧ r.2.mem ((c.tc : Thread Cert.Ffn0.nD Cert.Ffn0.τ).loc Cert.Ffn0.main_arg3) = m ((c.tc : Thread Cert.Ffn0.nD Cert.Ffn0.τ).loc Cert.Ffn0.main_arg3)
      ∧ r.2.mem ((c.tc : Thread Cert.Ffn0.nD Cert.Ffn0.τ).loc Cert.Ffn0.main_arg4) = m ((c.tc : Thread Cert.Ffn0.nD Cert.Ffn0.τ).loc Cert.Ffn0.main_arg4)
      ∧ r.2.mem ((c.tc : Thread Cert.Ffn0.nD Cert.Ffn0.τ).loc Cert.Ffn0.main_arg5) = m ((c.tc : Thread Cert.Ffn0.nD Cert.Ffn0.τ).loc Cert.Ffn0.main_arg5))
      ∧ r.2.sem = fun _ => 0)

def quiescent_Ffn0Ideal [hFfn0Ideal : Cert.Ffn0Ideal.Facts] : Prop :=
  ∀ (m : (ℓ : Loc Cert.Ffn0Ideal.nD Cert.Ffn0Ideal.τ Cert.Ffn0Ideal.sig) → Buf (Elt Ideal) ℓ) (g : Dev Cert.Ffn0Ideal.nD → PrngReg), Pre_Ffn0Ideal m →
    θ_run (Cert.Ffn0Ideal.defs (F := Ideal)) (onTc (τ := Cert.Ffn0Ideal.τ) (Cert.Ffn0Ideal.main (F := Ideal))) ⟨m, fun _ => 0, g⟩ (fun r => (∀ c : Dev Cert.Ffn0Ideal.nD,
      r.2.mem ((c.tc : Thread Cert.Ffn0Ideal.nD Cert.Ffn0Ideal.τ).loc Cert.Ffn0Ideal.main_arg0) = m ((c.tc : Thread Cert.Ffn0Ideal.nD Cert.Ffn0Ideal.τ).loc Cert.Ffn0Ideal.main_arg0)
      ∧ r.2.mem ((c.tc : Thread Cert.Ffn0Ideal.nD Cert.Ffn0Ideal.τ).loc Cert.Ffn0Ideal.main_arg1) = m ((c.tc : Thread Cert.Ffn0Ideal.nD Cert.Ffn0Ideal.τ).loc Cert.Ffn0Ideal.main_arg1)
      ∧ r.2.mem ((c.tc : Thread Cert.Ffn0Ideal.nD Cert.Ffn0Ideal.τ).loc Cert.Ffn0Ideal.main_arg2) = m ((c.tc : Thread Cert.Ffn0Ideal.nD Cert.Ffn0Ideal.τ).loc Cert.Ffn0Ideal.main_arg2)
      ∧ r.2.mem ((c.tc : Thread Cert.Ffn0Ideal.nD Cert.Ffn0Ideal.τ).loc Cert.Ffn0Ideal.main_arg3) = m ((c.tc : Thread Cert.Ffn0Ideal.nD Cert.Ffn0Ideal.τ).loc Cert.Ffn0Ideal.main_arg3)
      ∧ r.2.mem ((c.tc : Thread Cert.Ffn0Ideal.nD Cert.Ffn0Ideal.τ).loc Cert.Ffn0Ideal.main_arg4) = m ((c.tc : Thread Cert.Ffn0Ideal.nD Cert.Ffn0Ideal.τ).loc Cert.Ffn0Ideal.main_arg4)
      ∧ r.2.mem ((c.tc : Thread Cert.Ffn0Ideal.nD Cert.Ffn0Ideal.τ).loc Cert.Ffn0Ideal.main_arg5) = m ((c.tc : Thread Cert.Ffn0Ideal.nD Cert.Ffn0Ideal.τ).loc Cert.Ffn0Ideal.main_arg5))
      ∧ r.2.sem = fun _ => 0)

def quiescent_Ffn0RefIdeal [hFfn0RefIdeal : Cert.Ffn0RefIdeal.Facts] : Prop :=
  ∀ (m : (ℓ : Loc Cert.Ffn0RefIdeal.nD Cert.Ffn0RefIdeal.τ Cert.Ffn0RefIdeal.sig) → Buf (Elt Ideal) ℓ) (g : Dev Cert.Ffn0RefIdeal.nD → PrngReg), Pre_Ffn0RefIdeal m →
    θ_run (Cert.Ffn0RefIdeal.defs (F := Ideal)) (onTc (τ := Cert.Ffn0RefIdeal.τ) (Cert.Ffn0RefIdeal.main (F := Ideal))) ⟨m, fun _ => 0, g⟩ (fun r => (∀ c : Dev Cert.Ffn0RefIdeal.nD,
      r.2.mem ((c.tc : Thread Cert.Ffn0RefIdeal.nD Cert.Ffn0RefIdeal.τ).loc Cert.Ffn0RefIdeal.main_arg0) = m ((c.tc : Thread Cert.Ffn0RefIdeal.nD Cert.Ffn0RefIdeal.τ).loc Cert.Ffn0RefIdeal.main_arg0)
      ∧ r.2.mem ((c.tc : Thread Cert.Ffn0RefIdeal.nD Cert.Ffn0RefIdeal.τ).loc Cert.Ffn0RefIdeal.main_arg1) = m ((c.tc : Thread Cert.Ffn0RefIdeal.nD Cert.Ffn0RefIdeal.τ).loc Cert.Ffn0RefIdeal.main_arg1)
      ∧ r.2.mem ((c.tc : Thread Cert.Ffn0RefIdeal.nD Cert.Ffn0RefIdeal.τ).loc Cert.Ffn0RefIdeal.main_arg2) = m ((c.tc : Thread Cert.Ffn0RefIdeal.nD Cert.Ffn0RefIdeal.τ).loc Cert.Ffn0RefIdeal.main_arg2)
      ∧ r.2.mem ((c.tc : Thread Cert.Ffn0RefIdeal.nD Cert.Ffn0RefIdeal.τ).loc Cert.Ffn0RefIdeal.main_arg3) = m ((c.tc : Thread Cert.Ffn0RefIdeal.nD Cert.Ffn0RefIdeal.τ).loc Cert.Ffn0RefIdeal.main_arg3)
      ∧ r.2.mem ((c.tc : Thread Cert.Ffn0RefIdeal.nD Cert.Ffn0RefIdeal.τ).loc Cert.Ffn0RefIdeal.main_arg4) = m ((c.tc : Thread Cert.Ffn0RefIdeal.nD Cert.Ffn0RefIdeal.τ).loc Cert.Ffn0RefIdeal.main_arg4)
      ∧ r.2.mem ((c.tc : Thread Cert.Ffn0RefIdeal.nD Cert.Ffn0RefIdeal.τ).loc Cert.Ffn0RefIdeal.main_arg5) = m ((c.tc : Thread Cert.Ffn0RefIdeal.nD Cert.Ffn0RefIdeal.τ).loc Cert.Ffn0RefIdeal.main_arg5))
      ∧ r.2.sem = fun _ => 0)

def quiescent_InEven [hInEven : Cert.InEven.Facts] : Prop :=
  ∀ (m : (ℓ : Loc Cert.InEven.nD Cert.InEven.τ Cert.InEven.sig) → Buf (Elt Bits) ℓ) (g : Dev Cert.InEven.nD → PrngReg), Pre_InEven m →
    θ_run (Cert.InEven.defs (F := Bits)) (onTc (τ := Cert.InEven.τ) (Cert.InEven.main (F := Bits))) ⟨m, fun _ => 0, g⟩ (fun r => (∀ c : Dev Cert.InEven.nD,
      r.2.mem ((c.tc : Thread Cert.InEven.nD Cert.InEven.τ).loc Cert.InEven.main_arg0) = m ((c.tc : Thread Cert.InEven.nD Cert.InEven.τ).loc Cert.InEven.main_arg0)
      ∧ r.2.mem ((c.tc : Thread Cert.InEven.nD Cert.InEven.τ).loc Cert.InEven.main_arg1) = m ((c.tc : Thread Cert.InEven.nD Cert.InEven.τ).loc Cert.InEven.main_arg1))
      ∧ r.2.sem = fun _ => 0)

def quiescent_InEvenIdeal [hInEvenIdeal : Cert.InEvenIdeal.Facts] : Prop :=
  ∀ (m : (ℓ : Loc Cert.InEvenIdeal.nD Cert.InEvenIdeal.τ Cert.InEvenIdeal.sig) → Buf (Elt Ideal) ℓ) (g : Dev Cert.InEvenIdeal.nD → PrngReg), Pre_InEvenIdeal m →
    θ_run (Cert.InEvenIdeal.defs (F := Ideal)) (onTc (τ := Cert.InEvenIdeal.τ) (Cert.InEvenIdeal.main (F := Ideal))) ⟨m, fun _ => 0, g⟩ (fun r => (∀ c : Dev Cert.InEvenIdeal.nD,
      r.2.mem ((c.tc : Thread Cert.InEvenIdeal.nD Cert.InEvenIdeal.τ).loc Cert.InEvenIdeal.main_arg0) = m ((c.tc : Thread Cert.InEvenIdeal.nD Cert.InEvenIdeal.τ).loc Cert.InEvenIdeal.main_arg0)
      ∧ r.2.mem ((c.tc : Thread Cert.InEvenIdeal.nD Cert.InEvenIdeal.τ).loc Cert.InEvenIdeal.main_arg1) = m ((c.tc : Thread Cert.InEvenIdeal.nD Cert.InEvenIdeal.τ).loc Cert.InEvenIdeal.main_arg1))
      ∧ r.2.sem = fun _ => 0)

def quiescent_InEvenRefIdeal [hInEvenRefIdeal : Cert.InEvenRefIdeal.Facts] : Prop :=
  ∀ (m : (ℓ : Loc Cert.InEvenRefIdeal.nD Cert.InEvenRefIdeal.τ Cert.InEvenRefIdeal.sig) → Buf (Elt Ideal) ℓ) (g : Dev Cert.InEvenRefIdeal.nD → PrngReg), Pre_InEvenRefIdeal m →
    θ_run (Cert.InEvenRefIdeal.defs (F := Ideal)) (onTc (τ := Cert.InEvenRefIdeal.τ) (Cert.InEvenRefIdeal.main (F := Ideal))) ⟨m, fun _ => 0, g⟩ (fun r => (∀ c : Dev Cert.InEvenRefIdeal.nD,
      r.2.mem ((c.tc : Thread Cert.InEvenRefIdeal.nD Cert.InEvenRefIdeal.τ).loc Cert.InEvenRefIdeal.main_arg0) = m ((c.tc : Thread Cert.InEvenRefIdeal.nD Cert.InEvenRefIdeal.τ).loc Cert.InEvenRefIdeal.main_arg0)
      ∧ r.2.mem ((c.tc : Thread Cert.InEvenRefIdeal.nD Cert.InEvenRefIdeal.τ).loc Cert.InEvenRefIdeal.main_arg1) = m ((c.tc : Thread Cert.InEvenRefIdeal.nD Cert.InEvenRefIdeal.τ).loc Cert.InEvenRefIdeal.main_arg1))
      ∧ r.2.sem = fun _ => 0)

def quiescent_InOdd [hInOdd : Cert.InOdd.Facts] : Prop :=
  ∀ (m : (ℓ : Loc Cert.InOdd.nD Cert.InOdd.τ Cert.InOdd.sig) → Buf (Elt Bits) ℓ) (g : Dev Cert.InOdd.nD → PrngReg), Pre_InOdd m →
    θ_run (Cert.InOdd.defs (F := Bits)) (onTc (τ := Cert.InOdd.τ) (Cert.InOdd.main (F := Bits))) ⟨m, fun _ => 0, g⟩ (fun r => (∀ c : Dev Cert.InOdd.nD,
      r.2.mem ((c.tc : Thread Cert.InOdd.nD Cert.InOdd.τ).loc Cert.InOdd.main_arg0) = m ((c.tc : Thread Cert.InOdd.nD Cert.InOdd.τ).loc Cert.InOdd.main_arg0)
      ∧ r.2.mem ((c.tc : Thread Cert.InOdd.nD Cert.InOdd.τ).loc Cert.InOdd.main_arg1) = m ((c.tc : Thread Cert.InOdd.nD Cert.InOdd.τ).loc Cert.InOdd.main_arg1))
      ∧ r.2.sem = fun _ => 0)

def quiescent_InOddIdeal [hInOddIdeal : Cert.InOddIdeal.Facts] : Prop :=
  ∀ (m : (ℓ : Loc Cert.InOddIdeal.nD Cert.InOddIdeal.τ Cert.InOddIdeal.sig) → Buf (Elt Ideal) ℓ) (g : Dev Cert.InOddIdeal.nD → PrngReg), Pre_InOddIdeal m →
    θ_run (Cert.InOddIdeal.defs (F := Ideal)) (onTc (τ := Cert.InOddIdeal.τ) (Cert.InOddIdeal.main (F := Ideal))) ⟨m, fun _ => 0, g⟩ (fun r => (∀ c : Dev Cert.InOddIdeal.nD,
      r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
      ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1))
      ∧ r.2.sem = fun _ => 0)

def quiescent_InOddRefIdeal [hInOddRefIdeal : Cert.InOddRefIdeal.Facts] : Prop :=
  ∀ (m : (ℓ : Loc Cert.InOddRefIdeal.nD Cert.InOddRefIdeal.τ Cert.InOddRefIdeal.sig) → Buf (Elt Ideal) ℓ) (g : Dev Cert.InOddRefIdeal.nD → PrngReg), Pre_InOddRefIdeal m →
    θ_run (Cert.InOddRefIdeal.defs (F := Ideal)) (onTc (τ := Cert.InOddRefIdeal.τ) (Cert.InOddRefIdeal.main (F := Ideal))) ⟨m, fun _ => 0, g⟩ (fun r => (∀ c : Dev Cert.InOddRefIdeal.nD,
      r.2.mem ((c.tc : Thread Cert.InOddRefIdeal.nD Cert.InOddRefIdeal.τ).loc Cert.InOddRefIdeal.main_arg0) = m ((c.tc : Thread Cert.InOddRefIdeal.nD Cert.InOddRefIdeal.τ).loc Cert.InOddRefIdeal.main_arg0)
      ∧ r.2.mem ((c.tc : Thread Cert.InOddRefIdeal.nD Cert.InOddRefIdeal.τ).loc Cert.InOddRefIdeal.main_arg1) = m ((c.tc : Thread Cert.InOddRefIdeal.nD Cert.InOddRefIdeal.τ).loc Cert.InOddRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ r.2.sem = fun _ => 0)

def quiescent_QkvIdeal_pre_finite_projected [hQkvIdeal : Cert.QkvIdeal.Facts] [hPre_finite_projected : Cert.Pre_finite_projected.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal_finite_projected m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2))
      ∧ r.2.sem = fun _ => 0)

def quiescent_QkvRefIdeal_pre_finite_projected [hQkvRefIdeal : Cert.QkvRefIdeal.Facts] [hPre_finite_projected : Cert.Pre_finite_projected.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal_finite_projected m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2)
      ∧ r.2.mem ((c.tc : Thread Cert.Glu.nD Cert.Glu.τ).loc Cert.Glu.main_arg3) = m ((c.tc : Thread Cert.Glu.nD Cert.Glu.τ).loc Cert.Glu.main_arg3)
      ∧ r.2.mem ((c.tc : Thread Cert.Glu.nD Cert.Glu.τ).loc Cert.Glu.main_arg4) = m ((c.tc : Thread Cert.Glu.nD Cert.Glu.τ).loc Cert.Glu.main_arg4))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
      ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
      ∧ r.2.mem ((c.tc : Thread Cert.GluIdeal.nD Cert.GluIdeal.τ).loc Cert.GluIdeal.main_arg4) = m ((c.tc : Thread Cert.GluIdeal.nD Cert.GluIdeal.τ).loc Cert.GluIdeal.main_arg4))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2)
      ∧ r.2.mem ((c.tc : Thread Cert.GluRefIdeal.nD Cert.GluRefIdeal.τ).loc Cert.GluRefIdeal.main_arg3) = m ((c.tc : Thread Cert.GluRefIdeal.nD Cert.GluRefIdeal.τ).loc Cert.GluRefIdeal.main_arg3)
      ∧ r.2.mem ((c.tc : Thread Cert.GluRefIdeal.nD Cert.GluRefIdeal.τ).loc Cert.GluRefIdeal.main_arg4) = m ((c.tc : Thread Cert.GluRefIdeal.nD Cert.GluRefIdeal.τ).loc Cert.GluRefIdeal.main_arg4))
      ∧ r.2.sem = fun _ => 0)

def quiescent_Rg [hRg : Cert.Rg.Facts] : Prop :=
  ∀ (m : (ℓ : Loc Cert.Rg.nD Cert.Rg.τ Cert.Rg.sig) → Buf (Elt Bits) ℓ) (g : Dev Cert.Rg.nD → PrngReg), Pre_Rg m →
    θ_run (Cert.Rg.defs (F := Bits)) (onTc (τ := Cert.Rg.τ) (Cert.Rg.main (F := Bits))) ⟨m, fun _ => 0, g⟩ (fun r => (∀ c : Dev Cert.Rg.nD,
      r.2.mem ((c.tc : Thread Cert.Rg.nD Cert.Rg.τ).loc Cert.Rg.main_arg0) = m ((c.tc : Thread Cert.Rg.nD Cert.Rg.τ).loc Cert.Rg.main_arg0)
      ∧ r.2.mem ((c.tc : Thread Cert.Rg.nD Cert.Rg.τ).loc Cert.Rg.main_arg1) = m ((c.tc : Thread Cert.Rg.nD Cert.Rg.τ).loc Cert.Rg.main_arg1))
      ∧ r.2.sem = fun _ => 0)

def quiescent_RgIdeal [hRgIdeal : Cert.RgIdeal.Facts] : Prop :=
  ∀ (m : (ℓ : Loc Cert.RgIdeal.nD Cert.RgIdeal.τ Cert.RgIdeal.sig) → Buf (Elt Ideal) ℓ) (g : Dev Cert.RgIdeal.nD → PrngReg), Pre_RgIdeal m →
    θ_run (Cert.RgIdeal.defs (F := Ideal)) (onTc (τ := Cert.RgIdeal.τ) (Cert.RgIdeal.main (F := Ideal))) ⟨m, fun _ => 0, g⟩ (fun r => (∀ c : Dev Cert.RgIdeal.nD,
      r.2.mem ((c.tc : Thread Cert.RgIdeal.nD Cert.RgIdeal.τ).loc Cert.RgIdeal.main_arg0) = m ((c.tc : Thread Cert.RgIdeal.nD Cert.RgIdeal.τ).loc Cert.RgIdeal.main_arg0)
      ∧ r.2.mem ((c.tc : Thread Cert.RgIdeal.nD Cert.RgIdeal.τ).loc Cert.RgIdeal.main_arg1) = m ((c.tc : Thread Cert.RgIdeal.nD Cert.RgIdeal.τ).loc Cert.RgIdeal.main_arg1))
      ∧ r.2.sem = fun _ => 0)

def quiescent_RgRefIdeal [hRgRefIdeal : Cert.RgRefIdeal.Facts] : Prop :=
  ∀ (m : (ℓ : Loc Cert.RgRefIdeal.nD Cert.RgRefIdeal.τ Cert.RgRefIdeal.sig) → Buf (Elt Ideal) ℓ) (g : Dev Cert.RgRefIdeal.nD → PrngReg), Pre_RgRefIdeal m →
    θ_run (Cert.RgRefIdeal.defs (F := Ideal)) (onTc (τ := Cert.RgRefIdeal.τ) (Cert.RgRefIdeal.main (F := Ideal))) ⟨m, fun _ => 0, g⟩ (fun r => (∀ c : Dev Cert.RgRefIdeal.nD,
      r.2.mem ((c.tc : Thread Cert.RgRefIdeal.nD Cert.RgRefIdeal.τ).loc Cert.RgRefIdeal.main_arg0) = m ((c.tc : Thread Cert.RgRefIdeal.nD Cert.RgRefIdeal.τ).loc Cert.RgRefIdeal.main_arg0)
      ∧ r.2.mem ((c.tc : Thread Cert.RgRefIdeal.nD Cert.RgRefIdeal.τ).loc Cert.RgRefIdeal.main_arg1) = m ((c.tc : Thread Cert.RgRefIdeal.nD Cert.RgRefIdeal.τ).loc Cert.RgRefIdeal.main_arg1))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def preserves_Ctx_CtxIdeal : Prop :=
  True

def algebraic_CtxIdeal_CtxRefIdeal_pre_finite_queries_keys [hCtxIdeal : Cert.CtxIdeal.Facts] [hCtxRefIdeal : Cert.CtxRefIdeal.Facts] [hPre_finite_queries_keys : Cert.Pre_finite_queries_keys.Facts] : Prop :=
  ∀ (m : (ℓ : Loc Cert.CtxIdeal.nD Cert.CtxIdeal.τ Cert.CtxIdeal.sig) → Buf (Elt Ideal) ℓ) (g : Dev Cert.CtxIdeal.nD → PrngReg)
    (m' : (ℓ : Loc Cert.CtxRefIdeal.nD Cert.CtxRefIdeal.τ Cert.CtxRefIdeal.sig) → Buf (Elt Ideal) ℓ) (g' : Dev Cert.CtxRefIdeal.nD → PrngReg), Pre_CtxIdeal_finite_queries_keys m →
    (∀ c : Dev Cert.CtxIdeal.nD,
      m' ((c.tc : Thread Cert.CtxRefIdeal.nD Cert.CtxRefIdeal.τ).loc Cert.CtxRefIdeal.main_arg0) = m ((c.tc : Thread Cert.CtxIdeal.nD Cert.CtxIdeal.τ).loc Cert.CtxIdeal.main_arg0)
      ∧ m' ((c.tc : Thread Cert.CtxRefIdeal.nD Cert.CtxRefIdeal.τ).loc Cert.CtxRefIdeal.main_arg1) = m ((c.tc : Thread Cert.CtxIdeal.nD Cert.CtxIdeal.τ).loc Cert.CtxIdeal.main_arg1)
      ∧ m' ((c.tc : Thread Cert.CtxRefIdeal.nD Cert.CtxRefIdeal.τ).loc Cert.CtxRefIdeal.main_arg2) = m ((c.tc : Thread Cert.CtxIdeal.nD Cert.CtxIdeal.τ).loc Cert.CtxIdeal.main_arg2)) →
    ∃ (v0 : (c : Dev Cert.CtxIdeal.nD) → Buf (Elt Ideal) ((c.tc : Thread Cert.CtxIdeal.nD Cert.CtxIdeal.τ).loc Cert.CtxIdeal.main_v0)),
      θ_run (Cert.CtxIdeal.defs (F := Ideal)) (onTc (τ := Cert.CtxIdeal.τ) (Cert.CtxIdeal.main (F := Ideal))) ⟨m, fun _ => 0, g⟩ (fun r => ∀ c : Dev Cert.CtxIdeal.nD,
          r.2.mem ((c.tc : Thread Cert.CtxIdeal.nD Cert.CtxIdeal.τ).loc Cert.CtxIdeal.main_v0) = v0 c
          ∧ r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
          ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
          ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2))
      ∧ θ_run (Cert.CtxRefIdeal.defs (F := Ideal)) (onTc (τ := Cert.CtxRefIdeal.τ) (Cert.CtxRefIdeal.main (F := Ideal))) ⟨m', fun _ => 0, g'⟩ (fun r => ∀ c : Dev Cert.CtxRefIdeal.nD,
          r.2.mem ((c.tc : Thread Cert.CtxRefIdeal.nD Cert.CtxRefIdeal.τ).loc Cert.CtxRefIdeal.main_v26) = v0 c
          ∧ r.2.mem ((c.tc : Thread Cert.CtxRefIdeal.nD Cert.CtxRefIdeal.τ).loc Cert.CtxRefIdeal.main_arg0) = m' ((c.tc : Thread Cert.CtxRefIdeal.nD Cert.CtxRefIdeal.τ).loc Cert.CtxRefIdeal.main_arg0)
          ∧ r.2.mem ((c.tc : Thread Cert.CtxRefIdeal.nD Cert.CtxRefIdeal.τ).loc Cert.CtxRefIdeal.main_arg1) = m' ((c.tc : Thread Cert.CtxRefIdeal.nD Cert.CtxRefIdeal.τ).loc Cert.CtxRefIdeal.main_arg1)
          ∧ r.2.mem ((c.tc : Thread Cert.CtxRefIdeal.nD Cert.CtxRefIdeal.τ).loc Cert.CtxRefIdeal.main_arg2) = m' ((c.tc : Thread Cert.CtxRefIdeal.nD Cert.CtxRefIdeal.τ).loc Cert.CtxRefIdeal.main_arg2))

def preserves_Ffn1_Ffn1Ideal : Prop :=
  True

def algebraic_Ffn1Ideal_Ffn1RefIdeal [hFfn1Ideal : Cert.Ffn1Ideal.Facts] [hFfn1RefIdeal : Cert.Ffn1RefIdeal.Facts] : Prop :=
  ∀ (m : (ℓ : Loc Cert.Ffn1Ideal.nD Cert.Ffn1Ideal.τ Cert.Ffn1Ideal.sig) → Buf (Elt Ideal) ℓ) (g : Dev Cert.Ffn1Ideal.nD → PrngReg)
    (m' : (ℓ : Loc Cert.Ffn1RefIdeal.nD Cert.Ffn1RefIdeal.τ Cert.Ffn1RefIdeal.sig) → Buf (Elt Ideal) ℓ) (g' : Dev Cert.Ffn1RefIdeal.nD → PrngReg), Pre_Ffn1Ideal m →
    (∀ c : Dev Cert.Ffn1Ideal.nD,
      m' ((c.tc : Thread Cert.Ffn1RefIdeal.nD Cert.Ffn1RefIdeal.τ).loc Cert.Ffn1RefIdeal.main_arg0) = m ((c.tc : Thread Cert.Ffn1Ideal.nD Cert.Ffn1Ideal.τ).loc Cert.Ffn1Ideal.main_arg0)
      ∧ m' ((c.tc : Thread Cert.Ffn1RefIdeal.nD Cert.Ffn1RefIdeal.τ).loc Cert.Ffn1RefIdeal.main_arg1) = m ((c.tc : Thread Cert.Ffn1Ideal.nD Cert.Ffn1Ideal.τ).loc Cert.Ffn1Ideal.main_arg1)
      ∧ m' ((c.tc : Thread Cert.Ffn1RefIdeal.nD Cert.Ffn1RefIdeal.τ).loc Cert.Ffn1RefIdeal.main_arg2) = m ((c.tc : Thread Cert.Ffn1Ideal.nD Cert.Ffn1Ideal.τ).loc Cert.Ffn1Ideal.main_arg2)
      ∧ m' ((c.tc : Thread Cert.Ffn1RefIdeal.nD Cert.Ffn1RefIdeal.τ).loc Cert.Ffn1RefIdeal.main_arg3) = m ((c.tc : Thread Cert.Ffn1Ideal.nD Cert.Ffn1Ideal.τ).loc Cert.Ffn1Ideal.main_arg3)
      ∧ m' ((c.tc : Thread Cert.Ffn1RefIdeal.nD Cert.Ffn1RefIdeal.τ).loc Cert.Ffn1RefIdeal.main_arg4) = m ((c.tc : Thread Cert.Ffn1Ideal.nD Cert.Ffn1Ideal.τ).loc Cert.Ffn1Ideal.main_arg4)
      ∧ m' ((c.tc : Thread Cert.Ffn1RefIdeal.nD Cert.Ffn1RefIdeal.τ).loc Cert.Ffn1RefIdeal.main_arg5) = m ((c.tc : Thread Cert.Ffn1Ideal.nD Cert.Ffn1Ideal.τ).loc Cert.Ffn1Ideal.main_arg5)) →
    ∃ (v0 : (c : Dev Cert.Ffn1Ideal.nD) → Buf (Elt Ideal) ((c.tc : Thread Cert.Ffn1Ideal.nD Cert.Ffn1Ideal.τ).loc Cert.Ffn1Ideal.main_v3)),
      θ_run (Cert.Ffn1Ideal.defs (F := Ideal)) (onTc (τ := Cert.Ffn1Ideal.τ) (Cert.Ffn1Ideal.main (F := Ideal))) ⟨m, fun _ => 0, g⟩ (fun r => ∀ c : Dev Cert.Ffn1Ideal.nD,
          r.2.mem ((c.tc : Thread Cert.Ffn1Ideal.nD Cert.Ffn1Ideal.τ).loc Cert.Ffn1Ideal.main_v3) = v0 c
          ∧ r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
          ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
          ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
          ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3)
          ∧ r.2.mem ((c.tc : Thread Cert.Ffn1Ideal.nD Cert.Ffn1Ideal.τ).loc Cert.Ffn1Ideal.main_arg4) = m ((c.tc : Thread Cert.Ffn1Ideal.nD Cert.Ffn1Ideal.τ).loc Cert.Ffn1Ideal.main_arg4)
          ∧ r.2.mem ((c.tc : Thread Cert.Ffn1Ideal.nD Cert.Ffn1Ideal.τ).loc Cert.Ffn1Ideal.main_arg5) = m ((c.tc : Thread Cert.Ffn1Ideal.nD Cert.Ffn1Ideal.τ).loc Cert.Ffn1Ideal.main_arg5))
      ∧ θ_run (Cert.Ffn1RefIdeal.defs (F := Ideal)) (onTc (τ := Cert.Ffn1RefIdeal.τ) (Cert.Ffn1RefIdeal.main (F := Ideal))) ⟨m', fun _ => 0, g'⟩ (fun r => ∀ c : Dev Cert.Ffn1RefIdeal.nD,
          r.2.mem ((c.tc : Thread Cert.Ffn1RefIdeal.nD Cert.Ffn1RefIdeal.τ).loc Cert.Ffn1RefIdeal.main_v47) = v0 c
          ∧ r.2.mem ((c.tc : Thread Cert.Ffn1RefIdeal.nD Cert.Ffn1RefIdeal.τ).loc Cert.Ffn1RefIdeal.main_arg0) = m' ((c.tc : Thread Cert.Ffn1RefIdeal.nD Cert.Ffn1RefIdeal.τ).loc Cert.Ffn1RefIdeal.main_arg0)
          ∧ r.2.mem ((c.tc : Thread Cert.Ffn1RefIdeal.nD Cert.Ffn1RefIdeal.τ).loc Cert.Ffn1RefIdeal.main_arg1) = m' ((c.tc : Thread Cert.Ffn1RefIdeal.nD Cert.Ffn1RefIdeal.τ).loc Cert.Ffn1RefIdeal.main_arg1)
          ∧ r.2.mem ((c.tc : Thread Cert.Ffn1RefIdeal.nD Cert.Ffn1RefIdeal.τ).loc Cert.Ffn1RefIdeal.main_arg2) = m' ((c.tc : Thread Cert.Ffn1RefIdeal.nD Cert.Ffn1RefIdeal.τ).loc Cert.Ffn1RefIdeal.main_arg2)
          ∧ r.2.mem ((c.tc : Thread Cert.Ffn1RefIdeal.nD Cert.Ffn1RefIdeal.τ).loc Cert.Ffn1RefIdeal.main_arg3) = m' ((c.tc : Thread Cert.Ffn1RefIdeal.nD Cert.Ffn1RefIdeal.τ).loc Cert.Ffn1RefIdeal.main_arg3)
          ∧ r.2.mem ((c.tc : Thread Cert.Ffn1RefIdeal.nD Cert.Ffn1RefIdeal.τ).loc Cert.Ffn1RefIdeal.main_arg4) = m' ((c.tc : Thread Cert.Ffn1RefIdeal.nD Cert.Ffn1RefIdeal.τ).loc Cert.Ffn1RefIdeal.main_arg4)
          ∧ r.2.mem ((c.tc : Thread Cert.Ffn1RefIdeal.nD Cert.Ffn1RefIdeal.τ).loc Cert.Ffn1RefIdeal.main_arg5) = m' ((c.tc : Thread Cert.Ffn1RefIdeal.nD Cert.Ffn1RefIdeal.τ).loc Cert.Ffn1RefIdeal.main_arg5))

def preserves_Ffn0_Ffn0Ideal : Prop :=
  True

def algebraic_Ffn0Ideal_Ffn0RefIdeal [hFfn0Ideal : Cert.Ffn0Ideal.Facts] [hFfn0RefIdeal : Cert.Ffn0RefIdeal.Facts] : Prop :=
  ∀ (m : (ℓ : Loc Cert.Ffn0Ideal.nD Cert.Ffn0Ideal.τ Cert.Ffn0Ideal.sig) → Buf (Elt Ideal) ℓ) (g : Dev Cert.Ffn0Ideal.nD → PrngReg)
    (m' : (ℓ : Loc Cert.Ffn0RefIdeal.nD Cert.Ffn0RefIdeal.τ Cert.Ffn0RefIdeal.sig) → Buf (Elt Ideal) ℓ) (g' : Dev Cert.Ffn0RefIdeal.nD → PrngReg), Pre_Ffn0Ideal m →
    (∀ c : Dev Cert.Ffn0Ideal.nD,
      m' ((c.tc : Thread Cert.Ffn0RefIdeal.nD Cert.Ffn0RefIdeal.τ).loc Cert.Ffn0RefIdeal.main_arg0) = m ((c.tc : Thread Cert.Ffn0Ideal.nD Cert.Ffn0Ideal.τ).loc Cert.Ffn0Ideal.main_arg0)
      ∧ m' ((c.tc : Thread Cert.Ffn0RefIdeal.nD Cert.Ffn0RefIdeal.τ).loc Cert.Ffn0RefIdeal.main_arg1) = m ((c.tc : Thread Cert.Ffn0Ideal.nD Cert.Ffn0Ideal.τ).loc Cert.Ffn0Ideal.main_arg1)
      ∧ m' ((c.tc : Thread Cert.Ffn0RefIdeal.nD Cert.Ffn0RefIdeal.τ).loc Cert.Ffn0RefIdeal.main_arg2) = m ((c.tc : Thread Cert.Ffn0Ideal.nD Cert.Ffn0Ideal.τ).loc Cert.Ffn0Ideal.main_arg2)
      ∧ m' ((c.tc : Thread Cert.Ffn0RefIdeal.nD Cert.Ffn0RefIdeal.τ).loc Cert.Ffn0RefIdeal.main_arg3) = m ((c.tc : Thread Cert.Ffn0Ideal.nD Cert.Ffn0Ideal.τ).loc Cert.Ffn0Ideal.main_arg3)
      ∧ m' ((c.tc : Thread Cert.Ffn0RefIdeal.nD Cert.Ffn0RefIdeal.τ).loc Cert.Ffn0RefIdeal.main_arg4) = m ((c.tc : Thread Cert.Ffn0Ideal.nD Cert.Ffn0Ideal.τ).loc Cert.Ffn0Ideal.main_arg4)
      ∧ m' ((c.tc : Thread Cert.Ffn0RefIdeal.nD Cert.Ffn0RefIdeal.τ).loc Cert.Ffn0RefIdeal.main_arg5) = m ((c.tc : Thread Cert.Ffn0Ideal.nD Cert.Ffn0Ideal.τ).loc Cert.Ffn0Ideal.main_arg5)) →
    ∃ (v0 : (c : Dev Cert.Ffn0Ideal.nD) → Buf (Elt Ideal) ((c.tc : Thread Cert.Ffn0Ideal.nD Cert.Ffn0Ideal.τ).loc Cert.Ffn0Ideal.main_v3_0)) (v1 : (c : Dev Cert.Ffn0Ideal.nD) → Buf (Elt Ideal) ((c.tc : Thread Cert.Ffn0Ideal.nD Cert.Ffn0Ideal.τ).loc Cert.Ffn0Ideal.main_v3_1)),
      θ_run (Cert.Ffn0Ideal.defs (F := Ideal)) (onTc (τ := Cert.Ffn0Ideal.τ) (Cert.Ffn0Ideal.main (F := Ideal))) ⟨m, fun _ => 0, g⟩ (fun r => ∀ c : Dev Cert.Ffn0Ideal.nD,
          r.2.mem ((c.tc : Thread Cert.Ffn0Ideal.nD Cert.Ffn0Ideal.τ).loc Cert.Ffn0Ideal.main_v3_0) = v0 c
          ∧ r.2.mem ((c.tc : Thread Cert.Ffn0Ideal.nD Cert.Ffn0Ideal.τ).loc Cert.Ffn0Ideal.main_v3_1) = v1 c
          ∧ r.2.mem ((c.tc : Thread Cert.Ffn0Ideal.nD Cert.Ffn0Ideal.τ).loc Cert.Ffn0Ideal.main_arg0) = m ((c.tc : Thread Cert.Ffn0Ideal.nD Cert.Ffn0Ideal.τ).loc Cert.Ffn0Ideal.main_arg0)
          ∧ r.2.mem ((c.tc : Thread Cert.Ffn0Ideal.nD Cert.Ffn0Ideal.τ).loc Cert.Ffn0Ideal.main_arg1) = m ((c.tc : Thread Cert.Ffn0Ideal.nD Cert.Ffn0Ideal.τ).loc Cert.Ffn0Ideal.main_arg1)
          ∧ r.2.mem ((c.tc : Thread Cert.Ffn0Ideal.nD Cert.Ffn0Ideal.τ).loc Cert.Ffn0Ideal.main_arg2) = m ((c.tc : Thread Cert.Ffn0Ideal.nD Cert.Ffn0Ideal.τ).loc Cert.Ffn0Ideal.main_arg2)
          ∧ r.2.mem ((c.tc : Thread Cert.Ffn0Ideal.nD Cert.Ffn0Ideal.τ).loc Cert.Ffn0Ideal.main_arg3) = m ((c.tc : Thread Cert.Ffn0Ideal.nD Cert.Ffn0Ideal.τ).loc Cert.Ffn0Ideal.main_arg3)
          ∧ r.2.mem ((c.tc : Thread Cert.Ffn0Ideal.nD Cert.Ffn0Ideal.τ).loc Cert.Ffn0Ideal.main_arg4) = m ((c.tc : Thread Cert.Ffn0Ideal.nD Cert.Ffn0Ideal.τ).loc Cert.Ffn0Ideal.main_arg4)
          ∧ r.2.mem ((c.tc : Thread Cert.Ffn0Ideal.nD Cert.Ffn0Ideal.τ).loc Cert.Ffn0Ideal.main_arg5) = m ((c.tc : Thread Cert.Ffn0Ideal.nD Cert.Ffn0Ideal.τ).loc Cert.Ffn0Ideal.main_arg5))
      ∧ θ_run (Cert.Ffn0RefIdeal.defs (F := Ideal)) (onTc (τ := Cert.Ffn0RefIdeal.τ) (Cert.Ffn0RefIdeal.main (F := Ideal))) ⟨m', fun _ => 0, g'⟩ (fun r => ∀ c : Dev Cert.Ffn0RefIdeal.nD,
          r.2.mem ((c.tc : Thread Cert.Ffn0RefIdeal.nD Cert.Ffn0RefIdeal.τ).loc Cert.Ffn0RefIdeal.main_v47) = v0 c
          ∧ r.2.mem ((c.tc : Thread Cert.Ffn0RefIdeal.nD Cert.Ffn0RefIdeal.τ).loc Cert.Ffn0RefIdeal.main_v71) = v1 c
          ∧ r.2.mem ((c.tc : Thread Cert.Ffn0RefIdeal.nD Cert.Ffn0RefIdeal.τ).loc Cert.Ffn0RefIdeal.main_arg0) = m' ((c.tc : Thread Cert.Ffn0RefIdeal.nD Cert.Ffn0RefIdeal.τ).loc Cert.Ffn0RefIdeal.main_arg0)
          ∧ r.2.mem ((c.tc : Thread Cert.Ffn0RefIdeal.nD Cert.Ffn0RefIdeal.τ).loc Cert.Ffn0RefIdeal.main_arg1) = m' ((c.tc : Thread Cert.Ffn0RefIdeal.nD Cert.Ffn0RefIdeal.τ).loc Cert.Ffn0RefIdeal.main_arg1)
          ∧ r.2.mem ((c.tc : Thread Cert.Ffn0RefIdeal.nD Cert.Ffn0RefIdeal.τ).loc Cert.Ffn0RefIdeal.main_arg2) = m' ((c.tc : Thread Cert.Ffn0RefIdeal.nD Cert.Ffn0RefIdeal.τ).loc Cert.Ffn0RefIdeal.main_arg2)
          ∧ r.2.mem ((c.tc : Thread Cert.Ffn0RefIdeal.nD Cert.Ffn0RefIdeal.τ).loc Cert.Ffn0RefIdeal.main_arg3) = m' ((c.tc : Thread Cert.Ffn0RefIdeal.nD Cert.Ffn0RefIdeal.τ).loc Cert.Ffn0RefIdeal.main_arg3)
          ∧ r.2.mem ((c.tc : Thread Cert.Ffn0RefIdeal.nD Cert.Ffn0RefIdeal.τ).loc Cert.Ffn0RefIdeal.main_arg4) = m' ((c.tc : Thread Cert.Ffn0RefIdeal.nD Cert.Ffn0RefIdeal.τ).loc Cert.Ffn0RefIdeal.main_arg4)
          ∧ r.2.mem ((c.tc : Thread Cert.Ffn0RefIdeal.nD Cert.Ffn0RefIdeal.τ).loc Cert.Ffn0RefIdeal.main_arg5) = m' ((c.tc : Thread Cert.Ffn0RefIdeal.nD Cert.Ffn0RefIdeal.τ).loc Cert.Ffn0RefIdeal.main_arg5))

def preserves_InEven_InEvenIdeal : Prop :=
  True

def algebraic_InEvenIdeal_InEvenRefIdeal [hInEvenIdeal : Cert.InEvenIdeal.Facts] [hInEvenRefIdeal : Cert.InEvenRefIdeal.Facts] : Prop :=
  ∀ (m : (ℓ : Loc Cert.InEvenIdeal.nD Cert.InEvenIdeal.τ Cert.InEvenIdeal.sig) → Buf (Elt Ideal) ℓ) (g : Dev Cert.InEvenIdeal.nD → PrngReg)
    (m' : (ℓ : Loc Cert.InEvenRefIdeal.nD Cert.InEvenRefIdeal.τ Cert.InEvenRefIdeal.sig) → Buf (Elt Ideal) ℓ) (g' : Dev Cert.InEvenRefIdeal.nD → PrngReg), Pre_InEvenIdeal m →
    (∀ c : Dev Cert.InEvenIdeal.nD,
      m' ((c.tc : Thread Cert.InEvenRefIdeal.nD Cert.InEvenRefIdeal.τ).loc Cert.InEvenRefIdeal.main_arg0) = m ((c.tc : Thread Cert.InEvenIdeal.nD Cert.InEvenIdeal.τ).loc Cert.InEvenIdeal.main_arg0)
      ∧ m' ((c.tc : Thread Cert.InEvenRefIdeal.nD Cert.InEvenRefIdeal.τ).loc Cert.InEvenRefIdeal.main_arg1) = m ((c.tc : Thread Cert.InEvenIdeal.nD Cert.InEvenIdeal.τ).loc Cert.InEvenIdeal.main_arg1)) →
    ∃ (v0 : (c : Dev Cert.InEvenIdeal.nD) → Buf (Elt Ideal) ((c.tc : Thread Cert.InEvenIdeal.nD Cert.InEvenIdeal.τ).loc Cert.InEvenIdeal.main_v1)),
      θ_run (Cert.InEvenIdeal.defs (F := Ideal)) (onTc (τ := Cert.InEvenIdeal.τ) (Cert.InEvenIdeal.main (F := Ideal))) ⟨m, fun _ => 0, g⟩ (fun r => ∀ c : Dev Cert.InEvenIdeal.nD,
          r.2.mem ((c.tc : Thread Cert.InEvenIdeal.nD Cert.InEvenIdeal.τ).loc Cert.InEvenIdeal.main_v1) = v0 c
          ∧ r.2.mem ((c.tc : Thread Cert.InEvenIdeal.nD Cert.InEvenIdeal.τ).loc Cert.InEvenIdeal.main_arg0) = m ((c.tc : Thread Cert.InEvenIdeal.nD Cert.InEvenIdeal.τ).loc Cert.InEvenIdeal.main_arg0)
          ∧ r.2.mem ((c.tc : Thread Cert.InEvenIdeal.nD Cert.InEvenIdeal.τ).loc Cert.InEvenIdeal.main_arg1) = m ((c.tc : Thread Cert.InEvenIdeal.nD Cert.InEvenIdeal.τ).loc Cert.InEvenIdeal.main_arg1))
      ∧ θ_run (Cert.InEvenRefIdeal.defs (F := Ideal)) (onTc (τ := Cert.InEvenRefIdeal.τ) (Cert.InEvenRefIdeal.main (F := Ideal))) ⟨m', fun _ => 0, g'⟩ (fun r => ∀ c : Dev Cert.InEvenRefIdeal.nD,
          r.2.mem ((c.tc : Thread Cert.InEvenRefIdeal.nD Cert.InEvenRefIdeal.τ).loc Cert.InEvenRefIdeal.main_v3) = v0 c
          ∧ r.2.mem ((c.tc : Thread Cert.InEvenRefIdeal.nD Cert.InEvenRefIdeal.τ).loc Cert.InEvenRefIdeal.main_arg0) = m' ((c.tc : Thread Cert.InEvenRefIdeal.nD Cert.InEvenRefIdeal.τ).loc Cert.InEvenRefIdeal.main_arg0)
          ∧ r.2.mem ((c.tc : Thread Cert.InEvenRefIdeal.nD Cert.InEvenRefIdeal.τ).loc Cert.InEvenRefIdeal.main_arg1) = m' ((c.tc : Thread Cert.InEvenRefIdeal.nD Cert.InEvenRefIdeal.τ).loc Cert.InEvenRefIdeal.main_arg1))

def preserves_InOdd_InOddIdeal : Prop :=
  True

def algebraic_InOddIdeal_InOddRefIdeal [hInOddIdeal : Cert.InOddIdeal.Facts] [hInOddRefIdeal : Cert.InOddRefIdeal.Facts] : Prop :=
  ∀ (m : (ℓ : Loc Cert.InOddIdeal.nD Cert.InOddIdeal.τ Cert.InOddIdeal.sig) → Buf (Elt Ideal) ℓ) (g : Dev Cert.InOddIdeal.nD → PrngReg)
    (m' : (ℓ : Loc Cert.InOddRefIdeal.nD Cert.InOddRefIdeal.τ Cert.InOddRefIdeal.sig) → Buf (Elt Ideal) ℓ) (g' : Dev Cert.InOddRefIdeal.nD → PrngReg), Pre_InOddIdeal m →
    (∀ c : Dev Cert.InOddIdeal.nD,
      m' ((c.tc : Thread Cert.InOddRefIdeal.nD Cert.InOddRefIdeal.τ).loc Cert.InOddRefIdeal.main_arg0) = m ((c.tc : Thread Cert.InOddIdeal.nD Cert.InOddIdeal.τ).loc Cert.InOddIdeal.main_arg0)
      ∧ m' ((c.tc : Thread Cert.InOddRefIdeal.nD Cert.InOddRefIdeal.τ).loc Cert.InOddRefIdeal.main_arg1) = m ((c.tc : Thread Cert.InOddIdeal.nD Cert.InOddIdeal.τ).loc Cert.InOddIdeal.main_arg1)) →
    ∃ (v0 : (c : Dev Cert.InOddIdeal.nD) → Buf (Elt Ideal) ((c.tc : Thread Cert.InOddIdeal.nD Cert.InOddIdeal.τ).loc Cert.InOddIdeal.main_v1)),
      θ_run (Cert.InOddIdeal.defs (F := Ideal)) (onTc (τ := Cert.InOddIdeal.τ) (Cert.InOddIdeal.main (F := Ideal))) ⟨m, fun _ => 0, g⟩ (fun r => ∀ c : Dev Cert.InOddIdeal.nD,
          r.2.mem ((c.tc : Thread Cert.InOddIdeal.nD Cert.InOddIdeal.τ).loc Cert.InOddIdeal.main_v1) = v0 c
          ∧ r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
          ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1))
      ∧ θ_run (Cert.InOddRefIdeal.defs (F := Ideal)) (onTc (τ := Cert.InOddRefIdeal.τ) (Cert.InOddRefIdeal.main (F := Ideal))) ⟨m', fun _ => 0, g'⟩ (fun r => ∀ c : Dev Cert.InOddRefIdeal.nD,
          r.2.mem ((c.tc : Thread Cert.InOddRefIdeal.nD Cert.InOddRefIdeal.τ).loc Cert.InOddRefIdeal.main_v3) = v0 c
          ∧ r.2.mem ((c.tc : Thread Cert.InOddRefIdeal.nD Cert.InOddRefIdeal.τ).loc Cert.InOddRefIdeal.main_arg0) = m' ((c.tc : Thread Cert.InOddRefIdeal.nD Cert.InOddRefIdeal.τ).loc Cert.InOddRefIdeal.main_arg0)
          ∧ r.2.mem ((c.tc : Thread Cert.InOddRefIdeal.nD Cert.InOddRefIdeal.τ).loc Cert.InOddRefIdeal.main_arg1) = m' ((c.tc : Thread Cert.InOddRefIdeal.nD Cert.InOddRefIdeal.τ).loc Cert.InOddRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)) →
    ∃ (v0 : (c : Dev Cert.OutIdeal.nD) → Buf (Elt Ideal) ((c.tc : Thread Cert.OutIdeal.nD Cert.OutIdeal.τ).loc Cert.OutIdeal.main_v1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v16) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6))

def preserves_Qkv_QkvIdeal : Prop :=
  True

def algebraic_QkvIdeal_QkvRefIdeal_pre_finite_projected [hQkvIdeal : Cert.QkvIdeal.Facts] [hQkvRefIdeal : Cert.QkvRefIdeal.Facts] [hPre_finite_projected : Cert.Pre_finite_projected.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal_finite_projected m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)) →
    ∃ (v0 : (c : Dev Cert.QkvIdeal.nD) → Buf (Elt Ideal) ((c.tc : Thread Cert.QkvIdeal.nD Cert.QkvIdeal.τ).loc Cert.QkvIdeal.main_v21_0)) (v1 : (c : Dev Cert.QkvIdeal.nD) → Buf (Elt Ideal) ((c.tc : Thread Cert.QkvIdeal.nD Cert.QkvIdeal.τ).loc Cert.QkvIdeal.main_v21_1)) (v2 : (c : Dev Cert.QkvIdeal.nD) → Buf (Elt Ideal) ((c.tc : Thread Cert.QkvIdeal.nD Cert.QkvIdeal.τ).loc Cert.QkvIdeal.main_v21_2)) (v3 : (c : Dev Cert.QkvIdeal.nD) → Buf (Elt Ideal) ((c.tc : Thread Cert.QkvIdeal.nD Cert.QkvIdeal.τ).loc Cert.QkvIdeal.main_v21_3)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v21_0) = v0 c
          ∧ r.2.mem ((c.tc : Thread Cert.QkvIdeal.nD Cert.QkvIdeal.τ).loc Cert.QkvIdeal.main_v21_1) = v1 c
          ∧ r.2.mem ((c.tc : Thread Cert.QkvIdeal.nD Cert.QkvIdeal.τ).loc Cert.QkvIdeal.main_v21_2) = v2 c
          ∧ r.2.mem ((c.tc : Thread Cert.QkvIdeal.nD Cert.QkvIdeal.τ).loc Cert.QkvIdeal.main_v21_3) = v3 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v38) = v0 c
          ∧ r.2.mem ((c.tc : Thread Cert.QkvRefIdeal.nD Cert.QkvRefIdeal.τ).loc Cert.QkvRefIdeal.main_v39) = v1 c
          ∧ r.2.mem ((c.tc : Thread Cert.QkvRefIdeal.nD Cert.QkvRefIdeal.τ).loc Cert.QkvRefIdeal.main_v43) = v2 c
          ∧ r.2.mem ((c.tc : Thread Cert.QkvRefIdeal.nD Cert.QkvRefIdeal.τ).loc Cert.QkvRefIdeal.main_v37) = v3 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)
      ∧ m' ((c.tc : Thread Cert.GluRefIdeal.nD Cert.GluRefIdeal.τ).loc Cert.GluRefIdeal.main_arg3) = m ((c.tc : Thread Cert.GluIdeal.nD Cert.GluIdeal.τ).loc Cert.GluIdeal.main_arg3)
      ∧ m' ((c.tc : Thread Cert.GluRefIdeal.nD Cert.GluRefIdeal.τ).loc Cert.GluRefIdeal.main_arg4) = m ((c.tc : Thread Cert.GluIdeal.nD Cert.GluIdeal.τ).loc Cert.GluIdeal.main_arg4)) →
    ∃ (v0 : (c : Dev Cert.GluIdeal.nD) → Buf (Elt Ideal) ((c.tc : Thread Cert.GluIdeal.nD Cert.GluIdeal.τ).loc Cert.GluIdeal.main_v10)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v10) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
          ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
          ∧ r.2.mem ((c.tc : Thread Cert.GluIdeal.nD Cert.GluIdeal.τ).loc Cert.GluIdeal.main_arg4) = m ((c.tc : Thread Cert.GluIdeal.nD Cert.GluIdeal.τ).loc Cert.GluIdeal.main_arg4))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v41) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2)
          ∧ r.2.mem ((c.tc : Thread Cert.GluRefIdeal.nD Cert.GluRefIdeal.τ).loc Cert.GluRefIdeal.main_arg3) = m' ((c.tc : Thread Cert.GluRefIdeal.nD Cert.GluRefIdeal.τ).loc Cert.GluRefIdeal.main_arg3)
          ∧ r.2.mem ((c.tc : Thread Cert.GluRefIdeal.nD Cert.GluRefIdeal.τ).loc Cert.GluRefIdeal.main_arg4) = m' ((c.tc : Thread Cert.GluRefIdeal.nD Cert.GluRefIdeal.τ).loc Cert.GluRefIdeal.main_arg4))

def preserves_Rg_RgIdeal : Prop :=
  True

def algebraic_RgIdeal_RgRefIdeal [hRgIdeal : Cert.RgIdeal.Facts] [hRgRefIdeal : Cert.RgRefIdeal.Facts] : Prop :=
  ∀ (m : (ℓ : Loc Cert.RgIdeal.nD Cert.RgIdeal.τ Cert.RgIdeal.sig) → Buf (Elt Ideal) ℓ) (g : Dev Cert.RgIdeal.nD → PrngReg)
    (m' : (ℓ : Loc Cert.RgRefIdeal.nD Cert.RgRefIdeal.τ Cert.RgRefIdeal.sig) → Buf (Elt Ideal) ℓ) (g' : Dev Cert.RgRefIdeal.nD → PrngReg), Pre_RgIdeal m →
    (∀ c : Dev Cert.RgIdeal.nD,
      m' ((c.tc : Thread Cert.RgRefIdeal.nD Cert.RgRefIdeal.τ).loc Cert.RgRefIdeal.main_arg0) = m ((c.tc : Thread Cert.RgIdeal.nD Cert.RgIdeal.τ).loc Cert.RgIdeal.main_arg0)
      ∧ m' ((c.tc : Thread Cert.RgRefIdeal.nD Cert.RgRefIdeal.τ).loc Cert.RgRefIdeal.main_arg1) = m ((c.tc : Thread Cert.RgIdeal.nD Cert.RgIdeal.τ).loc Cert.RgIdeal.main_arg1)) →
    ∃ (v0 : (c : Dev Cert.RgIdeal.nD) → Buf (Elt Ideal) ((c.tc : Thread Cert.RgIdeal.nD Cert.RgIdeal.τ).loc Cert.RgIdeal.main_v0)),
      θ_run (Cert.RgIdeal.defs (F := Ideal)) (onTc (τ := Cert.RgIdeal.τ) (Cert.RgIdeal.main (F := Ideal))) ⟨m, fun _ => 0, g⟩ (fun r => ∀ c : Dev Cert.RgIdeal.nD,
          r.2.mem ((c.tc : Thread Cert.RgIdeal.nD Cert.RgIdeal.τ).loc Cert.RgIdeal.main_v0) = v0 c
          ∧ r.2.mem ((c.tc : Thread Cert.RgIdeal.nD Cert.RgIdeal.τ).loc Cert.RgIdeal.main_arg0) = m ((c.tc : Thread Cert.RgIdeal.nD Cert.RgIdeal.τ).loc Cert.RgIdeal.main_arg0)
          ∧ r.2.mem ((c.tc : Thread Cert.RgIdeal.nD Cert.RgIdeal.τ).loc Cert.RgIdeal.main_arg1) = m ((c.tc : Thread Cert.RgIdeal.nD Cert.RgIdeal.τ).loc Cert.RgIdeal.main_arg1))
      ∧ θ_run (Cert.RgRefIdeal.defs (F := Ideal)) (onTc (τ := Cert.RgRefIdeal.τ) (Cert.RgRefIdeal.main (F := Ideal))) ⟨m', fun _ => 0, g'⟩ (fun r => ∀ c : Dev Cert.RgRefIdeal.nD,
          r.2.mem ((c.tc : Thread Cert.RgRefIdeal.nD Cert.RgRefIdeal.τ).loc Cert.RgRefIdeal.main_v20) = v0 c
          ∧ r.2.mem ((c.tc : Thread Cert.RgRefIdeal.nD Cert.RgRefIdeal.τ).loc Cert.RgRefIdeal.main_arg0) = m' ((c.tc : Thread Cert.RgRefIdeal.nD Cert.RgRefIdeal.τ).loc Cert.RgRefIdeal.main_arg0)
          ∧ r.2.mem ((c.tc : Thread Cert.RgRefIdeal.nD Cert.RgRefIdeal.τ).loc Cert.RgRefIdeal.main_arg1) = m' ((c.tc : Thread Cert.RgRefIdeal.nD Cert.RgRefIdeal.τ).loc Cert.RgRefIdeal.main_arg1))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v5) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def Claim : Prop :=
  ∃ (hCtx : Cert.Ctx.Facts) (hCtxIdeal : Cert.CtxIdeal.Facts) (hCtxRefIdeal : Cert.CtxRefIdeal.Facts) (hFfn1 : Cert.Ffn1.Facts) (hFfn1Ideal : Cert.Ffn1Ideal.Facts) (hFfn1RefIdeal : Cert.Ffn1RefIdeal.Facts) (hFfn0 : Cert.Ffn0.Facts) (hFfn0Ideal : Cert.Ffn0Ideal.Facts) (hFfn0RefIdeal : Cert.Ffn0RefIdeal.Facts) (hInEven : Cert.InEven.Facts) (hInEvenIdeal : Cert.InEvenIdeal.Facts) (hInEvenRefIdeal : Cert.InEvenRefIdeal.Facts) (hInOdd : Cert.InOdd.Facts) (hInOddIdeal : Cert.InOddIdeal.Facts) (hInOddRefIdeal : Cert.InOddRefIdeal.Facts) (hOut : Cert.Out.Facts) (hOutIdeal : Cert.OutIdeal.Facts) (hOutRefIdeal : Cert.OutRefIdeal.Facts) (hQkv : Cert.Qkv.Facts) (hQkvIdeal : Cert.QkvIdeal.Facts) (hQkvRefIdeal : Cert.QkvRefIdeal.Facts) (hGlu : Cert.Glu.Facts) (hGluIdeal : Cert.GluIdeal.Facts) (hGluRefIdeal : Cert.GluRefIdeal.Facts) (hRg : Cert.Rg.Facts) (hRgIdeal : Cert.RgIdeal.Facts) (hRgRefIdeal : Cert.RgRefIdeal.Facts) (hAda : Cert.Ada.Facts) (hAdaIdeal : Cert.AdaIdeal.Facts) (hAdaRefIdeal : Cert.AdaRefIdeal.Facts) (hPre_finite_queries_keys : Cert.Pre_finite_queries_keys.Facts) (hPre_finite_projected : Cert.Pre_finite_projected.Facts),
    quiescent_Ctx (hCtx := hCtx)
    ∧ quiescent_CtxIdeal (hCtxIdeal := hCtxIdeal)
    ∧ quiescent_CtxIdeal_pre_finite_queries_keys (hCtxIdeal := hCtxIdeal) (hPre_finite_queries_keys := hPre_finite_queries_keys)
    ∧ quiescent_CtxRefIdeal (hCtxRefIdeal := hCtxRefIdeal)
    ∧ quiescent_CtxRefIdeal_pre_finite_queries_keys (hCtxRefIdeal := hCtxRefIdeal) (hPre_finite_queries_keys := hPre_finite_queries_keys)
    ∧ quiescent_Ffn1 (hFfn1 := hFfn1)
    ∧ quiescent_Ffn1Ideal (hFfn1Ideal := hFfn1Ideal)
    ∧ quiescent_Ffn1RefIdeal (hFfn1RefIdeal := hFfn1RefIdeal)
    ∧ quiescent_Ffn0 (hFfn0 := hFfn0)
    ∧ quiescent_Ffn0Ideal (hFfn0Ideal := hFfn0Ideal)
    ∧ quiescent_Ffn0RefIdeal (hFfn0RefIdeal := hFfn0RefIdeal)
    ∧ quiescent_InEven (hInEven := hInEven)
    ∧ quiescent_InEvenIdeal (hInEvenIdeal := hInEvenIdeal)
    ∧ quiescent_InEvenRefIdeal (hInEvenRefIdeal := hInEvenRefIdeal)
    ∧ quiescent_InOdd (hInOdd := hInOdd)
    ∧ quiescent_InOddIdeal (hInOddIdeal := hInOddIdeal)
    ∧ quiescent_InOddRefIdeal (hInOddRefIdeal := hInOddRefIdeal)
    ∧ quiescent_Out (hOut := hOut)
    ∧ quiescent_OutIdeal (hOutIdeal := hOutIdeal)
    ∧ quiescent_OutRefIdeal (hOutRefIdeal := hOutRefIdeal)
    ∧ quiescent_Qkv (hQkv := hQkv)
    ∧ quiescent_QkvIdeal (hQkvIdeal := hQkvIdeal)
    ∧ quiescent_QkvIdeal_pre_finite_projected (hQkvIdeal := hQkvIdeal) (hPre_finite_projected := hPre_finite_projected)
    ∧ quiescent_QkvRefIdeal (hQkvRefIdeal := hQkvRefIdeal)
    ∧ quiescent_QkvRefIdeal_pre_finite_projected (hQkvRefIdeal := hQkvRefIdeal) (hPre_finite_projected := hPre_finite_projected)
    ∧ quiescent_Glu (hGlu := hGlu)
    ∧ quiescent_GluIdeal (hGluIdeal := hGluIdeal)
    ∧ quiescent_GluRefIdeal (hGluRefIdeal := hGluRefIdeal)
    ∧ quiescent_Rg (hRg := hRg)
    ∧ quiescent_RgIdeal (hRgIdeal := hRgIdeal)
    ∧ quiescent_RgRefIdeal (hRgRefIdeal := hRgRefIdeal)
    ∧ quiescent_Ada (hAda := hAda)
    ∧ quiescent_AdaIdeal (hAdaIdeal := hAdaIdeal)
    ∧ quiescent_AdaRefIdeal (hAdaRefIdeal := hAdaRefIdeal)
    ∧ preserves_Ctx_CtxIdeal
    ∧ algebraic_CtxIdeal_CtxRefIdeal_pre_finite_queries_keys (hCtxIdeal := hCtxIdeal) (hCtxRefIdeal := hCtxRefIdeal) (hPre_finite_queries_keys := hPre_finite_queries_keys)
    ∧ preserves_Ffn1_Ffn1Ideal
    ∧ algebraic_Ffn1Ideal_Ffn1RefIdeal (hFfn1Ideal := hFfn1Ideal) (hFfn1RefIdeal := hFfn1RefIdeal)
    ∧ preserves_Ffn0_Ffn0Ideal
    ∧ algebraic_Ffn0Ideal_Ffn0RefIdeal (hFfn0Ideal := hFfn0Ideal) (hFfn0RefIdeal := hFfn0RefIdeal)
    ∧ preserves_InEven_InEvenIdeal
    ∧ algebraic_InEvenIdeal_InEvenRefIdeal (hInEvenIdeal := hInEvenIdeal) (hInEvenRefIdeal := hInEvenRefIdeal)
    ∧ preserves_InOdd_InOddIdeal
    ∧ algebraic_InOddIdeal_InOddRefIdeal (hInOddIdeal := hInOddIdeal) (hInOddRefIdeal := hInOddRefIdeal)
    ∧ preserves_Out_OutIdeal
    ∧ algebraic_OutIdeal_OutRefIdeal (hOutIdeal := hOutIdeal) (hOutRefIdeal := hOutRefIdeal)
    ∧ preserves_Qkv_QkvIdeal
    ∧ algebraic_QkvIdeal_QkvRefIdeal_pre_finite_projected (hQkvIdeal := hQkvIdeal) (hQkvRefIdeal := hQkvRefIdeal) (hPre_finite_projected := hPre_finite_projected)
    ∧ preserves_Glu_GluIdeal
    ∧ algebraic_GluIdeal_GluRefIdeal (hGluIdeal := hGluIdeal) (hGluRefIdeal := hGluRefIdeal)
    ∧ preserves_Rg_RgIdeal
    ∧ algebraic_RgIdeal_RgRefIdeal (hRgIdeal := hRgIdeal) (hRgRefIdeal := hRgRefIdeal)
    ∧ preserves_Ada_AdaIdeal
    ∧ algebraic_AdaIdeal_AdaRefIdeal (hAdaIdeal := hAdaIdeal) (hAdaRefIdeal := hAdaRefIdeal)
-- ==== Pre_finite_projected.lean ====
abbrev S16384x5120 : Shape := ⟨2, ![16384, 5120]⟩
abbrev S2x64 : Shape := ⟨2, ![2, 64]⟩
abbrev S16384x2048 : Shape := ⟨2, ![16384, 2048]⟩
abbrev S_ : Shape := ⟨0, ![]⟩

class Facts : Prop where
  slices_S16384x5120_S16384x2048_0_2048 : S16384x5120.Slices ![0, 2048] S16384x2048
  bcast_S_S16384x2048 : S_.BroadcastsInDim S16384x2048 (![] : Fin 0 → Fin S16384x2048.rank)

variable [Facts]

def fn {F : FTy → Type} [FloatOps F] (main_arg0 : FVec F S16384x5120 .f32) (main_arg1 : FVec F S2x64 .f32) (main_arg2 : FVec F S2x64 .f32) : IVec S16384x2048 1 :=
  let main_v0 : FVec F S16384x2048 .f32 := (extractStridedSlice S16384x2048 ![0, 2048] · slices_S16384x5120_S16384x2048_0_2048) main_arg0
  let main_v1 : FVec F S16384x2048 .f32 := Host.absf main_v0
  let main_cst : FVec F S_ .f32 := constant S_ .f32 0x7F800000#32
  let main_v2 : FVec F S16384x2048 .f32 := broadcastInDim S16384x2048 ![] bcast_S_S16384x2048 main_cst
  let main_v3 : IVec S16384x2048 1 := cmpf .olt main_v1 main_v2
  main_v3
-- ==== Pre_finite_queries_keys.lean ====
abbrev S16384x1024 : Shape := ⟨2, ![16384, 1024]⟩
abbrev S_ : Shape := ⟨0, ![]⟩

class Facts : Prop where
  bcast_S_S16384x1024 : S_.BroadcastsInDim S16384x1024 (![] : Fin 0 → Fin S16384x1024.rank)

variable [Facts]

def fn {F : FTy → Type} [FloatOps F] (main_arg0 : FVec F S16384x1024 .bf16) (main_arg1 : FVec F S16384x1024 .bf16) (main_arg2 : FVec F S16384x1024 .bf16) : IVec S16384x1024 1 × IVec S16384x1024 1 :=
  let main_v0 : FVec F S16384x1024 .bf16 := Host.absf main_arg0
  let main_cst : FVec F S_ .bf16 := constant S_ .bf16 0x7F80#16
  let main_v1 : FVec F S16384x1024 .bf16 := broadcastInDim S16384x1024 ![] bcast_S_S16384x1024 main_cst
  let main_v2 : IVec S16384x1024 1 := cmpf .olt main_v0 main_v1
  let main_v3 : FVec F S16384x1024 .bf16 := Host.absf main_arg1
  let main_cst_0 : FVec F S_ .bf16 := constant S_ .bf16 0x7F80#16
  let main_v4 : FVec F S16384x1024 .bf16 := broadcastInDim S16384x1024 ![] bcast_S_S16384x1024 main_cst_0
  let main_v5 : IVec S16384x1024 1 := cmpf .olt main_v3 main_v4
  (main_v2, main_v5)
-- ==== Ctx.lean ====
abbrev S16384x1024 : Shape := ⟨2, ![16384, 1024]⟩
abbrev S8192x1024 : Shape := ⟨2, ![8192, 1024]⟩
abbrev S256x1024 : Shape := ⟨2, ![256, 1024]⟩
abbrev S256x64 : Shape := ⟨2, ![256, 64]⟩
abbrev S256x256 : Shape := ⟨2, ![256, 256]⟩
abbrev S256 : Shape := ⟨1, ![256]⟩
abbrev S256x1 : Shape := ⟨2, ![256, 1]⟩
abbrev S256x128 : Shape := ⟨2, ![256, 128]⟩

abbrev nBuf : Space → Nat
  | .hbm => 4
  | .vmem => 8
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S8192x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== CtxRefIdeal.lean ====
abbrev S16384x1024 : Shape := ⟨2, ![16384, 1024]⟩
abbrev S8192x1024 : Shape := ⟨2, ![8192, 1024]⟩
abbrev S32x256x16x64 : Shape := ⟨4, ![32, 256, 16, 64]⟩
abbrev S32x16x256x256 : Shape := ⟨4, ![32, 16, 256, 256]⟩
abbrev S_ : Shape := ⟨0, ![]⟩
abbrev S32x16x256 : Shape := ⟨3, ![32, 16, 256]⟩
abbrev S32x16x256x1 : Shape := ⟨4, ![32, 16, 256, 1]⟩
abbrev S32x16x64x256 : Shape := ⟨4, ![32, 16, 64, 256]⟩

abbrev nBuf : Space → Nat
  | .hbm => 34
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S8192x1024, .bf16⟩
  | .hbm, ⟨4, _⟩ => ⟨S8192x1024, .f32⟩
  | .hbm, ⟨5, _⟩ => ⟨S32x256x16x64, .f32⟩
  | .hbm, ⟨6, _⟩ => ⟨S8192x1024, .bf16⟩
  | .hbm, ⟨7, _⟩ => ⟨S8192x1024, .f32⟩
  | .hbm, ⟨8, _⟩ => ⟨S32x256x16x64, .f32⟩
  | .hbm, ⟨9, _⟩ => ⟨S8192x1024, .bf16⟩
  | .hbm, ⟨10, _⟩ => ⟨S8192x1024, .f32⟩
  | .hbm, ⟨11, _⟩ => ⟨S32x256x16x64, .f32⟩
  | .hbm, ⟨12, _⟩ => ⟨S32x16x256x256, .f32⟩
  | .hbm, ⟨13, _⟩ => ⟨S_, .f32⟩
  | .hbm, ⟨14, _⟩ => ⟨S32x16x256x256, .f32⟩
  | .hbm, ⟨15, _⟩ => ⟨S32x16x256x256, .f32⟩
  | .hbm, ⟨16, _⟩ => ⟨S_, .f32⟩
  | .hbm, ⟨17, _⟩ => ⟨S32x16x256, .f32⟩
  | .hbm, ⟨18, _⟩ => ⟨S_, .f32⟩
  | .hbm, ⟨19, _⟩ => ⟨S32x16x256, .f32⟩
  | .hbm, ⟨20, _⟩ => ⟨S32x16x256, .f32⟩
  | .hbm, ⟨21, _⟩ => ⟨S32x16x256x1, .f32⟩
  | .hbm, ⟨22, _⟩ => ⟨S32x16x256x256, .f32⟩
  | .hbm, ⟨23, _⟩ => ⟨S32x16x256x256, .f32⟩
  | .hbm, ⟨24, _⟩ => ⟨S32x16x256x256, .f32⟩
  | .hbm, ⟨25, _⟩ => ⟨S_, .f32⟩
  | .hbm, ⟨26, _⟩ => ⟨S32x16x256, .f32⟩
  | .hbm, ⟨27, _⟩ => ⟨S32x16x256x1, .f32⟩
  | .hbm, ⟨28, _⟩ => ⟨S32x16x256x256, .f32⟩
  | .hbm, ⟨29, _⟩ => ⟨S32x16x256x256, .f32⟩
  | .hbm, ⟨30, _⟩ => ⟨S32x16x64x256, .f32⟩
  | .hbm, ⟨31, _⟩ => ⟨S32x256x16x64, .f32⟩
  | .hbm, ⟨32, _⟩ => ⟨S8192x1024, .f32⟩
  | .hbm, ⟨33, _⟩ => ⟨S8192x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== Ffn1.lean ====
abbrev S16384x2048 : Shape := ⟨2, ![16384, 2048]⟩
abbrev S4x8x9x2048 : Shape := ⟨4, ![4, 8, 9, 2048]⟩
abbrev S4x3x2048 : Shape := ⟨3, ![4, 3, 2048]⟩
abbrev S4x2x2048x5632 : Shape := ⟨4, ![4, 2, 2048, 5632]⟩
abbrev S4x2x5632x2048 : Shape := ⟨4, ![4, 2, 5632, 2048]⟩
abbrev S512x2048 : Shape := ⟨2, ![512, 2048]⟩
abbrev S1x1x9x2048 : Shape := ⟨4, ![1, 1, 9, 2048]⟩
abbrev S1x3x2048 : Shape := ⟨3, ![1, 3, 2048]⟩
abbrev S1x1x2048x512 : Shape := ⟨4, ![1, 1, 2048, 512]⟩
abbrev S1x1x512x2048 : Shape := ⟨4, ![1, 1, 512, 2048]⟩
abbrev S1x1x2048 : Shape := ⟨3, ![1, 1, 2048]⟩
abbrev S1x2048 : Shape := ⟨2, ![1, 2048]⟩
abbrev S1x1x1x2048 : Shape := ⟨4, ![1, 1, 1, 2048]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩

abbrev nBuf : Space → Nat
  | .hbm => 10
  | .vmem => 15
  | .smem => 0
  | _ => 0

abbrev bufTy : (tb : Table) → Fin (tcTables nBuf tb) → BufTy
  | .hbm, ⟨0, _⟩ => ⟨S16384x2048, .f32⟩
  | .hbm, ⟨1, _⟩ => ⟨S4x8x9x2048, .f32⟩
  | .hbm, ⟨2, _⟩ => ⟨S4x3x2048, .f32⟩
  | .hbm, ⟨3, _⟩ => ⟨S4x2x2048x5632, .f32⟩
  | .hbm, ⟨4, _⟩ => ⟨S4x2x2048x5632, .f32⟩
  | .hbm, ⟨5, _⟩ => ⟨S4x2x5632x2048, .f32⟩
  | .hbm, ⟨6, _⟩ => ⟨S4x2x2048x5632, .bf16⟩
  | .hbm, ⟨7, _⟩ => ⟨S4x2x2048x5632, .bf16⟩
  | .hbm, ⟨8, _⟩ => ⟨S4x2x5632x2048, .bf16⟩
  | .hbm, ⟨9, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x1x9x2048, .f32⟩
  | .local _ .vmem, ⟨3, _⟩ => ⟨S1x1x9x2048, .f32⟩
  | .local _ .vmem, ⟨4, _⟩ => ⟨S1x3x2048, .f32⟩
  | .local _ .vmem, ⟨5, _⟩ => ⟨S1x1x2048x512, .bf16⟩
  | .local _ .vmem, ⟨6, _⟩ => ⟨S1x1x2048x512, .bf16⟩
  | .local _ .vmem, ⟨7, _⟩ => ⟨S1x1x2048x512, .bf16⟩
  | .local _ .vmem, ⟨8, _⟩ => ⟨S1x1x2048x512, .bf16⟩
  | .local _ .vmem, ⟨9, _⟩ => ⟨S1x1x512x2048, .bf16⟩
  | .local _ .vmem, ⟨10, _⟩ => ⟨S1x1x512x2048, .bf16⟩
  | .local _ .vmem, ⟨11, _⟩ => ⟨S512x2048, .f32⟩
  | .local _ .vmem, ⟨12, _⟩ => ⟨S512x2048, .f32⟩
  | .local _ .vmem, ⟨13, _⟩ => ⟨S512x2048, .bf16⟩
  | .local _ .vmem, ⟨14, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_20 : BitVec 32 := 0#32
  let v24 : BitVec 1 := Scalar.cmpi .ne v23 c0_i32_20
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8192_i32 : BitVec 32 := 8192#32
  let v1 : BitVec 1 := Scalar.cmpi .slt v0 c8192_i32
  let c512_i32_0 : BitVec 32 := 512#32
  let v2 : BitVec 32 := Scalar.muli arg0 c512_i32_0
  let c8192_i32_1 : BitVec 32 := 8192#32
  let v3 : BitVec 32 := Scalar.subi v2 c8192_i32_1
  let c4096_i32 : BitVec 32 := 4096#32
  let v4 : BitVec 32 := Scalar.divsi v3 c4096_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c0_i32_3 : BitVec 32 := 0#32
  let v10 : BitVec 1 := Scalar.cmpi .sgt c4096_i32 c0_i32_3
  let v11 : BitVec 32 := Scalar.extui v10
  let c0_i32_4 : BitVec 32 := 0#32
  let v12 : BitVec 1 := Scalar.cmpi .slt c4096_i32 c0_i32_4
  let v13 : BitVec 32 := Scalar.extui v12
  let v14 : BitVec 32 := Scalar.subi v11 v13
  let v15 : BitVec 1 := Scalar.cmpi .ne v9 v14
  let v16 : BitVec 32 := Scalar.remsi v3 c4096_i32
  let c0_i32_5 : BitVec 32 := 0#32
  let v17 : BitVec 1 := Scalar.cmpi .ne v16 c0_i32_5
  let v18 : BitVec 1 := Scalar.andi v15 v17
  let c1_i32 : BitVec 32 := 1#32
  let v19 : BitVec 32 := Scalar.subi v4 c1_i32
  let v20 : BitVec 32 := Scalar.select v18 v19 v4
  let c1_i32_6 : BitVec 32 := 1#32
  let v21 : BitVec 32 := Scalar.addi c1_i32_6 v20
  let c0_i32_7 : BitVec 32 := 0#32
  let v22 : BitVec 32 := Scalar.select v1 c0_i32_7 v21
  let c3_i32 : BitVec 32 := 3#32
  let c0_i32_8 : BitVec 32 := 0#32
  let c0_i32_9 : BitVec 32 := 0#32
  let c0_i32_10 : BitVec 32 := 0#32
  ![c3_i32.toNat, v22.toNat, c0_i32_8.toNat, c0_i32_9.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c3_i32 : BitVec 32 := 3#32
  let c1_i32 : BitVec 32 := 1#32
  let c0_i32 : BitVec 32 := 0#32
  let c0_i32_0 : BitVec 32 := 0#32
  ![c3_i32.toNat, c1_i32.toNat, c0_i32.toNat, arg1.toNat]

def cc0_transform_4 (i : grid0.Coords) : Fin 4 → Nat :=
  let arg0 : BitVec 32 := BitVec.ofNat 32 (i 0).val
  let arg1 : BitVec 32 := BitVec.ofNat 32 (i 1).val
  let c3_i32 : BitVec 32 := 3#32
  let c1_i32 : BitVec 32 := 1#32
  let c0_i32 : BitVec 32 := 0#32
  let c0_i32_0 : BitVec 32 := 0#32
  ![c3_i32.toNat, c1_i32.toNat, c0_i32.toNat, arg1.toNat]

def cc0_transform_5 (i : grid0.Coords) : Fin 4 → Nat :=
  let arg0 : BitVec 32 := BitVec.ofNat 32 (i 0).val
  let arg1 : BitVec 32 := BitVec.ofNat 32 (i 1).val
  let c3_i32 : BitVec 32 := 3#32
  let c1_i32 : BitVec 32 := 1#32
  let c0_i32 : BitVec 32 := 0#32
  let c0_i32_0 : BitVec 32 := 0#32
  ![c3_i32.toNat, c1_i32.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x9x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x3x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Ffn1RefIdeal.lean ====
abbrev S16384x2048 : Shape := ⟨2, ![16384, 2048]⟩
abbrev S4x8x9x2048 : Shape := ⟨4, ![4, 8, 9, 2048]⟩
abbrev S4x3x2048 : Shape := ⟨3, ![4, 3, 2048]⟩
abbrev S4x2x2048x5632 : Shape := ⟨4, ![4, 2, 2048, 5632]⟩
abbrev S4x2x5632x2048 : Shape := ⟨4, ![4, 2, 5632, 2048]⟩
abbrev S1x3x3x2048 : Shape := ⟨4, ![1, 3, 3, 2048]⟩
abbrev S3x3x2048 : Shape := ⟨3, ![3, 3, 2048]⟩
abbrev S1x3x2048 : Shape := ⟨3, ![1, 3, 2048]⟩
abbrev S8192x3x2048 : Shape := ⟨3, ![8192, 3, 2048]⟩
abbrev S2x3x2048 : Shape := ⟨3, ![2, 3, 2048]⟩
abbrev S2x4096x3x2048 : Shape := ⟨4, ![2, 4096, 3, 2048]⟩
abbrev S16384x3x2048 : Shape := ⟨3, ![16384, 3, 2048]⟩
abbrev S1x1x2048 : Shape := ⟨3, ![1, 1, 2048]⟩
abbrev S2048 : Shape := ⟨1, ![2048]⟩
abbrev S16384x1x2048 : Shape := ⟨3, ![16384, 1, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S1x1x2048x5632 : Shape := ⟨4, ![1, 1, 2048, 5632]⟩
abbrev S2048x5632 : Shape := ⟨2, ![2048, 5632]⟩
abbrev S1x1x5632x2048 : Shape := ⟨4, ![1, 1, 5632, 2048]⟩
abbrev S5632x2048 : Shape := ⟨2, ![5632, 2048]⟩
abbrev S16384x5632 : Shape := ⟨2, ![16384, 5632]⟩

abbrev nBuf : Space → Nat
  | .hbm => 67
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S4x8x9x2048, .f32⟩
  | .hbm, ⟨2, _⟩ => ⟨S4x3x2048, .f32⟩
  | .hbm, ⟨3, _⟩ => ⟨S4x2x2048x5632, .f32⟩
  | .hbm, ⟨4, _⟩ => ⟨S4x2x2048x5632, .f32⟩
  | .hbm, ⟨5, _⟩ => ⟨S4x2x5632x2048, .f32⟩
  | .hbm, ⟨6, _⟩ => ⟨S1x3x3x2048, .f32⟩
  | .hbm, ⟨7, _⟩ => ⟨S3x3x2048, .f32⟩
  | .hbm, ⟨8, _⟩ => ⟨S1x3x2048, .f32⟩
  | .hbm, ⟨9, _⟩ => ⟨S8192x3x2048, .f32⟩
  | .hbm, ⟨10, _⟩ => ⟨S2x3x2048, .f32⟩
  | .hbm, ⟨11, _⟩ => ⟨S2x4096x3x2048, .f32⟩
  | .hbm, ⟨12, _⟩ => ⟨S8192x3x2048, .f32⟩
  | .hbm, ⟨13, _⟩ => ⟨S16384x3x2048, .f32⟩
  | .hbm, ⟨14, _⟩ => ⟨S1x1x2048, .f32⟩
  | .hbm, ⟨15, _⟩ => ⟨S2048, .f32⟩
  | .hbm, ⟨16, _⟩ => ⟨S16384x1x2048, .f32⟩
  | .hbm, ⟨17, _⟩ => ⟨S16384x2048, .f32⟩
  | .hbm, ⟨18, _⟩ => ⟨S16384x1x2048, .f32⟩
  | .hbm, ⟨19, _⟩ => ⟨S16384x2048, .f32⟩
  | .hbm, ⟨20, _⟩ => ⟨S16384x2048, .f32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x1, .f32⟩
  | .hbm, ⟨31, _⟩ => ⟨S16384x2048, .f32⟩
  | .hbm, ⟨32, _⟩ => ⟨S16384x2048, .f32⟩
  | .hbm, ⟨33, _⟩ => ⟨S1x2048, .f32⟩
  | .hbm, ⟨34, _⟩ => ⟨S16384x2048, .f32⟩
  | .hbm, ⟨35, _⟩ => ⟨S16384x2048, .f32⟩
  | .hbm, ⟨36, _⟩ => ⟨S_, .f32⟩
  | .hbm, ⟨37, _⟩ => ⟨S16384x2048, .f32⟩
  | .hbm, ⟨38, _⟩ => ⟨S16384x2048, .f32⟩
  | .hbm, ⟨39, _⟩ => ⟨S16384x2048, .f32⟩
  | .hbm, ⟨40, _⟩ => ⟨S16384x2048, .f32⟩
  | .hbm, ⟨41, _⟩ => ⟨S16384x1x2048, .f32⟩
  | .hbm, ⟨42, _⟩ => ⟨S16384x2048, .f32⟩
  | .hbm, ⟨43, _⟩ => ⟨S_, .f32⟩
  | .hbm, ⟨44, _⟩ => ⟨S16384x2048, .f32⟩
  | .hbm, ⟨45, _⟩ => ⟨S16384x2048, .f32⟩
  | .hbm, ⟨46, _⟩ => ⟨S1x1x2048x5632, .f32⟩
  | .hbm, ⟨47, _⟩ => ⟨S2048x5632, .f32⟩
  | .hbm, ⟨48, _⟩ => ⟨S1x1x2048x5632, .f32⟩
  | .hbm, ⟨49, _⟩ => ⟨S2048x5632, .f32⟩
  | .hbm, ⟨50, _⟩ => ⟨S1x1x5632x2048, .f32⟩
  | .hbm, ⟨51, _⟩ => ⟨S5632x2048, .f32⟩
  | .hbm, ⟨52, _⟩ => ⟨S16384x5632, .f32⟩
  | .hbm, ⟨53, _⟩ => ⟨S16384x5632, .f32⟩
  | .hbm, ⟨54, _⟩ => ⟨S16384x5632, .f32⟩
  | .hbm, ⟨55, _⟩ => ⟨S_, .f32⟩
  | .hbm, ⟨56, _⟩ => ⟨S16384x5632, .f32⟩
  | .hbm, ⟨57, _⟩ => ⟨S16384x5632, .f32⟩
  | .hbm, ⟨58, _⟩ => ⟨S_, .f32⟩
  | .hbm, ⟨59, _⟩ => ⟨S16384x5632, .f32⟩
  | .hbm, ⟨60, _⟩ => ⟨S16384x5632, .f32⟩
  | .hbm, ⟨61, _⟩ => ⟨S16384x5632, .f32⟩
  | .hbm, ⟨62, _⟩ => ⟨S16384x5632, .f32⟩
  | .hbm, ⟨63, _⟩ => ⟨S16384x5632, .f32⟩
  | .hbm, ⟨64, _⟩ => ⟨S16384x2048, .f32⟩
  | .hbm, ⟨65, _⟩ => ⟨S16384x2048, .f32⟩
  | .hbm, ⟨66, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_3 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_call0_v0 : Ref sig .tc := ⟨.hbm, 53, rfl⟩
abbrev main_call0_v1 : Ref sig .tc := ⟨.hbm, 54, rfl⟩
abbrev main_call0_cst : Ref sig .tc := ⟨.hbm, 55, rfl⟩
abbrev main_call0_v2 : Ref sig .tc := ⟨.hbm, 56, rfl⟩
abbrev main_call0_v3 : Ref sig .tc := ⟨.hbm, 57, rfl⟩
abbrev main_call0_cst_0 : Ref sig .tc := ⟨.hbm, 58, rfl⟩
abbrev main_call0_v4 : Ref sig .tc := ⟨.hbm, 59, rfl⟩
abbrev main_call0_v5 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩

abbrev nD : Nat := 1
abbrev τ : Topo := Topo.v7x

variable {F : FTy → Type} [FloatOps F]
-- ==== Ffn0.lean ====
abbrev S16384x2048 : Shape := ⟨2, ![16384, 2048]⟩
abbrev S4x8x9x2048 : Shape := ⟨4, ![4, 8, 9, 2048]⟩
abbrev S4x3x2048 : Shape := ⟨3, ![4, 3, 2048]⟩
abbrev S4x2x2048x5632 : Shape := ⟨4, ![4, 2, 2048, 5632]⟩
abbrev S4x2x5632x2048 : Shape := ⟨4, ![4, 2, 5632, 2048]⟩
abbrev S512x2048 : Shape := ⟨2, ![512, 2048]⟩
abbrev S1x1x9x2048 : Shape := ⟨4, ![1, 1, 9, 2048]⟩
abbrev S1x3x2048 : Shape := ⟨3, ![1, 3, 2048]⟩
abbrev S1x1x2048x512 : Shape := ⟨4, ![1, 1, 2048, 512]⟩
abbrev S1x1x512x2048 : Shape := ⟨4, ![1, 1, 512, 2048]⟩
abbrev S1x1x2048 : Shape := ⟨3, ![1, 1, 2048]⟩
abbrev S1x2048 : Shape := ⟨2, ![1, 2048]⟩
abbrev S1x1x1x2048 : Shape := ⟨4, ![1, 1, 1, 2048]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩

abbrev nBuf : Space → Nat
  | .hbm => 11
  | .vmem => 17
  | .smem => 0
  | _ => 0

abbrev bufTy : (tb : Table) → Fin (tcTables nBuf tb) → BufTy
  | .hbm, ⟨0, _⟩ => ⟨S16384x2048, .f32⟩
  | .hbm, ⟨1, _⟩ => ⟨S4x8x9x2048, .f32⟩
  | .hbm, ⟨2, _⟩ => ⟨S4x3x2048, .f32⟩
  | .hbm, ⟨3, _⟩ => ⟨S4x2x2048x5632, .f32⟩
  | .hbm, ⟨4, _⟩ => ⟨S4x2x2048x5632, .f32⟩
  | .hbm, ⟨5, _⟩ => ⟨S4x2x5632x2048, .f32⟩
  | .hbm, ⟨6, _⟩ => ⟨S4x2x2048x5632, .bf16⟩
  | .hbm, ⟨7, _⟩ => ⟨S4x2x2048x5632, .bf16⟩
  | .hbm, ⟨8, _⟩ => ⟨S4x2x5632x2048, .bf16⟩
  | .hbm, ⟨9, _⟩ => ⟨S16384x2048, .f32⟩
  | .hbm, ⟨10, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S1x1x9x2048, .f32⟩
  | .local _ .vmem, ⟨3, _⟩ => ⟨S1x1x9x2048, .f32⟩
  | .local _ .vmem, ⟨4, _⟩ => ⟨S1x3x2048, .f32⟩
  | .local _ .vmem, ⟨5, _⟩ => ⟨S1x1x2048x512, .bf16⟩
  | .local _ .vmem, ⟨6, _⟩ => ⟨S1x1x2048x512, .bf16⟩
  | .local _ .vmem, ⟨7, _⟩ => ⟨S1x1x2048x512, .bf16⟩
  | .local _ .vmem, ⟨8, _⟩ => ⟨S1x1x2048x512, .bf16⟩
  | .local _ .vmem, ⟨9, _⟩ => ⟨S1x1x512x2048, .bf16⟩
  | .local _ .vmem, ⟨10, _⟩ => ⟨S1x1x512x2048, .bf16⟩
  | .local _ .vmem, ⟨11, _⟩ => ⟨S512x2048, .f32⟩
  | .local _ .vmem, ⟨12, _⟩ => ⟨S512x2048, .f32⟩
  | .local _ .vmem, ⟨13, _⟩ => ⟨S512x2048, .bf16⟩
  | .local _ .vmem, ⟨14, _⟩ => ⟨S512x2048, .bf16⟩
  | .local _ .vmem, ⟨15, _⟩ => ⟨S512x2048, .bf16⟩
  | .local _ .vmem, ⟨16, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_20 : BitVec 32 := 0#32
  let v24 : BitVec 1 := Scalar.cmpi .ne v23 c0_i32_20
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8192_i32 : BitVec 32 := 8192#32
  let v1 : BitVec 1 := Scalar.cmpi .slt v0 c8192_i32
  let c512_i32_0 : BitVec 32 := 512#32
  let v2 : BitVec 32 := Scalar.muli arg0 c512_i32_0
  let c8192_i32_1 : BitVec 32 := 8192#32
  let v3 : BitVec 32 := Scalar.subi v2 c8192_i32_1
  let c4096_i32 : BitVec 32 := 4096#32
  let v4 : BitVec 32 := Scalar.divsi v3 c4096_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c0_i32_3 : BitVec 32 := 0#32
  let v10 : BitVec 1 := Scalar.cmpi .sgt c4096_i32 c0_i32_3
  let v11 : BitVec 32 := Scalar.extui v10
  let c0_i32_4 : BitVec 32 := 0#32
  let v12 : BitVec 1 := Scalar.cmpi .slt c4096_i32 c0_i32_4
  let v13 : BitVec 32 := Scalar.extui v12
  let v14 : BitVec 32 := Scalar.subi v11 v13
  let v15 : BitVec 1 := Scalar.cmpi .ne v9 v14
  let v16 : BitVec 32 := Scalar.remsi v3 c4096_i32
  let c0_i32_5 : BitVec 32 := 0#32
  let v17 : BitVec 1 := Scalar.cmpi .ne v16 c0_i32_5
  let v18 : BitVec 1 := Scalar.andi v15 v17
  let c1_i32 : BitVec 32 := 1#32
  let v19 : BitVec 32 := Scalar.subi v4 c1_i32
  let v20 : BitVec 32 := Scalar.select v18 v19 v4
  let c1_i32_6 : BitVec 32 := 1#32
  let v21 : BitVec 32 := Scalar.addi c1_i32_6 v20
  let c0_i32_7 : BitVec 32 := 0#32
  let v22 : BitVec 32 := Scalar.select v1 c0_i32_7 v21
  let c0_i32_8 : BitVec 32 := 0#32
  let c0_i32_9 : BitVec 32 := 0#32
  let c0_i32_10 : BitVec 32 := 0#32
  let c0_i32_11 : BitVec 32 := 0#32
  ![c0_i32_8.toNat, v22.toNat, c0_i32_9.toNat, c0_i32_10.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg1.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x9x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x3x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Ffn0RefIdeal.lean ====
abbrev S16384x2048 : Shape := ⟨2, ![16384, 2048]⟩
abbrev S4x8x9x2048 : Shape := ⟨4, ![4, 8, 9, 2048]⟩
abbrev S4x3x2048 : Shape := ⟨3, ![4, 3, 2048]⟩
abbrev S4x2x2048x5632 : Shape := ⟨4, ![4, 2, 2048, 5632]⟩
abbrev S4x2x5632x2048 : Shape := ⟨4, ![4, 2, 5632, 2048]⟩
abbrev S1x3x5x2048 : Shape := ⟨4, ![1, 3, 5, 2048]⟩
abbrev S3x5x2048 : Shape := ⟨3, ![3, 5, 2048]⟩
abbrev S1x5x2048 : Shape := ⟨3, ![1, 5, 2048]⟩
abbrev S8192x5x2048 : Shape := ⟨3, ![8192, 5, 2048]⟩
abbrev S2x5x2048 : Shape := ⟨3, ![2, 5, 2048]⟩
abbrev S2x4096x5x2048 : Shape := ⟨4, ![2, 4096, 5, 2048]⟩
abbrev S16384x5x2048 : Shape := ⟨3, ![16384, 5, 2048]⟩
abbrev S1x1x2048 : Shape := ⟨3, ![1, 1, 2048]⟩
abbrev S2048 : Shape := ⟨1, ![2048]⟩
abbrev S16384x1x2048 : Shape := ⟨3, ![16384, 1, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S1x1x2048x5632 : Shape := ⟨4, ![1, 1, 2048, 5632]⟩
abbrev S2048x5632 : Shape := ⟨2, ![2048, 5632]⟩
abbrev S1x1x5632x2048 : Shape := ⟨4, ![1, 1, 5632, 2048]⟩
abbrev S5632x2048 : Shape := ⟨2, ![5632, 2048]⟩
abbrev S16384x5632 : Shape := ⟨2, ![16384, 5632]⟩

abbrev nBuf : Space → Nat
  | .hbm => 95
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S4x8x9x2048, .f32⟩
  | .hbm, ⟨2, _⟩ => ⟨S4x3x2048, .f32⟩
  | .hbm, ⟨3, _⟩ => ⟨S4x2x2048x5632, .f32⟩
  | .hbm, ⟨4, _⟩ => ⟨S4x2x2048x5632, .f32⟩
  | .hbm, ⟨5, _⟩ => ⟨S4x2x5632x2048, .f32⟩
  | .hbm, ⟨6, _⟩ => ⟨S1x3x5x2048, .f32⟩
  | .hbm, ⟨7, _⟩ => ⟨S3x5x2048, .f32⟩
  | .hbm, ⟨8, _⟩ => ⟨S1x5x2048, .f32⟩
  | .hbm, ⟨9, _⟩ => ⟨S8192x5x2048, .f32⟩
  | .hbm, ⟨10, _⟩ => ⟨S2x5x2048, .f32⟩
  | .hbm, ⟨11, _⟩ => ⟨S2x4096x5x2048, .f32⟩
  | .hbm, ⟨12, _⟩ => ⟨S8192x5x2048, .f32⟩
  | .hbm, ⟨13, _⟩ => ⟨S16384x5x2048, .f32⟩
  | .hbm, ⟨14, _⟩ => ⟨S1x1x2048, .f32⟩
  | .hbm, ⟨15, _⟩ => ⟨S2048, .f32⟩
  | .hbm, ⟨16, _⟩ => ⟨S16384x1x2048, .f32⟩
  | .hbm, ⟨17, _⟩ => ⟨S16384x2048, .f32⟩
  | .hbm, ⟨18, _⟩ => ⟨S16384x1x2048, .f32⟩
  | .hbm, ⟨19, _⟩ => ⟨S16384x2048, .f32⟩
  | .hbm, ⟨20, _⟩ => ⟨S16384x2048, .f32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x1, .f32⟩
  | .hbm, ⟨31, _⟩ => ⟨S16384x2048, .f32⟩
  | .hbm, ⟨32, _⟩ => ⟨S16384x2048, .f32⟩
  | .hbm, ⟨33, _⟩ => ⟨S1x2048, .f32⟩
  | .hbm, ⟨34, _⟩ => ⟨S16384x2048, .f32⟩
  | .hbm, ⟨35, _⟩ => ⟨S16384x2048, .f32⟩
  | .hbm, ⟨36, _⟩ => ⟨S_, .f32⟩
  | .hbm, ⟨37, _⟩ => ⟨S16384x2048, .f32⟩
  | .hbm, ⟨38, _⟩ => ⟨S16384x2048, .f32⟩
  | .hbm, ⟨39, _⟩ => ⟨S16384x2048, .f32⟩
  | .hbm, ⟨40, _⟩ => ⟨S16384x2048, .f32⟩
  | .hbm, ⟨41, _⟩ => ⟨S16384x1x2048, .f32⟩
  | .hbm, ⟨42, _⟩ => ⟨S16384x2048, .f32⟩
  | .hbm, ⟨43, _⟩ => ⟨S_, .f32⟩
  | .hbm, ⟨44, _⟩ => ⟨S16384x2048, .f32⟩
  | .hbm, ⟨45, _⟩ => ⟨S16384x2048, .f32⟩
  | .hbm, ⟨46, _⟩ => ⟨S1x1x2048x5632, .f32⟩
  | .hbm, ⟨47, _⟩ => ⟨S2048x5632, .f32⟩
  | .hbm, ⟨48, _⟩ => ⟨S1x1x2048x5632, .f32⟩
  | .hbm, ⟨49, _⟩ => ⟨S2048x5632, .f32⟩
  | .hbm, ⟨50, _⟩ => ⟨S1x1x5632x2048, .f32⟩
  | .hbm, ⟨51, _⟩ => ⟨S5632x2048, .f32⟩
  | .hbm, ⟨52, _⟩ => ⟨S16384x5632, .f32⟩
  | .hbm, ⟨53, _⟩ => ⟨S16384x5632, .f32⟩
  | .hbm, ⟨54, _⟩ => ⟨S16384x5632, .f32⟩
  | .hbm, ⟨55, _⟩ => ⟨S_, .f32⟩
  | .hbm, ⟨56, _⟩ => ⟨S16384x5632, .f32⟩
  | .hbm, ⟨57, _⟩ => ⟨S16384x5632, .f32⟩
  | .hbm, ⟨58, _⟩ => ⟨S_, .f32⟩
  | .hbm, ⟨59, _⟩ => ⟨S16384x5632, .f32⟩
  | .hbm, ⟨60, _⟩ => ⟨S16384x5632, .f32⟩
  | .hbm, ⟨61, _⟩ => ⟨S16384x5632, .f32⟩
  | .hbm, ⟨62, _⟩ => ⟨S16384x5632, .f32⟩
  | .hbm, ⟨63, _⟩ => ⟨S16384x5632, .f32⟩
  | .hbm, ⟨64, _⟩ => ⟨S16384x2048, .f32⟩
  | .hbm, ⟨65, _⟩ => ⟨S16384x2048, .f32⟩
  | .hbm, ⟨66, _⟩ => ⟨S16384x2048, .f32⟩
  | .hbm, ⟨67, _⟩ => ⟨S1x1x2048, .f32⟩
  | .hbm, ⟨68, _⟩ => ⟨S2048, .f32⟩
  | .hbm, ⟨69, _⟩ => ⟨S16384x1x2048, .f32⟩
  | .hbm, ⟨70, _⟩ => ⟨S16384x2048, .f32⟩
  | .hbm, ⟨71, _⟩ => ⟨S16384x1x2048, .f32⟩
  | .hbm, ⟨72, _⟩ => ⟨S16384x2048, .f32⟩
  | .hbm, ⟨73, _⟩ => ⟨S16384x2048, .f32⟩
  | .hbm, ⟨74, _⟩ => ⟨S_, .f32⟩
  | .hbm, ⟨75, _⟩ => ⟨S16384, .f32⟩
  | .hbm, ⟨76, _⟩ => ⟨S16384x1, .f32⟩
  | .hbm, ⟨77, _⟩ => ⟨S_, .f32⟩
  | .hbm, ⟨78, _⟩ => ⟨S16384x1, .f32⟩
  | .hbm, ⟨79, _⟩ => ⟨S16384x1, .f32⟩
  | .hbm, ⟨80, _⟩ => ⟨S_, .f32⟩
  | .hbm, ⟨81, _⟩ => ⟨S16384x1, .f32⟩
  | .hbm, ⟨82, _⟩ => ⟨S16384x1, .f32⟩
  | .hbm, ⟨83, _⟩ => ⟨S16384x1, .f32⟩
  | .hbm, ⟨84, _⟩ => ⟨S16384x2048, .f32⟩
  | .hbm, ⟨85, _⟩ => ⟨S16384x2048, .f32⟩
  | .hbm, ⟨86, _⟩ => ⟨S1x2048, .f32⟩
  | .hbm, ⟨87, _⟩ => ⟨S16384x2048, .f32⟩
  | .hbm, ⟨88, _⟩ => ⟨S16384x2048, .f32⟩
  | .hbm, ⟨89, _⟩ => ⟨S_, .f32⟩
  | .hbm, ⟨90, _⟩ => ⟨S16384x2048, .f32⟩
  | .hbm, ⟨91, _⟩ => ⟨S16384x2048, .f32⟩
  | .hbm, ⟨92, _⟩ => ⟨S16384x2048, .f32⟩
  | .hbm, ⟨93, _⟩ => ⟨S16384x2048, .f32⟩
  | .hbm, ⟨94, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_3 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_call0_v0 : Ref sig .tc := ⟨.hbm, 53, rfl⟩
abbrev main_call0_v1 : Ref sig .tc := ⟨.hbm, 54, rfl⟩
abbrev main_call0_cst : Ref sig .tc := ⟨.hbm, 55, rfl⟩
abbrev main_call0_v2 : Ref sig .tc := ⟨.hbm, 56, rfl⟩
abbrev main_call0_v3 : Ref sig .tc := ⟨.hbm, 57, rfl⟩
abbrev main_call0_cst_0 : Ref sig .tc := ⟨.hbm, 58, rfl⟩
abbrev main_call0_v4 : Ref sig .tc := ⟨.hbm, 59, rfl⟩
abbrev main_call0_v5 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_4 : Ref sig .tc := ⟨.hbm, 74, rfl⟩
abbrev main_v55 : Ref sig .tc := ⟨.hbm, 75, rfl⟩
abbrev main_v56 : Ref sig .tc := ⟨.hbm, 76, rfl⟩
abbrev main_cst_5 : Ref sig .tc := ⟨.hbm, 77, rfl⟩
abbrev main_v57 : Ref sig .tc := ⟨.hbm, 78, rfl⟩
abbrev main_v58 : Ref sig .tc := ⟨.hbm, 79, rfl⟩
abbrev main_cst_6 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_7 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩

abbrev nD : Nat := 1
abbrev τ : Topo := Topo.v7x

variable {F : FTy → Type} [FloatOps F]
-- ==== InEven.lean ====
abbrev S16384x2048 : Shape := ⟨2, ![16384, 2048]⟩
abbrev S2x2048x4096 : Shape := ⟨3, ![2, 2048, 4096]⟩
abbrev S16384x4096 : Shape := ⟨2, ![16384, 4096]⟩
abbrev S512x2048 : Shape := ⟨2, ![512, 2048]⟩
abbrev S1x2048x2048 : Shape := ⟨3, ![1, 2048, 2048]⟩
abbrev S2048x2048 : Shape := ⟨2, ![2048, 2048]⟩

abbrev nBuf : Space → Nat
  | .hbm => 4
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2x2048x4096, .f32⟩
  | .hbm, ⟨2, _⟩ => ⟨S2x2048x4096, .bf16⟩
  | .hbm, ⟨3, _⟩ => ⟨S16384x4096, .f32⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S1x2048x2048, .bf16⟩
  | .local _ .vmem, ⟨4, _⟩ => ⟨S512x2048, .f32⟩
  | .local _ .vmem, ⟨5, _⟩ => ⟨S512x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InEvenIdeal.lean ====
abbrev S16384x2048 : Shape := ⟨2, ![16384, 2048]⟩
abbrev S2x2048x4096 : Shape := ⟨3, ![2, 2048, 4096]⟩
abbrev S16384x4096 : Shape := ⟨2, ![16384, 4096]⟩
abbrev S512x2048 : Shape := ⟨2, ![512, 2048]⟩
abbrev S1x2048x2048 : Shape := ⟨3, ![1, 2048, 2048]⟩
abbrev S2048x2048 : Shape := ⟨2, ![2048, 2048]⟩

abbrev nBuf : Space → Nat
  | .hbm => 4
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2x2048x4096, .f32⟩
  | .hbm, ⟨2, _⟩ => ⟨S2x2048x4096, .bf16⟩
  | .hbm, ⟨3, _⟩ => ⟨S16384x4096, .f32⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S1x2048x2048, .bf16⟩
  | .local _ .vmem, ⟨4, _⟩ => ⟨S512x2048, .f32⟩
  | .local _ .vmem, ⟨5, _⟩ => ⟨S512x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InEvenRefIdeal.lean ====
abbrev S16384x2048 : Shape := ⟨2, ![16384, 2048]⟩
abbrev S2x2048x4096 : Shape := ⟨3, ![2, 2048, 4096]⟩
abbrev S1x2048x4096 : Shape := ⟨3, ![1, 2048, 4096]⟩
abbrev S2048x4096 : Shape := ⟨2, ![2048, 4096]⟩
abbrev S16384x4096 : Shape := ⟨2, ![16384, 4096]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x2048x4096, .f32⟩
  | .hbm, ⟨2, _⟩ => ⟨S16384x2048, .f32⟩
  | .hbm, ⟨3, _⟩ => ⟨S1x2048x4096, .f32⟩
  | .hbm, ⟨4, _⟩ => ⟨S2048x4096, .f32⟩
  | .hbm, ⟨5, _⟩ => ⟨S16384x4096, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InOdd.lean ====
abbrev S16384x2048 : Shape := ⟨2, ![16384, 2048]⟩
abbrev S2x2048x5120 : Shape := ⟨3, ![2, 2048, 5120]⟩
abbrev S16384x5120 : Shape := ⟨2, ![16384, 5120]⟩
abbrev S512x2048 : Shape := ⟨2, ![512, 2048]⟩
abbrev S1x2048x2560 : Shape := ⟨3, ![1, 2048, 2560]⟩
abbrev S512x2560 : Shape := ⟨2, ![512, 2560]⟩
abbrev S2048x2560 : Shape := ⟨2, ![2048, 2560]⟩

abbrev nBuf : Space → Nat
  | .hbm => 4
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2x2048x5120, .f32⟩
  | .hbm, ⟨2, _⟩ => ⟨S2x2048x5120, .bf16⟩
  | .hbm, ⟨3, _⟩ => ⟨S16384x5120, .f32⟩
  | .local _ .vmem, ⟨0, _⟩ => ⟨S512x2048, .bf16⟩
  | .local _ .vmem, ⟨1, _⟩ => ⟨S512x2048, .bf16⟩
  | .local _ .vmem, ⟨2, _⟩ => ⟨S1x2048x2560, .bf16⟩
  | .local _ .vmem, ⟨3, _⟩ => ⟨S1x2048x2560, .bf16⟩
  | .local _ .vmem, ⟨4, _⟩ => ⟨S512x2560, .f32⟩
  | .local _ .vmem, ⟨5, _⟩ => ⟨S512x2560, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InOddRefIdeal.lean ====
abbrev S16384x2048 : Shape := ⟨2, ![16384, 2048]⟩
abbrev S2x2048x5120 : Shape := ⟨3, ![2, 2048, 5120]⟩
abbrev S1x2048x5120 : Shape := ⟨3, ![1, 2048, 5120]⟩
abbrev S2048x5120 : Shape := ⟨2, ![2048, 5120]⟩
abbrev S16384x5120 : Shape := ⟨2, ![16384, 5120]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x2048x5120, .f32⟩
  | .hbm, ⟨2, _⟩ => ⟨S16384x2048, .f32⟩
  | .hbm, ⟨3, _⟩ => ⟨S1x2048x5120, .f32⟩
  | .hbm, ⟨4, _⟩ => ⟨S2048x5120, .f32⟩
  | .hbm, ⟨5, _⟩ => ⟨S16384x5120, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Out.lean ====
abbrev S8192x1024 : Shape := ⟨2, ![8192, 1024]⟩
abbrev S2x2048x2048 : Shape := ⟨3, ![2, 2048, 2048]⟩
abbrev S16384x2048 : Shape := ⟨2, ![16384, 2048]⟩
abbrev S4x8x9x2048 : Shape := ⟨4, ![4, 8, 9, 2048]⟩
abbrev S512x1024 : Shape := ⟨2, ![512, 1024]⟩
abbrev S1x1024x2048 : Shape := ⟨3, ![1, 1024, 2048]⟩
abbrev S512x2048 : Shape := ⟨2, ![512, 2048]⟩
abbrev S1x1x9x2048 : Shape := ⟨4, ![1, 1, 9, 2048]⟩
abbrev S1024x2048 : Shape := ⟨2, ![1024, 2048]⟩
abbrev S1x1x1x2048 : Shape := ⟨4, ![1, 1, 1, 2048]⟩
abbrev S1x2048 : Shape := ⟨2, ![1, 2048]⟩

abbrev nBuf : Space → Nat
  | .hbm => 9
  | .vmem => 16
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S2x2048x2048, .f32⟩
  | .hbm, ⟨5, _⟩ => ⟨S16384x2048, .f32⟩
  | .hbm, ⟨6, _⟩ => ⟨S4x8x9x2048, .f32⟩
  | .hbm, ⟨7, _⟩ => ⟨S2x2048x2048, .bf16⟩
  | .hbm, ⟨8, _⟩ => ⟨S16384x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1x1024x2048, .bf16⟩
  | .local _ .vmem, ⟨9, _⟩ => ⟨S1x1024x2048, .bf16⟩
  | .local _ .vmem, ⟨10, _⟩ => ⟨S512x2048, .f32⟩
  | .local _ .vmem, ⟨11, _⟩ => ⟨S512x2048, .f32⟩
  | .local _ .vmem, ⟨12, _⟩ => ⟨S1x1x9x2048, .f32⟩
  | .local _ .vmem, ⟨13, _⟩ => ⟨S1x1x9x2048, .f32⟩
  | .local _ .vmem, ⟨14, _⟩ => ⟨S512x2048, .f32⟩
  | .local _ .vmem, ⟨15, _⟩ => ⟨S512x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c16_i32 : BitVec 32 := 16#32
  let v0 : BitVec 1 := Scalar.cmpi .slt arg0 c16_i32
  let v_true : BitVec 1 := 1#1
  let v3 : BitVec 1 := Scalar.xori v0 v_true
  let v4 : BitVec 32 := Scalar.extui v3
  let c0_i32_0 : BitVec 32 := 0#32
  let v5 : BitVec 1 := Scalar.cmpi .ne v4 c0_i32_0
  v5

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  ![c1_i32.toNat, c1_i32_0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 1 := Scalar.cmpi .slt v0 c8192_i32
  let c512_i32_0 : BitVec 32 := 512#32
  let v2 : BitVec 32 := Scalar.muli arg0 c512_i32_0
  let c8192_i32_1 : BitVec 32 := 8192#32
  let v3 : BitVec 32 := Scalar.subi v2 c8192_i32_1
  let c4096_i32 : BitVec 32 := 4096#32
  let v4 : BitVec 32 := Scalar.divsi v3 c4096_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c0_i32_3 : BitVec 32 := 0#32
  let v10 : BitVec 1 := Scalar.cmpi .sgt c4096_i32 c0_i32_3
  let v11 : BitVec 32 := Scalar.extui v10
  let c0_i32_4 : BitVec 32 := 0#32
  let v12 : BitVec 1 := Scalar.cmpi .slt c4096_i32 c0_i32_4
  let v13 : BitVec 32 := Scalar.extui v12
  let v14 : BitVec 32 := Scalar.subi v11 v13
  let v15 : BitVec 1 := Scalar.cmpi .ne v9 v14
  let v16 : BitVec 32 := Scalar.remsi v3 c4096_i32
  let c0_i32_5 : BitVec 32 := 0#32
  let v17 : BitVec 1 := Scalar.cmpi .ne v16 c0_i32_5
  let v18 : BitVec 1 := Scalar.andi v15 v17
  let c1_i32 : BitVec 32 := 1#32
  let v19 : BitVec 32 := Scalar.subi v4 c1_i32
  let v20 : BitVec 32 := Scalar.select v18 v19 v4
  let c1_i32_6 : BitVec 32 := 1#32
  let v21 : BitVec 32 := Scalar.addi c1_i32_6 v20
  let c0_i32_7 : BitVec 32 := 0#32
  let v22 : BitVec 32 := Scalar.select v1 c0_i32_7 v21
  let c3_i32 : BitVec 32 := 3#32
  let c0_i32_8 : BitVec 32 := 0#32
  let c0_i32_9 : BitVec 32 := 0#32
  let c0_i32_10 : BitVec 32 := 0#32
  ![c3_i32.toNat, v22.toNat, c0_i32_8.toNat, c0_i32_9.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x9x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutRefIdeal.lean ====
abbrev S8192x1024 : Shape := ⟨2, ![8192, 1024]⟩
abbrev S2x2048x2048 : Shape := ⟨3, ![2, 2048, 2048]⟩
abbrev S16384x2048 : Shape := ⟨2, ![16384, 2048]⟩
abbrev S4x8x9x2048 : Shape := ⟨4, ![4, 8, 9, 2048]⟩
abbrev S8192x2048 : Shape := ⟨2, ![8192, 2048]⟩
abbrev S1x3x1x2048 : Shape := ⟨4, ![1, 3, 1, 2048]⟩
abbrev S3x2048 : Shape := ⟨2, ![3, 2048]⟩
abbrev S1x2048 : Shape := ⟨2, ![1, 2048]⟩
abbrev S2x2048 : Shape := ⟨2, ![2, 2048]⟩
abbrev S2x4096x2048 : Shape := ⟨3, ![2, 4096, 2048]⟩
abbrev S1x2048x2048 : Shape := ⟨3, ![1, 2048, 2048]⟩
abbrev S2048x2048 : Shape := ⟨2, ![2048, 2048]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S2x2048x2048, .f32⟩
  | .hbm, ⟨5, _⟩ => ⟨S16384x2048, .f32⟩
  | .hbm, ⟨6, _⟩ => ⟨S4x8x9x2048, .f32⟩
  | .hbm, ⟨7, _⟩ => ⟨S8192x2048, .bf16⟩
  | .hbm, ⟨8, _⟩ => ⟨S8192x2048, .bf16⟩
  | .hbm, ⟨9, _⟩ => ⟨S16384x2048, .bf16⟩
  | .hbm, ⟨10, _⟩ => ⟨S1x3x1x2048, .f32⟩
  | .hbm, ⟨11, _⟩ => ⟨S3x2048, .f32⟩
  | .hbm, ⟨12, _⟩ => ⟨S1x2048, .f32⟩
  | .hbm, ⟨13, _⟩ => ⟨S8192x2048, .f32⟩
  | .hbm, ⟨14, _⟩ => ⟨S2x2048, .f32⟩
  | .hbm, ⟨15, _⟩ => ⟨S2x4096x2048, .f32⟩
  | .hbm, ⟨16, _⟩ => ⟨S8192x2048, .f32⟩
  | .hbm, ⟨17, _⟩ => ⟨S16384x2048, .f32⟩
  | .hbm, ⟨18, _⟩ => ⟨S16384x2048, .f32⟩
  | .hbm, ⟨19, _⟩ => ⟨S1x2048x2048, .f32⟩
  | .hbm, ⟨20, _⟩ => ⟨S2048x2048, .f32⟩
  | .hbm, ⟨21, _⟩ => ⟨S16384x2048, .f32⟩
  | .hbm, ⟨22, _⟩ => ⟨S16384x2048, .f32⟩
  | .hbm, ⟨23, _⟩ => ⟨S16384x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Qkv.lean ====
abbrev S16384x5120 : Shape := ⟨2, ![16384, 5120]⟩
abbrev S2x64 : Shape := ⟨2, ![2, 64]⟩
abbrev S1x64 : Shape := ⟨2, ![1, 64]⟩
abbrev S64 : Shape := ⟨1, ![64]⟩
abbrev S4x4 : Shape := ⟨2, ![4, 4]⟩
abbrev S_ : Shape := ⟨0, ![]⟩
abbrev S64x64 : Shape := ⟨2, ![64, 64]⟩
abbrev S4x1x4x1 : Shape := ⟨4, ![4, 1, 4, 1]⟩
abbrev S1x64x1x64 : Shape := ⟨4, ![1, 64, 1, 64]⟩
abbrev S4x64x4x64 : Shape := ⟨4, ![4, 64, 4, 64]⟩
abbrev S256x256 : Shape := ⟨2, ![256, 256]⟩
abbrev S16x64 : Shape := ⟨2, ![16, 64]⟩
abbrev S1024 : Shape := ⟨1, ![1024]⟩
abbrev S1x1024 : Shape := ⟨2, ![1, 1024]⟩
abbrev S16384x1024 : Shape := ⟨2, ![16384, 1024]⟩
abbrev S512x1024 : Shape := ⟨2, ![512, 1024]⟩
abbrev S512x256 : Shape := ⟨2, ![512, 256]⟩

abbrev nBuf : Space → Nat
  | .hbm => 35
  | .vmem => 17
  | .smem => 0
  | _ => 0

abbrev bufTy : (tb : Table) → Fin (tcTables nBuf tb) → BufTy
  | .hbm, ⟨0, _⟩ => ⟨S16384x5120, .f32⟩
  | .hbm, ⟨1, _⟩ => ⟨S2x64, .f32⟩
  | .hbm, ⟨2, _⟩ => ⟨S2x64, .f32⟩
  | .hbm, ⟨3, _⟩ => ⟨S1x64, .f32⟩
  | .hbm, ⟨4, _⟩ => ⟨S64, .f32⟩
  | .hbm, ⟨5, _⟩ => ⟨S1x64, .f32⟩
  | .hbm, ⟨6, _⟩ => ⟨S64, .f32⟩
  | .hbm, ⟨7, _⟩ => ⟨S4x4, .i32⟩
  | .hbm, ⟨8, _⟩ => ⟨S4x4, .i32⟩
  | .hbm, ⟨9, _⟩ => ⟨S_, .i32⟩
  | .hbm, ⟨10, _⟩ => ⟨S4x4, .i32⟩
  | .hbm, ⟨11, _⟩ => ⟨S4x4, .i32⟩
  | .hbm, ⟨12, _⟩ => ⟨S4x4, .i1⟩
  | .hbm, ⟨13, _⟩ => ⟨S4x4, .f32⟩
  | .hbm, ⟨14, _⟩ => ⟨S_, .f32⟩
  | .hbm, ⟨15, _⟩ => ⟨S64x64, .f32⟩
  | .hbm, ⟨16, _⟩ => ⟨S4x1x4x1, .f32⟩
  | .hbm, ⟨17, _⟩ => ⟨S1x64x1x64, .f32⟩
  | .hbm, ⟨18, _⟩ => ⟨S4x64x4x64, .f32⟩
  | .hbm, ⟨19, _⟩ => ⟨S4x64x4x64, .f32⟩
  | .hbm, ⟨20, _⟩ => ⟨S4x64x4x64, .f32⟩
  | .hbm, ⟨21, _⟩ => ⟨S256x256, .f32⟩
  | .hbm, ⟨22, _⟩ => ⟨S256x256, .bf16⟩
  | .hbm, ⟨23, _⟩ => ⟨S1x64, .f32⟩
  | .hbm, ⟨24, _⟩ => ⟨S16x64, .f32⟩
  | .hbm, ⟨25, _⟩ => ⟨S1024, .f32⟩
  | .hbm, ⟨26, _⟩ => ⟨S1x1024, .f32⟩
  | .hbm, ⟨27, _⟩ => ⟨S1x64, .f32⟩
  | .hbm, ⟨28, _⟩ => ⟨S16x64, .f32⟩
  | .hbm, ⟨29, _⟩ => ⟨S1024, .f32⟩
  | .hbm, ⟨30, _⟩ => ⟨S1x1024, .f32⟩
  | .hbm, ⟨31, _⟩ => ⟨S16384x1024, .bf16⟩
  | .hbm, ⟨32, _⟩ => ⟨S16384x1024, .bf16⟩
  | .hbm, ⟨33, _⟩ => ⟨S16384x1024, .bf16⟩
  | .hbm, ⟨34, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S256x256, .bf16⟩
  | .local _ .vmem, ⟨7, _⟩ => ⟨S1x1024, .f32⟩
  | .local _ .vmem, ⟨8, _⟩ => ⟨S1x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .f32⟩
  | .local _ .vmem, ⟨16, _⟩ => ⟨S512x1024, .f32⟩
  | _, _ => ⟨S16384x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21_0 : Ref sig .tc := ⟨.hbm, 31, rfl⟩
abbrev main_v21_1 : Ref sig .tc := ⟨.hbm, 32, rfl⟩
abbrev main_v21_2 : Ref sig .tc := ⟨.hbm, 33, rfl⟩
abbrev main_v21_3 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== QkvRefIdeal.lean ====
abbrev S16384x5120 : Shape := ⟨2, ![16384, 5120]⟩
abbrev S2x64 : Shape := ⟨2, ![2, 64]⟩
abbrev S16384x3072 : Shape := ⟨2, ![16384, 3072]⟩
abbrev S16384x3x16x64 : Shape := ⟨4, ![16384, 3, 16, 64]⟩
abbrev S16384x1x16x64 : Shape := ⟨4, ![16384, 1, 16, 64]⟩
abbrev S16384x16x64 : Shape := ⟨3, ![16384, 16, 64]⟩
abbrev S1x64 : Shape := ⟨2, ![1, 64]⟩
abbrev S64 : Shape := ⟨1, ![64]⟩
abbrev S_ : Shape := ⟨0, ![]⟩
abbrev S16384x16 : Shape := ⟨2, ![16384, 16]⟩
abbrev S16384x16x1 : Shape := ⟨3, ![16384, 16, 1]⟩
abbrev S1x1x64 : Shape := ⟨3, ![1, 1, 64]⟩
abbrev S16384x1024 : Shape := ⟨2, ![16384, 1024]⟩

abbrev nBuf : Space → Nat
  | .hbm => 53
  | .vmem => 0
  | .smem => 0
  | _ => 0

abbrev bufTy : (tb : Table) → Fin (tcTables nBuf tb) → BufTy
  | .hbm, ⟨0, _⟩ => ⟨S16384x5120, .f32⟩
  | .hbm, ⟨1, _⟩ => ⟨S2x64, .f32⟩
  | .hbm, ⟨2, _⟩ => ⟨S2x64, .f32⟩
  | .hbm, ⟨3, _⟩ => ⟨S16384x3072, .f32⟩
  | .hbm, ⟨4, _⟩ => ⟨S16384x3x16x64, .f32⟩
  | .hbm, ⟨5, _⟩ => ⟨S16384x1x16x64, .f32⟩
  | .hbm, ⟨6, _⟩ => ⟨S16384x16x64, .f32⟩
  | .hbm, ⟨7, _⟩ => ⟨S1x64, .f32⟩
  | .hbm, ⟨8, _⟩ => ⟨S64, .f32⟩
  | .hbm, ⟨9, _⟩ => ⟨S16384x16x64, .f32⟩
  | .hbm, ⟨10, _⟩ => ⟨S_, .f32⟩
  | .hbm, ⟨11, _⟩ => ⟨S16384x16, .f32⟩
  | .hbm, ⟨12, _⟩ => ⟨S16384x16x1, .f32⟩
  | .hbm, ⟨13, _⟩ => ⟨S_, .f32⟩
  | .hbm, ⟨14, _⟩ => ⟨S16384x16x1, .f32⟩
  | .hbm, ⟨15, _⟩ => ⟨S16384x16x1, .f32⟩
  | .hbm, ⟨16, _⟩ => ⟨S_, .f32⟩
  | .hbm, ⟨17, _⟩ => ⟨S16384x16x1, .f32⟩
  | .hbm, ⟨18, _⟩ => ⟨S16384x16x1, .f32⟩
  | .hbm, ⟨19, _⟩ => ⟨S16384x16x1, .f32⟩
  | .hbm, ⟨20, _⟩ => ⟨S16384x16x64, .f32⟩
  | .hbm, ⟨21, _⟩ => ⟨S16384x16x64, .f32⟩
  | .hbm, ⟨22, _⟩ => ⟨S1x1x64, .f32⟩
  | .hbm, ⟨23, _⟩ => ⟨S16384x16x64, .f32⟩
  | .hbm, ⟨24, _⟩ => ⟨S16384x16x64, .f32⟩
  | .hbm, ⟨25, _⟩ => ⟨S16384x1024, .f32⟩
  | .hbm, ⟨26, _⟩ => ⟨S16384x1x16x64, .f32⟩
  | .hbm, ⟨27, _⟩ => ⟨S16384x16x64, .f32⟩
  | .hbm, ⟨28, _⟩ => ⟨S1x64, .f32⟩
  | .hbm, ⟨29, _⟩ => ⟨S64, .f32⟩
  | .hbm, ⟨30, _⟩ => ⟨S16384x16x64, .f32⟩
  | .hbm, ⟨31, _⟩ => ⟨S_, .f32⟩
  | .hbm, ⟨32, _⟩ => ⟨S16384x16, .f32⟩
  | .hbm, ⟨33, _⟩ => ⟨S16384x16x1, .f32⟩
  | .hbm, ⟨34, _⟩ => ⟨S_, .f32⟩
  | .hbm, ⟨35, _⟩ => ⟨S16384x16x1, .f32⟩
  | .hbm, ⟨36, _⟩ => ⟨S16384x16x1, .f32⟩
  | .hbm, ⟨37, _⟩ => ⟨S_, .f32⟩
  | .hbm, ⟨38, _⟩ => ⟨S16384x16x1, .f32⟩
  | .hbm, ⟨39, _⟩ => ⟨S16384x16x1, .f32⟩
  | .hbm, ⟨40, _⟩ => ⟨S16384x16x1, .f32⟩
  | .hbm, ⟨41, _⟩ => ⟨S16384x16x64, .f32⟩
  | .hbm, ⟨42, _⟩ => ⟨S16384x16x64, .f32⟩
  | .hbm, ⟨43, _⟩ => ⟨S1x1x64, .f32⟩
  | .hbm, ⟨44, _⟩ => ⟨S16384x16x64, .f32⟩
  | .hbm, ⟨45, _⟩ => ⟨S16384x16x64, .f32⟩
  | .hbm, ⟨46, _⟩ => ⟨S16384x1024, .f32⟩
  | .hbm, ⟨47, _⟩ => ⟨S16384x1024, .bf16⟩
  | .hbm, ⟨48, _⟩ => ⟨S16384x1024, .bf16⟩
  | .hbm, ⟨49, _⟩ => ⟨S16384x1x16x64, .f32⟩
  | .hbm, ⟨50, _⟩ => ⟨S16384x16x64, .f32⟩
  | .hbm, ⟨51, _⟩ => ⟨S16384x1024, .f32⟩
  | .hbm, ⟨52, _⟩ => ⟨S16384x1024, .bf16⟩
  | _, _ => ⟨S16384x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_cst_4 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩

abbrev nD : Nat := 1
abbrev τ : Topo := Topo.v7x

variable {F : FTy → Type} [FloatOps F]
-- ==== Glu.lean ====
abbrev S16384x4096 : Shape := ⟨2, ![16384, 4096]⟩
abbrev S2x8192x1024 : Shape := ⟨3, ![2, 8192, 1024]⟩
abbrev S2x64x16 : Shape := ⟨3, ![2, 64, 16]⟩
abbrev S2x1024x1024 : Shape := ⟨3, ![2, 1024, 1024]⟩
abbrev S2x1024 : Shape := ⟨2, ![2, 1024]⟩
abbrev S1x64x16 : Shape := ⟨3, ![1, 64, 16]⟩
abbrev S64x16 : Shape := ⟨2, ![64, 16]⟩
abbrev S1024 : Shape := ⟨1, ![1024]⟩
abbrev S1x1024x1024 : Shape := ⟨3, ![1, 1024, 1024]⟩
abbrev S1024x1024 : Shape := ⟨2, ![1024, 1024]⟩
abbrev S1x1024 : Shape := ⟨2, ![1, 1024]⟩
abbrev S8192x1024 : Shape := ⟨2, ![8192, 1024]⟩
abbrev S512x1024 : Shape := ⟨2, ![512, 1024]⟩
abbrev S2x512x1024 : Shape := ⟨3, ![2, 512, 1024]⟩
abbrev S1x512x1024 : Shape := ⟨3, ![1, 512, 1024]⟩

abbrev nBuf : Space → Nat
  | .hbm => 16
  | .vmem => 9
  | .smem => 0
  | _ => 0

abbrev bufTy : (tb : Table) → Fin (tcTables nBuf tb) → BufTy
  | .hbm, ⟨0, _⟩ => ⟨S16384x4096, .f32⟩
  | .hbm, ⟨1, _⟩ => ⟨S2x8192x1024, .f32⟩
  | .hbm, ⟨2, _⟩ => ⟨S2x64x16, .f32⟩
  | .hbm, ⟨3, _⟩ => ⟨S2x1024x1024, .f32⟩
  | .hbm, ⟨4, _⟩ => ⟨S2x1024, .f32⟩
  | .hbm, ⟨5, _⟩ => ⟨S1x64x16, .f32⟩
  | .hbm, ⟨6, _⟩ => ⟨S64x16, .f32⟩
  | .hbm, ⟨7, _⟩ => ⟨S1024, .f32⟩
  | .hbm, ⟨8, _⟩ => ⟨S1x1024x1024, .f32⟩
  | .hbm, ⟨9, _⟩ => ⟨S1024x1024, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S1024x1024, .bf16⟩
  | .hbm, ⟨14, _⟩ => ⟨S1x1024, .f32⟩
  | .hbm, ⟨15, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S2x512x1024, .f32⟩
  | .local _ .vmem, ⟨3, _⟩ => ⟨S2x512x1024, .f32⟩
  | .local _ .vmem, ⟨4, _⟩ => ⟨S1x1024, .f32⟩
  | .local _ .vmem, ⟨5, _⟩ => ⟨S1024x1024, .bf16⟩
  | .local _ .vmem, ⟨6, _⟩ => ⟨S1x1024, .f32⟩
  | .local _ .vmem, ⟨7, _⟩ => ⟨S512x1024, .bf16⟩
  | .local _ .vmem, ⟨8, _⟩ => ⟨S512x1024, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GluRefIdeal.lean ====
abbrev S16384x4096 : Shape := ⟨2, ![16384, 4096]⟩
abbrev S2x8192x1024 : Shape := ⟨3, ![2, 8192, 1024]⟩
abbrev S2x64x16 : Shape := ⟨3, ![2, 64, 16]⟩
abbrev S2x1024x1024 : Shape := ⟨3, ![2, 1024, 1024]⟩
abbrev S2x1024 : Shape := ⟨2, ![2, 1024]⟩
abbrev S1x64x16 : Shape := ⟨3, ![1, 64, 16]⟩
abbrev S64x16 : Shape := ⟨2, ![64, 16]⟩
abbrev S1024 : Shape := ⟨1, ![1024]⟩
abbrev S8192x1024 : Shape := ⟨2, ![8192, 1024]⟩
abbrev S1x1024 : Shape := ⟨2, ![1, 1024]⟩
abbrev S1x8192x1024 : Shape := ⟨3, ![1, 8192, 1024]⟩
abbrev S_ : Shape := ⟨0, ![]⟩
abbrev S1x1024x1024 : Shape := ⟨3, ![1, 1024, 1024]⟩
abbrev S1024x1024 : Shape := ⟨2, ![1024, 1024]⟩

abbrev nBuf : Space → Nat
  | .hbm => 53
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S2x8192x1024, .f32⟩
  | .hbm, ⟨2, _⟩ => ⟨S2x64x16, .f32⟩
  | .hbm, ⟨3, _⟩ => ⟨S2x1024x1024, .f32⟩
  | .hbm, ⟨4, _⟩ => ⟨S2x1024, .f32⟩
  | .hbm, ⟨5, _⟩ => ⟨S1x64x16, .f32⟩
  | .hbm, ⟨6, _⟩ => ⟨S64x16, .f32⟩
  | .hbm, ⟨7, _⟩ => ⟨S1024, .f32⟩
  | .hbm, ⟨8, _⟩ => ⟨S8192x1024, .f32⟩
  | .hbm, ⟨9, _⟩ => ⟨S1x1024, .f32⟩
  | .hbm, ⟨10, _⟩ => ⟨S8192x1024, .f32⟩
  | .hbm, ⟨11, _⟩ => ⟨S8192x1024, .f32⟩
  | .hbm, ⟨12, _⟩ => ⟨S1x8192x1024, .f32⟩
  | .hbm, ⟨13, _⟩ => ⟨S8192x1024, .f32⟩
  | .hbm, ⟨14, _⟩ => ⟨S8192x1024, .f32⟩
  | .hbm, ⟨15, _⟩ => ⟨S1x8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S1x1024x1024, .f32⟩
  | .hbm, ⟨36, _⟩ => ⟨S1024x1024, .f32⟩
  | .hbm, ⟨37, _⟩ => ⟨S8192x1024, .f32⟩
  | .hbm, ⟨38, _⟩ => ⟨S1x1024, .f32⟩
  | .hbm, ⟨39, _⟩ => ⟨S1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_3 : Ref sig .tc := ⟨.hbm, 45, rfl⟩
abbrev main_v36 : Ref sig .tc := ⟨.hbm, 46, rfl⟩
abbrev main_v37 : Ref sig .tc := ⟨.hbm, 47, rfl⟩
abbrev main_cst_4 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩

abbrev nD : Nat := 1
abbrev τ : Topo := Topo.v7x

variable {F : FTy → Type} [FloatOps F]
-- ==== Rg.lean ====
abbrev S2x8192x1024 : Shape := ⟨3, ![2, 8192, 1024]⟩
abbrev S16384x5120 : Shape := ⟨2, ![16384, 5120]⟩
abbrev S8192x1024 : Shape := ⟨2, ![8192, 1024]⟩
abbrev S2x512x1024 : Shape := ⟨3, ![2, 512, 1024]⟩
abbrev S512x1024 : Shape := ⟨2, ![512, 1024]⟩
abbrev S1x512x1024 : Shape := ⟨3, ![1, 512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2x8192x1024, .f32⟩
  | .hbm, ⟨1, _⟩ => ⟨S16384x5120, .f32⟩
  | .hbm, ⟨2, _⟩ => ⟨S8192x1024, .bf16⟩
  | .local _ .vmem, ⟨0, _⟩ => ⟨S2x512x1024, .f32⟩
  | .local _ .vmem, ⟨1, _⟩ => ⟨S2x512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c1_i32 : BitVec 32 := 1#32
  let c0_i32_0 : BitVec 32 := 0#32
  ![v0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RgRefIdeal.lean ====
abbrev S2x8192x1024 : Shape := ⟨3, ![2, 8192, 1024]⟩
abbrev S16384x5120 : Shape := ⟨2, ![16384, 5120]⟩
abbrev S1x8192x1024 : Shape := ⟨3, ![1, 8192, 1024]⟩
abbrev S8192x1024 : Shape := ⟨2, ![8192, 1024]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S16384x5120, .f32⟩
  | .hbm, ⟨2, _⟩ => ⟨S1x8192x1024, .f32⟩
  | .hbm, ⟨3, _⟩ => ⟨S8192x1024, .f32⟩
  | .hbm, ⟨4, _⟩ => ⟨S1x8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Ada.lean ====
abbrev S8x2048 : Shape := ⟨2, ![8, 2048]⟩
abbrev S4x2048x18432 : Shape := ⟨3, ![4, 2048, 18432]⟩
abbrev S4x18432 : Shape := ⟨2, ![4, 18432]⟩
abbrev S4x1x18432 : Shape := ⟨3, ![4, 1, 18432]⟩
abbrev S4x8x18432 : Shape := ⟨3, ![4, 8, 18432]⟩
abbrev S1x2048x1024 : Shape := ⟨3, ![1, 2048, 1024]⟩
abbrev S1x1x1024 : Shape := ⟨3, ![1, 1, 1024]⟩
abbrev S1x8x1024 : Shape := ⟨3, ![1, 8, 1024]⟩
abbrev S2048x1024 : Shape := ⟨2, ![2048, 1024]⟩
abbrev S8x1024 : Shape := ⟨2, ![8, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S4x2048x18432, .f32⟩
  | .hbm, ⟨2, _⟩ => ⟨S4x18432, .f32⟩
  | .hbm, ⟨3, _⟩ => ⟨S4x1x18432, .f32⟩
  | .hbm, ⟨4, _⟩ => ⟨S4x8x18432, .f32⟩
  | .local _ .vmem, ⟨0, _⟩ => ⟨S8x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 18], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaRefIdeal.lean ====
abbrev S8x2048 : Shape := ⟨2, ![8, 2048]⟩
abbrev S4x2048x18432 : Shape := ⟨3, ![4, 2048, 18432]⟩
abbrev S4x18432 : Shape := ⟨2, ![4, 18432]⟩
abbrev S_ : Shape := ⟨0, ![]⟩
abbrev S4x18432x8 : Shape := ⟨3, ![4, 18432, 8]⟩
abbrev S4x8x18432 : Shape := ⟨3, ![4, 8, 18432]⟩
abbrev S4x1x18432 : Shape := ⟨3, ![4, 1, 18432]⟩

abbrev nBuf : Space → Nat
  | .hbm => 17
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S4x2048x18432, .f32⟩
  | .hbm, ⟨2, _⟩ => ⟨S4x18432, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S4x18432x8, .f32⟩
  | .hbm, ⟨13, _⟩ => ⟨S4x8x18432, .f32⟩
  | .hbm, ⟨14, _⟩ => ⟨S4x1x18432, .f32⟩
  | .hbm, ⟨15, _⟩ => ⟨S4x8x18432, .f32⟩
  | .hbm, ⟨16, _⟩ => ⟨S4x8x18432, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Proof.Attn.Softmax.lean ====
/-
  The extended-real law under the attention claim. A kernel that keeps the weights `exp (s k - max s)` unnormalised
  and divides the weighted sum of the values once equals a reference that normalises every weight first, as soon as
  every score is finite: then the greatest score is finite, each weight is a positive real, and so is their sum.
-/
module

public import Idealize.ShloMosaic.PureOps.Ideal
public import Idealize.ShloMosaic.Lib.ValueIdx

@[expose] public section

noncomputable section

namespace Cert.Attn

open Idealize.ShloMosaic
open scoped BigOperators

/-- An extended real that is a real number. -/
def Finite (x : EReal) : Prop := ∃ r : ℝ, x = (r : EReal)

theorem Finite.mul {x y : EReal} (hx : Finite x) (hy : Finite y) : Finite (x * y) := by
  obtain ⟨a, rfl⟩ := hx; obtain ⟨b, rfl⟩ := hy; exact ⟨a * b, (EReal.coe_mul a b).symm⟩

theorem Finite.add {x y : EReal} (hx : Finite x) (hy : Finite y) : Finite (x + y) := by
  obtain ⟨a, rfl⟩ := hx; obtain ⟨b, rfl⟩ := hy; exact ⟨a + b, (EReal.coe_add a b).symm⟩

theorem Finite.sum {ι : Type*} (S : Finset ι) (f : ι → EReal) (h : ∀ i, Finite (f i)) : Finite (∑ i ∈ S, f i) := by
  classical
  induction S using Finset.induction_on with
  | empty => exact ⟨0, by simp⟩
  | insert i S hi ih => rw [Finset.sum_insert hi]; exact (h i).add ih

/-- A number whose absolute value is below `⊤` is finite. -/
theorem finite_of_abs_lt {x : EReal} (h : max x (-x) < ⊤) : Finite x := by
  induction x using EReal.rec with
  | bot => simp at h
  | top => simp at h
  | coe r => exact ⟨r, rfl⟩

/-- A sum of reals, read as extended reals, is their real sum. -/
theorem coe_sum {ι : Type*} (S : Finset ι) (f : ι → ℝ) : ((∑ i ∈ S, f i : ℝ) : EReal) = ∑ i ∈ S, (f i : EReal) := by
  classical
  induction S using Finset.induction_on with
  | empty => simp
  | insert i S hi ih => rw [Finset.sum_insert hi, Finset.sum_insert hi, EReal.coe_add, ih]

/-- A real factor that is not negative may be moved into a sum of extended reals. -/
theorem sum_mul_coe {ι : Type*} (S : Finset ι) (f : ι → EReal) (c : ℝ) (hc : 0 ≤ c) :
    (∑ i ∈ S, f i) * (c : EReal) = ∑ i ∈ S, f i * (c : EReal) := by
  classical
  induction S using Finset.induction_on with
  | empty => simp
  | insert i S hi ih =>
    rw [Finset.sum_insert hi, Finset.sum_insert hi, ← ih, mul_comm, mul_comm (f i), mul_comm (∑ i ∈ S, f i)]
    exact EReal.left_distrib_of_nonneg_of_ne_top (by exact_mod_cast hc) (EReal.coe_ne_top c) _ _

/-- The value the maximum of a row starts from. -/
theorem ofBits_neg_inf : Ideal.ofBits .f32 0xFF800000#32 = ⊥ := by simp [Ideal.ofBits, Ideal.ieee]

/-- The greatest score of a row. -/
def rowMax {n : Nat} (s : Fin n → EReal) : EReal := Finset.univ.fold max (Ideal.ofBits .f32 0xFF800000#32) s

/-- A key's weight before normalisation. -/
def weight {n : Nat} (s : Fin n → EReal) (k : Fin n) : EReal := Ideal.exp (s k - rowMax s)

/-- The kernel's form: the weighted sum of the values, divided once by the sum of the weights. -/
def attend {n : Nat} (s v : Fin n → EReal) : EReal := Ideal.div (∑ k, weight s k * v k) (∑ k, weight s k)

/-- The maximum of finitely many finite scores, at least one of them, is finite. -/
theorem finite_fold_max {ι : Type*} (S : Finset ι) (hS : S.Nonempty) (s : ι → EReal) (h : ∀ k, Finite (s k)) :
    Finite (S.fold max ⊥ s) := by
  classical
  induction hS using Finset.Nonempty.cons_induction with
  | singleton a => simpa using h a
  | cons a S ha hS ih =>
    rw [Finset.fold_cons]
    rcases max_choice (s a) (S.fold max ⊥ s) with e | e <;> rw [e]
    · exact h a
    · exact ih

theorem finite_rowMax {n : Nat} (hn : 0 < n) (s : Fin n → EReal) (h : ∀ k, Finite (s k)) : Finite (rowMax s) := by
  unfold rowMax; rw [ofBits_neg_inf]
  exact finite_fold_max _ ⟨⟨0, hn⟩, Finset.mem_univ _⟩ s h

/-- A finite score's weight is a positive real. -/
theorem weight_pos {n : Nat} (hn : 0 < n) (s : Fin n → EReal) (h : ∀ k, Finite (s k)) :
    ∃ w : Fin n → ℝ, (∀ k, 0 < w k) ∧ ∀ k, weight s k = (w k : EReal) := by
  obtain ⟨M, hM⟩ := finite_rowMax hn s h
  choose r hr using h
  refine ⟨fun k => Real.exp (r k - M), fun k => Real.exp_pos _, fun k => ?_⟩
  unfold weight; rw [hM, hr k, ← EReal.coe_sub]; rfl

/-- **Dividing once is normalising every weight**, for finite scores and any values. -/
theorem attend_eq {n : Nat} (hn : 0 < n) (s v : Fin n → EReal) (h : ∀ k, Finite (s k)) :
    attend s v = ∑ k, v k * Ideal.div (weight s k) (∑ k, weight s k) := by
  obtain ⟨w, hw, e⟩ := weight_pos hn s h
  have hpos : 0 < ∑ k, w k := Finset.sum_pos (fun k _ => hw k) ⟨⟨0, hn⟩, Finset.mem_univ _⟩
  have hl : ∑ k, weight s k = ((∑ k, w k : ℝ) : EReal) := by rw [coe_sum]; exact Finset.sum_congr rfl fun k _ => e k
  unfold attend
  rw [hl, Ideal.div_coe hpos.ne', sum_mul_coe _ _ _ (by positivity)]
  refine Finset.sum_congr rfl fun k _ => ?_
  rw [Ideal.div_coe hpos.ne', mul_comm (weight s k), mul_assoc]

end Cert.Attn

end
-- ==== Proof.Attn.CtxBlock.lean ====
/-
  One grid point of the context-attention kernel, read at an index. The block holds 256 rows (one sequence) of sixteen
  64-wide heads, stored two heads at a time. `headOut` is one head computed with the kernel's operations; every stored
  piece is two of them side by side, rounded; and the whole stored block is `blockOut` of the three input blocks.
-/
module

public import proofs.«01_k».proof.Proof.Attn.Softmax
public import proofs.«01_k».proof.Proof.Gen.CtxIdeal.Value
public import Idealize.ShloMosaic.Lib.MatmulPlain
public import Idealize.ShloMosaic.PureOps.Ideal.Laws

@[expose] public section

noncomputable section

namespace Cert.Attn

open Idealize.ShloMosaic Idealize.ShloMosaic.ValueIdx Cert.CtxIdeal Cert.CtxIdeal.Gen
open scoped BigOperators

/-- The scaled scores of one head, as the kernel computes them from its queries and keys. -/
def headScores (q k : FVec Ideal S256x64 .bf16) : FVec Ideal S256x256 .f32 :=
  mulf (matmul dot_S256x64_S256x64_S256x256_1_1_0_0_n_n none q k (constant S256x256 .f32 0x00000000#32))
    (broadcast S256x256 (Scalar.ofBits .f32 0x3E000000#32 : Ideal .f32))

/-- The weights of one head before normalisation. -/
def headWeights (q k : FVec Ideal S256x64 .bf16) : FVec Ideal S256x256 .f32 :=
  let mx : FVec Ideal S256 .f32 :=
    multiReduction .maximumf [1] S256 (headScores q k) 0xFF800000#32 reduces_S256x256_S256 (.inl rfl) rfl
  exp (subf (headScores q k) (broadcastTo S256x256 (shapeCast S256x1 mx shapeCasts_S256_S256x1) broadcasts_S256x1_S256x256))

/-- One head, as the kernel computes it: weights times values, divided by the sum of the weights. -/
def headOut (q k v : FVec Ideal S256x64 .bf16) : FVec Ideal S256x64 .f32 :=
  let e := headWeights q k
  let l : FVec Ideal S256 .f32 := multiReduction .add [1] S256 e 0x00000000#32 reduces_S256x256_S256 (.inl rfl) rfl
  divf (matmul dot_S256x256_S256x64_S256x64_1_0_0_1_n_n none (truncf .bf16 e bitsLt_bf16_f32 : FVec Ideal S256x256 .bf16) v
      (constant S256x64 .f32 0x00000000#32))
    (broadcastTo S256x64 (shapeCast S256x1 l shapeCasts_S256_S256x1) broadcasts_S256x1_S256x64)

/-- Two heads side by side, rounded: what one store writes. -/
def pairOut (a b : FVec Ideal S256x64 .f32) : FVec Ideal S256x128 .bf16 :=
  truncf .bf16 (concatenate S256x128 1 [⟨S256x64, a⟩, ⟨S256x64, b⟩] concatenates_S256x64_S256x64_S256x128_d1) bitsLt_bf16_f32

/-- A query row's scores against every key row, scaled. -/
def scores {n d : Nat} (q : Fin d → EReal) (k : Fin n → Fin d → EReal) (c : Fin n) : EReal :=
  (∑ x, q x * k c x) * Ideal.ofBits .f32 0x3E000000#32

/-- A column of 256 row values spread over the columns of a block reads its row's value. -/
theorem column_apply {n : Nat} (x : FVec Ideal S256 .f32) (hc : S256.ShapeCasts S256x1)
    (hb : S256x1.Broadcasts (⟨2, ![256, n]⟩ : Shape)) (r : Fin 256) (c : Fin n) :
    broadcastTo (⟨2, ![256, n]⟩ : Shape) (shapeCast S256x1 x hc) hb (ix2 r c) = x (ix1 r) := by
  rw [broadcastTo_apply _ _ _ (ix2 r (0 : Fin 1)) (fun a => by match a with | ⟨0, _⟩ => rfl | ⟨1, _⟩ => rfl)]
  exact shapeCast_apply _ _ _ _ (by rw [Shape.rowMajor_val_one, Shape.rowMajor_val_two]; simp)

/-- The kernel's row maximum and row sum, read at a row. -/
theorem rowMax_apply (s : FVec Ideal S256x256 .f32) (h : S256x256.Reduces [1] S256) (hφ) (hacc) (r : Fin 256) :
    multiReduction .maximumf [1] S256 s 0xFF800000#32 h hφ hacc (ix1 r) = rowMax fun b : Fin 256 => s (ix2 r b) := by
  rw [Ideal.multiReduction_maximumf_single]
  refine congrArg (Finset.fold max _ · _) (funext fun b => ?_)
  exact congrArg s (funext fun a => by match a with | ⟨0, _⟩ => rfl | ⟨1, _⟩ => rfl)

theorem rowSum_apply (s : FVec Ideal S256x256 .f32) (h : S256x256.Reduces [1] S256) (hφ) (hacc) (r : Fin 256) :
    multiReduction .add [1] S256 s 0x00000000#32 h hφ hacc (ix1 r) = ∑ b : Fin 256, s (ix2 r b) := by
  rw [Ideal.multiReduction_add_single]
  refine Finset.sum_congr rfl fun b _ => ?_
  exact congrArg s (funext fun a => by match a with | ⟨0, _⟩ => rfl | ⟨1, _⟩ => rfl)

theorem headScores_apply (q k : FVec Ideal S256x64 .bf16) (a b : Fin 256) :
    headScores q k (ix2 a b) = scores (fun x => q (ix2 a x)) (fun c x => k (ix2 c x)) b := by
  unfold headScores
  rw [mulf_apply]
  refine congrArg₂ (· * ·) ?_ rfl
  refine (Ideal.matmul_transposedRhs_apply (M := 256) (K := 64) (N := 256) none q k _ a b).trans ?_
  show Ideal.ofBits .f32 0x00000000#32 + _ = _
  rw [Ideal.ofBits_zero_f32, zero_add]

theorem headWeights_apply (q k : FVec Ideal S256x64 .bf16) (r c : Fin 256) :
    headWeights q k (ix2 r c) = weight (scores (fun x => q (ix2 r x)) (fun c x => k (ix2 c x))) c := by
  have hm : rowMax (fun b : Fin 256 => headScores q k (ix2 r b)) = rowMax (scores (fun x => q (ix2 r x)) (fun c x => k (ix2 c x))) :=
    congrArg rowMax (funext (headScores_apply q k r))
  unfold headWeights weight
  show Ideal.exp (_ - _) = _
  rw [column_apply, headScores_apply, ← hm]
  refine congrArg Ideal.exp (congrArg₂ (· - ·) rfl ?_)
  exact rowMax_apply (headScores q k) _ _ _ r

theorem headOut_apply (q k v : FVec Ideal S256x64 .bf16) (r : Fin 256) (c : Fin 64) :
    headOut q k v (ix2 r c)
      = attend (scores (fun x => q (ix2 r x)) (fun c x => k (ix2 c x))) (fun b => v (ix2 b c)) := by
  unfold headOut attend
  dsimp only
  rw [divf_apply, column_apply]
  refine congrArg₂ Ideal.div ?_ ((rowSum_apply _ _ _ _ r).trans (Finset.sum_congr rfl fun b _ => headWeights_apply q k r b))
  refine (Ideal.matmul_plain_apply (M := 256) (K := 256) (N := 64) none _ v _ r c).trans ?_
  show Ideal.ofBits .f32 0x00000000#32 + _ = _
  rw [Ideal.ofBits_zero_f32, zero_add]
  exact Finset.sum_congr rfl fun b _ => by rw [truncf_apply, headWeights_apply]

/-- The stored block: row `r`, column `c` is head `c / 64` at its coordinate `c % 64`. -/
def blockOut (q k v : FVec Ideal S256x1024 .bf16) (i : S256x1024.Idx) : EReal :=
  let at64 (x : Fin 64) : Fin 1024 := ⟨(i 1).val / 64 * 64 + x.val, by have := idx2_lt1 i; have := x.isLt; omega⟩
  attend (scores (fun x => q (ix2 (i 0) (at64 x))) (fun b x => k (ix2 b (at64 x)))) (fun b => v (ix2 b (i 1)))

/-- 64 columns of a block from column `p` on. -/
abbrev cols64 (x : FVec Ideal S256x1024 .bf16) (p : Nat) (h : ∀ a, ![0, p] a + S256x64.size a ≤ S256x1024.size a) :
    FVec Ideal S256x64 .bf16 :=
  View.ld (Val := Elt Ideal) (e' := .bf16) x (Rect.unit (s := S256x1024) ![0, p] S256x64.size h)

theorem cols64_apply (x : FVec Ideal S256x1024 .bf16) (p : Nat) (h) (r : Fin 256) (z : Fin 64) (w : Fin 1024)
    (hw : w.val = p + z.val) : cols64 x p h (ix2 r z) = x (ix2 r w) := by
  unfold cols64
  rw [View.ld_unit]
  refine extractStridedSlice_apply _ _ _ _ _ fun a => ?_
  match a with
  | ⟨0, _⟩ => simp
  | ⟨1, _⟩ => simpa using hw

/-- One head of a block, loaded at column `p`, holds `blockOut` at the columns `p ..< p + 64`. -/
theorem head_cols (x0 x1 x2 : FVec Ideal S256x1024 .bf16) (p : Nat) (h) (hp : p % 64 = 0) (r : Fin 256) (z : Fin 64)
    (w : Fin 1024) (hw : w.val = p + z.val) :
    headOut (cols64 x0 p h) (cols64 x1 p h) (cols64 x2 p h) (ix2 r z) = blockOut x0 x1 x2 (ix2 r w) := by
  rw [headOut_apply]
  have hz := z.isLt
  have hq : w.val / 64 * 64 = p := by omega
  unfold blockOut
  refine congrArg₂ attend (congrArg₂ scores (funext fun x => ?_) (funext fun b => funext fun x => ?_)) (funext fun b => ?_)
  · exact cols64_apply _ _ _ _ _ _ (by simp [hq])
  · exact cols64_apply _ _ _ _ _ _ (by simp [hq])
  · exact cols64_apply _ _ _ _ _ _ hw

/-- A piece of the store: two heads loaded at neighbouring column offsets hold `blockOut` at the columns they name. -/
theorem pair_eq (x0 x1 x2 : FVec Ideal S256x1024 .bf16) (o p : Nat) (h0) (h1)
    (h2 : ∀ a, ![0, o] a + S256x128.size a ≤ S256x1024.size a) (ho : o % 64 = 0) (hp : p = o + 64) (x : S256x128.Idx) :
    pairOut (headOut (cols64 x0 o h0) (cols64 x1 o h0) (cols64 x2 o h0))
      (headOut (cols64 x0 p h1) (cols64 x1 p h1) (cols64 x2 p h1)) x
      = blockOut x0 x1 x2 ((Rect.unit (s := S256x1024) ![0, o] S256x128.size h2).emb x) := by
  have hc := idx2_lt1 x
  have e : (Rect.unit (s := S256x1024) ![0, o] S256x128.size h2).emb x
      = ix2 (x 0) (⟨o + (x 1).val, by have := h2 1; simp at this; omega⟩ : Fin 1024) := by
    funext a; apply Fin.ext
    match a with
    | ⟨0, _⟩ => show 0 + 1 * (x 0).val = (x 0).val; omega
    | ⟨1, _⟩ => show o + 1 * (x 1).val = o + (x 1).val; omega
  rw [e]
  unfold pairOut
  rw [truncf_apply]
  by_cases hlt : (x 1).val < 64
  · rw [concatenate_pair_apply_left (t := S256x128) (s₁ := S256x64) (s₂ := S256x64) 1 _ _ _ x rfl (ix2 (x 0) ⟨(x 1).val, hlt⟩)
      (fun b => by match b with | ⟨0, _⟩ => rfl | ⟨1, _⟩ => rfl)]
    exact head_cols x0 x1 x2 o h0 ho (x 0) _ _ rfl
  · rw [concatenate_pair_apply_right (t := S256x128) (s₁ := S256x64) (s₂ := S256x64) 1 _ _ _ x rfl rfl
      (ix2 (x 0) ⟨(x 1).val - 64, by omega⟩) (fun b hb => by match b with | ⟨0, _⟩ => rfl | ⟨1, _⟩ => exact absurd rfl hb)
      (by show (x 1).val - 64 + 64 = (x 1).val; omega)]
    exact head_cols x0 x1 x2 p h1 (by omega) (x 0) _ _ (by subst hp; show o + (x 1).val = o + 64 + ((x 1).val - 64); omega)

set_option maxRecDepth 8192 in
/-- **What one grid point stores is `blockOut` of its three input blocks.** -/
theorem out_eq (x0 x1 x2 : FVec Ideal S256x1024 .bf16) : out0_3 (F := Ideal) x0 x1 x2 = blockOut x0 x1 x2 := by
  funext y
  refine View.canon_apply_of_pieces (Val := Elt Ideal) (e := .bf16) (blockOut x0 x1 x2) _ ?_ y (cover0_3 _ _ _ _ _ _ _ _ y)
  intro p hp
  simp only [List.mem_cons, List.not_mem_nil, or_false] at hp
  rcases hp with rfl | rfl | rfl | rfl | rfl | rfl | rfl | rfl <;> intro x
  · exact pair_eq x0 x1 x2 896 960 inb_S256x1024_S256x64_0_896 inb_S256x1024_S256x64_0_960 inb_S256x1024_S256x128_0_896 rfl rfl x
  · exact pair_eq x0 x1 x2 768 832 inb_S256x1024_S256x64_0_768 inb_S256x1024_S256x64_0_832 inb_S256x1024_S256x128_0_768 rfl rfl x
  · exact pair_eq x0 x1 x2 640 704 inb_S256x1024_S256x64_0_640 inb_S256x1024_S256x64_0_704 inb_S256x1024_S256x128_0_640 rfl rfl x
  · exact pair_eq x0 x1 x2 512 576 inb_S256x1024_S256x64_0_512 inb_S256x1024_S256x64_0_576 inb_S256x1024_S256x128_0_512 rfl rfl x
  · exact pair_eq x0 x1 x2 384 448 inb_S256x1024_S256x64_0_384 inb_S256x1024_S256x64_0_448 inb_S256x1024_S256x128_0_384 rfl rfl x
  · exact pair_eq x0 x1 x2 256 320 inb_S256x1024_S256x64_0_256 inb_S256x1024_S256x64_0_320 inb_S256x1024_S256x128_0_256 rfl rfl x
  · exact pair_eq x0 x1 x2 128 192 inb_S256x1024_S256x64_0_128 inb_S256x1024_S256x64_0_192 inb_S256x1024_S256x128_0_128 rfl rfl x
  · exact pair_eq x0 x1 x2 0 64 inb_S256x1024_S256x64_0_0 inb_S256x1024_S256x64_0_64 inb_S256x1024_S256x128_0_0 rfl rfl x

end Cert.Attn

end
-- ==== Proof.Attn.CtxArray.lean ====
/-
  The context-attention kernel's result array. Grid point `t` writes back rows `256 t ..< 256 t + 256`, computed from
  the same rows of the queries, keys and values; so the array is `ctxOut` of the three argument arrays: every row attends,
  head by head, to the 256 rows of its own sequence.
-/
module

public import proofs.«01_k».proof.Proof.Attn.CtxBlock
public import Idealize.ShloMosaic.Lib.Pipeline.ValueKit.Geometry

@[expose] public section

noncomputable section

namespace Cert.Attn

open Idealize.ShloMosaic Idealize.ShloMosaic.ValueIdx Idealize.ShloMosaic.TcCoe Cert.CtxIdeal Cert.CtxIdeal.Gen
open scoped BigOperators

/-- Row `b` of the sequence that holds row `i`. -/
def seqRow (i : Fin 8192) (b : Fin 256) : Fin 16384 :=
  ⟨i.val / 256 * 256 + b.val, by have := i.isLt; have := b.isLt; omega⟩

/-- Coordinate `x` of the head that holds column `j`. -/
def headCol (j : Fin 1024) (x : Fin 64) : Fin 1024 := ⟨j.val / 64 * 64 + x.val, by have := j.isLt; have := x.isLt; omega⟩

/-- The scaled scores of row `i` against the rows of its sequence, in the head that holds column `j`. -/
def ctxScores (q k : FVec Ideal S16384x1024 .bf16) (i : Fin 8192) (j : Fin 1024) : Fin 256 → EReal :=
  scores (fun x => q (ix2 (⟨i.val, by have := i.isLt; omega⟩ : Fin 16384) (headCol j x)))
    (fun b x => k (ix2 (seqRow i b) (headCol j x)))

/-- Attention within sequences of 256 rows, in sixteen heads of 64 columns. -/
def ctxOut (q k v : FVec Ideal S16384x1024 .bf16) (i : S8192x1024.Idx) : EReal :=
  attend (ctxScores q k (i 0) (i 1)) (fun b => v (ix2 (seqRow (i 0) b) (i 1)))

variable (m : (ℓ : Loc nD τ sig) → Buf (Elt Ideal) ℓ)

/-- Every window's block at point `t` is block `t` of rows. -/
theorem index_rows : ∀ t : Fin cfg0.N, win0_0.index t = ![t.val, 0] ∧ win0_1.index t = ![t.val, 0]
    ∧ win0_2.index t = ![t.val, 0] ∧ win0_3.index t = ![t.val, 0] :=
  (by decide +kernel : ∀ t : Fin grid0.N, _)

/-- The queries' block at point `t`, at an index. -/
theorem block0_apply (c : Dev nD) (t : Fin cfg0.N) (r : Fin 256) (w : Fin 1024) (R : Fin 16384) (W : Fin 1024)
    (hR : R.val = t.val * 256 + r.val) (hW : W = w) :
    iblk m c 0 t (ix2 r w) = m ((c : Thread nD τ).loc main_arg0) (ix2 R W) := by
  subst hW
  have e := (index_rows t).1
  blk_simp [iblk]
  rw [V_main_arg0]
  refine congrArg _ (funext fun a => Fin.ext ?_)
  match a with
  | ⟨0, _⟩ => blk_simp [e]; exact hR.symm
  | ⟨1, _⟩ => blk_simp [e]

/-- The keys' block at point `t`, at an index. -/
theorem block1_apply (c : Dev nD) (t : Fin cfg0.N) (r : Fin 256) (w : Fin 1024) (R : Fin 16384) (W : Fin 1024)
    (hR : R.val = t.val * 256 + r.val) (hW : W = w) :
    iblk m c 1 t (ix2 r w) = m ((c : Thread nD τ).loc main_arg1) (ix2 R W) := by
  subst hW
  have e := (index_rows t).2.1
  blk_simp [iblk]
  rw [V_main_arg1]
  refine congrArg _ (funext fun a => Fin.ext ?_)
  match a with
  | ⟨0, _⟩ => blk_simp [e]; exact hR.symm
  | ⟨1, _⟩ => blk_simp [e]

/-- The values' block at point `t`, at an index. -/
theorem block2_apply (c : Dev nD) (t : Fin cfg0.N) (r : Fin 256) (w : Fin 1024) (R : Fin 16384) (W : Fin 1024)
    (hR : R.val = t.val * 256 + r.val) (hW : W = w) :
    iblk m c 2 t (ix2 r w) = m ((c : Thread nD τ).loc main_arg2) (ix2 R W) := by
  subst hW
  have e := (index_rows t).2.2.1
  blk_simp [iblk]
  rw [V_main_arg2]
  refine congrArg _ (funext fun a => Fin.ext ?_)
  match a with
  | ⟨0, _⟩ => blk_simp [e]; exact hR.symm
  | ⟨1, _⟩ => blk_simp [e]

/-- The result array after the run. -/
theorem ctx_array (c : Dev nD) : (dats m 0 c).arrAt 3 cfg0.N
    = ctxOut (m ((c : Thread nD τ).loc main_arg0)) (m ((c : Thread nD τ).loc main_arg1)) (m ((c : Thread nD τ).loc main_arg2)) := by
  refine (dats m 0 c).arrAt_eq_of_covers 3 _ (by decide +kernel) fun t hf y => ?_
  have e := (index_rows t).2.2.2
  have ht : t.val < 32 := lt_of_lt_of_eq t.isLt N_0
  blk_simp
  rw [after0_3, out_eq]
  have hy0 : (y 0).val < 256 := (y 0).isLt
  have hy1 : (y 1).val < 1024 := (y 1).isLt
  have h0 : (((cfg0.win 3).blk t).view.emb y 0).val = t.val * 256 + (y 0).val := by blk_simp [e]
  have h1 : (((cfg0.win 3).blk t).view.emb y 1).val = (y 1).val := by blk_simp [e]
  unfold blockOut ctxOut ctxScores
  refine congrArg₂ attend (congrArg₂ scores (funext fun x => ?_) (funext fun b => funext fun x => ?_)) (funext fun b => ?_)
  · exact block0_apply m c t _ _ _ _ h0 (Fin.ext (by show _ / 64 * 64 + _ = _; rw [h1]))
  · exact block1_apply m c t _ _ _ _ (by show _ / 256 * 256 + _ = _; rw [h0]; omega) (Fin.ext (by show _ / 64 * 64 + _ = _; rw [h1]))
  · exact block2_apply m c t _ _ _ _ (by show _ / 256 * 256 + _ = _; rw [h0]; omega) (Fin.ext h1)

end Cert.Attn

end
-- ==== Proof.Attn.CtxRef.lean ====
/-
  The reference attention read at an index: the softmax is normalised first and then applied to the values. With finite
  queries and keys this is `ctxOut`, where the division comes last.
-/
module

public import proofs.«01_k».proof.Proof.Attn.CtxArray
public import proofs.«01_k».proof.Proof.Gen.CtxRefIdeal.Read
public import Idealize.ShloMosaic.PureOps.Reduce

@[expose] public section

noncomputable section

namespace Cert.Attn

open Idealize.ShloMosaic Idealize.ShloMosaic.ValueIdx Cert.CtxRefIdeal Cert.CtxRefIdeal.Gen Cert.CtxRefIdeal.Read
open scoped BigOperators

variable (q k v : FVec Ideal S16384x1024 .bf16)

/-- The reference's index of sequence `b`, head `h`, rows `r` and `c` of the sequence. -/
abbrev at4 (b : Fin 32) (h : Fin 16) (r c : Fin 256) : S32x16x256x256.Idx := fun a => match a with
  | ⟨0, _⟩ => b | ⟨1, _⟩ => h | ⟨2, _⟩ => r | ⟨3, _⟩ => c

/-- The reference's index of sequence `b`, head `h`, row `r`. -/
abbrev at3 (b : Fin 32) (h : Fin 16) (r : Fin 256) : S32x16x256.Idx := fun a => match a with
  | ⟨0, _⟩ => b | ⟨1, _⟩ => h | ⟨2, _⟩ => r

/-- The row of sequence `b`, place `r`. -/
abbrev rowOf (b : Fin 32) (r : Fin 256) : Fin 8192 := ⟨b.val * 256 + r.val, by have := b.isLt; have := r.isLt; omega⟩

/-- The first column of head `h`, plus `x`. -/
abbrev colOf (h : Fin 16) (x : Fin 64) : Fin 1024 := ⟨h.val * 64 + x.val, by have := h.isLt; have := x.isLt; omega⟩

/-- The scores. -/
theorem ref_scores (b : Fin 32) (h : Fin 16) (r c : Fin 256) :
    val_main_v11 (F := Ideal) q k (at4 b h r c) = ctxScores q k (rowOf b r) (colOf h 0) c := by
  rw [val_main_v11_apply, val_main_v9_apply, val_main_v10_apply, val_main_cst_apply]
  have hb := b.isLt
  have hh := h.isLt
  have hr := r.isLt
  have hc := c.isLt
  unfold ctxScores scores
  refine congrArg (· * Ideal.ofBits .f32 0x3E000000#32) (Finset.sum_congr rfl fun x _ => ?_)
  have hx := x.isLt
  rw [val_main_v2_apply, val_main_v5_apply, val_main_v1_apply, val_main_v4_apply, val_main_v0_apply, val_main_v3_apply]
  refine congrArg₂ (· * ·) (congrArg q (funext fun a => Fin.ext ?_)) (congrArg k (funext fun a => Fin.ext ?_))
  · match a with
    | ⟨0, _⟩ => show (((b.val * 256 + r.val) * 16 + h.val) * 64 + x.val) / 1024 = b.val * 256 + r.val; omega
    | ⟨1, _⟩ => show (((b.val * 256 + r.val) * 16 + h.val) * 64 + x.val) % 1024 = (h.val * 64 + 0) / 64 * 64 + x.val; omega
  · match a with
    | ⟨0, _⟩ => show (((b.val * 256 + c.val) * 16 + h.val) * 64 + x.val) / 1024 = (b.val * 256 + r.val) / 256 * 256 + c.val; omega
    | ⟨1, _⟩ => show (((b.val * 256 + c.val) * 16 + h.val) * 64 + x.val) % 1024 = (h.val * 64 + 0) / 64 * 64 + x.val; omega

/-- The maximum over a row of scores. -/
theorem ref_max (b : Fin 32) (h : Fin 16) (r : Fin 256) :
    val_main_v14 (F := Ideal) q k (at3 b h r) = rowMax (ctxScores q k (rowOf b r) (colOf h 0)) := by
  rw [val_main_v14_apply, val_main_v13_apply, val_main_cst_1_apply]
  have e : val_main_v12 (F := Ideal) q k (at3 b h r) = rowMax (ctxScores q k (rowOf b r) (colOf h 0)) := by
    have hr : S32x16x256x256.Reduces [3] S32x16x256 := by decide
    unfold val_main_v12 rowMax
    generalize hy : val_main_v11 (F := Ideal) q k = y
    rw [Host.reduce_eq_fold, Shape.ReducesTo.drop_eq_drop _ hr]
    refine (hr.fold_filter_drop_single _ _ y _).trans (congrArg (Finset.univ.fold max _) (funext fun c => ?_))
    refine Eq.trans ?_ ((congrFun hy (at4 b h r c)).symm.trans (ref_scores q k b h r c))
    refine congrArg y (funext fun a => Fin.ext ?_)
    match a with | ⟨0, _⟩ => rfl | ⟨1, _⟩ => rfl | ⟨2, _⟩ => rfl | ⟨3, _⟩ => rfl
  rw [e]
  show max (Ideal.ofBits .f32 0xFF800000#32) _ = _
  rw [ofBits_neg_inf]
  exact max_eq_right bot_le

/-- The weights before normalisation. -/
theorem ref_weights (b : Fin 32) (h : Fin 16) (r c : Fin 256) :
    val_main_v18 (F := Ideal) q k (at4 b h r c) = weight (ctxScores q k (rowOf b r) (colOf h 0)) c := by
  rw [val_main_v18_apply, val_main_v17_apply, val_main_v16_apply, val_main_v15_apply, ref_scores]
  have e : idx_main_v15 (idx_main_v16 (at4 b h r c)) = at3 b h r := by
    funext a; match a with | ⟨0, _⟩ => rfl | ⟨1, _⟩ => rfl | ⟨2, _⟩ => rfl
  rw [e, ref_max]
  rfl

/-- The normalised weights. -/
theorem ref_softmax (b : Fin 32) (h : Fin 16) (r c : Fin 256) :
    val_main_v22 (F := Ideal) q k (at4 b h r c)
      = Ideal.div (weight (ctxScores q k (rowOf b r) (colOf h 0)) c) (∑ c', weight (ctxScores q k (rowOf b r) (colOf h 0)) c') := by
  rw [val_main_v22_apply, val_main_v21_apply, val_main_v20_apply, ref_weights]
  have e : idx_main_v20 (idx_main_v21 (at4 b h r c)) = at3 b h r := by
    funext a; match a with | ⟨0, _⟩ => rfl | ⟨1, _⟩ => rfl | ⟨2, _⟩ => rfl
  rw [e, val_main_v19_apply, val_main_cst_2_apply]
  refine congrArg (Ideal.div _) ?_
  show Ideal.ofBits .f32 0x00000000#32 + _ = _
  rw [Ideal.ofBits_zero_f32, zero_add]
  refine Finset.sum_congr rfl fun c' _ => ?_
  rw [← ref_weights]
  refine congrArg _ (funext fun a => ?_)
  match a with | ⟨0, _⟩ => rfl | ⟨1, _⟩ => rfl | ⟨2, _⟩ => rfl | ⟨3, _⟩ => rfl

/-- **The reference is `ctxOut`** when the queries and keys are finite. -/
theorem ref_eq (hq : ∀ i, Finite (q i)) (hk : ∀ i, Finite (k i)) : val_main_v26 (F := Ideal) q k v = ctxOut q k v := by
  funext i
  have h0 : (i 0).val < 8192 := (i 0).isLt
  have h1 : (i 1).val < 1024 := (i 1).isLt
  rw [val_main_v26_apply, val_main_v25_apply, val_main_v24_apply]
  show val_main_v23 (F := Ideal) q k v _ = _
  rw [val_main_v23_apply]
  unfold ctxOut
  rw [attend_eq (by decide)]
  · refine Finset.sum_congr rfl fun c _ => ?_
    have hc := c.isLt
    have ei : ridx_main_v23 (idx_main_v24 (idx_main_v25 i)) c
        = at4 ⟨(i 0).val / 256, by omega⟩ ⟨(i 1).val / 64, by omega⟩ ⟨(i 0).val % 256, by omega⟩ c := by
      funext a; apply Fin.ext
      match a with
      | ⟨0, _⟩ => show ((i 0).val * 1024 + (i 1).val) / 262144 = (i 0).val / 256; omega
      | ⟨1, _⟩ => show ((i 0).val * 1024 + (i 1).val) / 64 % 16 = (i 1).val / 64; omega
      | ⟨2, _⟩ => show ((i 0).val * 1024 + (i 1).val) / 1024 % 256 = (i 0).val % 256; omega
      | ⟨3, _⟩ => rfl
    have es : ctxScores q k (rowOf ⟨(i 0).val / 256, by omega⟩ ⟨(i 0).val % 256, by omega⟩) (colOf ⟨(i 1).val / 64, by omega⟩ 0)
        = ctxScores q k (i 0) (i 1) := by
      have er : rowOf ⟨(i 0).val / 256, by omega⟩ ⟨(i 0).val % 256, by omega⟩ = i 0 :=
        Fin.ext (by show (i 0).val / 256 * 256 + (i 0).val % 256 = (i 0).val; omega)
      rw [er]
      unfold ctxScores
      have ec : headCol (colOf ⟨(i 1).val / 64, by omega⟩ 0) = headCol (i 1) :=
        funext fun x => Fin.ext (by show ((i 1).val / 64 * 64 + 0) / 64 * 64 + x.val = (i 1).val / 64 * 64 + x.val; omega)
      rw [ec]
    rw [ei, ref_softmax, es, val_main_v8_apply, val_main_v7_apply, val_main_v6_apply]
    refine congrArg (· * _) (congrArg v (funext fun a => Fin.ext ?_))
    match a with
    | ⟨0, _⟩ =>
      show ((((((i 0).val * 1024 + (i 1).val) / 262144) * 256 + c.val) * 16 + ((i 0).val * 1024 + (i 1).val) / 64 % 16) * 64
        + ((i 0).val * 1024 + (i 1).val) % 64) / 1024 = (i 0).val / 256 * 256 + c.val
      omega
    | ⟨1, _⟩ =>
      show ((((((i 0).val * 1024 + (i 1).val) / 262144) * 256 + c.val) * 16 + ((i 0).val * 1024 + (i 1).val) / 64 % 16) * 64
        + ((i 0).val * 1024 + (i 1).val) % 64) % 1024 = (i 1).val
      omega
  · intro c
    exact Finite.mul (Finite.sum _ _ fun x => (hq _).mul (hk _)) ⟨1 / 8, by
      simp [Ideal.ofBits, Ideal.ieee]; rw [← EReal.coe_mul]; norm_num⟩

end Cert.Attn

end
-- ==== Proof.Attn.Ctx.lean ====
/-
  The claims about the context attention: the reference's frame, and the equality of the kernel's result array with the
  reference's, for finite queries and keys.
-/
module

public import proofs.«01_k».proof.Proof.Attn.CtxRef
public import proofs.«01_k».proof.Proof.Gen.CtxRefIdeal.Run
public import proofs.«01_k».proof.Defs

@[expose] public section

noncomputable section

namespace Cert.Attn

open Idealize.ShloMosaic Idealize.ShloMosaic.TcCoe Idealize.SL.Sem

instance pre_facts : Cert.Pre_finite_queries_keys.Facts := ⟨by decide⟩

/-- The precondition says that no query and no key is infinite. -/
theorem finite_of_pre (q k v : FVec Ideal Cert.Pre_finite_queries_keys.S16384x1024 .bf16)
    (h : (Cert.Pre_finite_queries_keys.fn (F := Ideal) q k v).1 = (fun _ => 1#1)
      ∧ (Cert.Pre_finite_queries_keys.fn (F := Ideal) q k v).2 = (fun _ => 1#1)) :
    (∀ i, Finite (q i)) ∧ ∀ i, Finite (k i) := by
  have inf : Ideal.ofBits .bf16 0x7F80#16 = ⊤ := by simp [Ideal.ofBits, Ideal.ieee]
  have step : ∀ (x : FVec Ideal Cert.Pre_finite_queries_keys.S16384x1024 .bf16) i,
      Ideal.cmp .olt (max (x i) (-(x i))) (Ideal.ofBits .bf16 0x7F80#16) = 1#1 → Finite (x i) := by
    intro x i hx
    refine finite_of_abs_lt ?_
    rw [inf] at hx
    by_contra hn
    simp [Ideal.cmp, hn] at hx
  exact ⟨fun i => step q i (congrFun h.1 i), fun i => step k i (congrFun h.2 i)⟩

theorem ref_frame : Cert.quiescent_CtxRefIdeal := fun m ρ _ =>
  (θ_run Cert.CtxRefIdeal.defs _ _).mono (fun r h => ⟨fun c => (h c).2, sem_eq_zero_of_no_sems (by decide) r.2⟩)
    (Cert.CtxRefIdeal.Value.run (F := Ideal) m ρ)

/-- **The kernel computes the reference's attention.** -/
theorem ctx_value : Cert.algebraic_CtxIdeal_CtxRefIdeal_pre_finite_queries_keys := by
  intro m ρ m' ρ' hpre hagree
  refine ⟨fun c => ctxOut (m ((c.tc : Thread _ _).loc Cert.CtxIdeal.main_arg0)) (m ((c.tc : Thread _ _).loc Cert.CtxIdeal.main_arg1))
    (m ((c.tc : Thread _ _).loc Cert.CtxIdeal.main_arg2)), ?_, ?_⟩
  · exact (θ_run _ _ _).mono (fun r h c => ⟨(h c).1.trans (ctx_array m c), (h c).2⟩)
      (Cert.CtxIdeal.Value.run_blocks (F := Ideal) m ρ)
  · refine (θ_run _ _ _).mono (fun r h c => ⟨(h c).1.trans ?_, (h c).2⟩) (Cert.CtxRefIdeal.Value.run (F := Ideal) m' ρ')
    obtain ⟨hq, hk⟩ := finite_of_pre _ _ _ (hpre c)
    refine (Cert.CtxRefIdeal.Read.val_main_v26_eq _ _ _).trans ?_
    rw [(hagree c).1, (hagree c).2.1, (hagree c).2.2]
    exact ref_eq _ _ _ hq hk

end Cert.Attn

end
-- ==== Proof.Ffn.Swiglu.lean ====
/-
  The feed-forward half layer on one row of 2048 numbers, over the extended reals: the root-mean-square normalisation with
  its adaptive scale and shift, the gated hidden values, and the gated residual. Kernel and reference both come to these
  words, the kernel with the 5632 hidden columns in eleven groups of 512.
-/
module

public import Idealize.ShloMosaic.Lib.ValueIdx
public import Idealize.ShloMosaic.PureOps.Ideal.Laws
public import Idealize.ShloMosaic.Lib.Pipeline.ValueKit.Acc

@[expose] public section

noncomputable section

namespace Cert.Ffn

open Idealize.ShloMosaic
open scoped BigOperators

/-- The reciprocal root of a row's mean square. -/
def rms (x : Fin 2048 → EReal) : EReal :=
  Ideal.rsqrt (Ideal.div (∑ a, x a * x a) (Ideal.ofBits .f32 0x45000000#32) + Ideal.ofBits .f32 0x358637BD#32)

/-- The normalised row with gain `g`, scaled by `1 + sc` and shifted by `sh`. -/
def modulated (x g sh sc : Fin 2048 → EReal) (j : Fin 2048) : EReal :=
  x j * rms x * g j * (Ideal.ofBits .f32 0x3F800000#32 + sc j) + sh j

/-- One hidden value: the gate's product through `silu`, times the other product. -/
def hidden (h wg wu : Fin 2048 → EReal) : EReal :=
  (∑ a, h a * wg a) * Ideal.logistic (∑ a, h a * wg a) * ∑ a, h a * wu a

/-- The down product over `n` hidden columns. -/
def down {n : Nat} (h : Fin 2048 → EReal) (wg wu : Fin 2048 → Fin n → EReal) (wd : Fin n → EReal) : EReal :=
  ∑ l, hidden h (fun a => wg a l) (fun a => wu a l) * wd l

/-- The 1 of `silu`'s quotient, as the reference spells it. -/
theorem one_bits : Ideal.ofBits .f32 0x3F800000#32 = 1 := by
  simp [Ideal.ofBits, Ideal.ieee]
  rw [← EReal.coe_mul]
  norm_num

/-- The gated residual. -/
def residual (x gate y : EReal) : EReal := x + Ideal.ofBits .f32 0x3F000000#32 * gate * y

/-- Hidden column `l` of group `s`. -/
def lane (s : Nat) (l : Fin 512) : Fin 5632 := ⟨(s * 512 + l.val) % 5632, Nat.mod_lt _ (by decide)⟩

theorem lane_val (s : Nat) (hs : s < 11) (l : Fin 512) : (lane s l).val = s * 512 + l.val :=
  Nat.mod_eq_of_lt (by have := l.isLt; omega)

/-- Group `s` of the down product. -/
def downGroup (h : Fin 2048 → EReal) (wg wu : Fin 2048 → Fin 5632 → EReal) (wd : Fin 5632 → EReal) (s : Nat) : EReal :=
  down h (fun a l => wg a (lane s l)) (fun a l => wu a (lane s l)) (fun l => wd (lane s l))

/-- The down product over the 5632 hidden columns is the sum of the eleven groups' products. -/
theorem down_groups (h : Fin 2048 → EReal) (wg wu : Fin 2048 → Fin 5632 → EReal) (wd : Fin 5632 → EReal) :
    ∑ s ∈ Finset.range 11, downGroup h wg wu wd s = down h wg wu wd := by
  rw [Finset.sum_range]
  unfold downGroup down
  rw [← Fin.sum_mul_add_fin 11 512 (fun l : Fin 5632 => hidden h (fun a => wg a l) (fun a => wu a l) * wd l) (by decide)]
  refine Finset.sum_congr rfl fun s _ => Finset.sum_congr rfl fun l _ => ?_
  exact congrArg (fun k => hidden h (fun a => wg a k) (fun a => wu a k) * wd k) (Fin.ext (lane_val s.val s.isLt l))

/-- The sweep over the grid: eleven points in a row share their block of rows. The first computes the modulated rows `h` and
    starts the accumulator at its own group; the others keep `h` and add theirs. -/
theorem sweep {N : Nat} (h acc : (n : Nat) → n < N → Fin 512 → Fin 2048 → EReal) (H : Nat → Fin 512 → Fin 2048 → EReal)
    (T : (Fin 2048 → EReal) → Nat → Fin 2048 → EReal)
    (start : ∀ n hn, n % 11 = 0 → (∀ r a, h n hn r a = H (n / 11) r a) ∧ ∀ r a, acc n hn r a = 0 + T (h n hn r) (n % 11) a)
    (step : ∀ n hn, ¬n % 11 = 0 → (∀ r a, h n hn r a = h (n - 1) (by omega) r a)
      ∧ ∀ r a, acc n hn r a = acc (n - 1) (by omega) r a + T (h (n - 1) (by omega) r) (n % 11) a) :
    ∀ n hn, (∀ r a, h n hn r a = H (n / 11) r a) ∧ ∀ r a, acc n hn r a = ∑ s ∈ Finset.range (n % 11 + 1), T (H (n / 11) r) s a := by
  intro n
  induction n with
  | zero =>
    intro hn
    obtain ⟨h0, h1⟩ := start 0 hn rfl
    refine ⟨h0, fun r a => ?_⟩
    rw [h1, funext (h0 r)]
    simp
  | succ n ih =>
    intro hn
    by_cases hz : (n + 1) % 11 = 0
    · obtain ⟨h0, h1⟩ := start (n + 1) hn hz
      refine ⟨h0, fun r a => ?_⟩
      rw [h1, funext (h0 r), hz]
      simp
    · obtain ⟨h0, h1⟩ := step (n + 1) hn hz
      obtain ⟨i0, i1⟩ := ih (by omega)
      have hd : (n + 1) / 11 = n / 11 := by omega
      have hm : (n + 1) % 11 = n % 11 + 1 := by omega
      rw [hd, hm]
      refine ⟨fun r a => (h0 r a).trans (i0 r a), fun r a => ?_⟩
      rw [h1, Finset.sum_range_succ, hm]
      exact congrArg₂ (· + ·) (i1 r a) (congrArg (T · _ a) (funext (i0 r)))

/-! ### The layer's arrays -/

/-- The row of the modulation array that row `i` takes: the first 8192 rows take row 0, then every 4096 rows the next. -/
def condRow (i : Nat) : Fin 8 := ⟨if i < 8192 then 0 else (1 + (i - 8192) / 4096) % 8, by split <;> omega⟩

/-- Row `r` of block `b` of rows. -/
def blockRow (b : Nat) (r : Fin 512) : Fin 16384 := ⟨(b * 512 + r.val) % 16384, Nat.mod_lt _ (by decide)⟩

theorem blockRow_val {b : Nat} (hb : b < 32) (r : Fin 512) : (blockRow b r).val = b * 512 + r.val := by
  have := r.isLt
  exact Nat.mod_eq_of_lt (by omega)

/-- All rows of a block take the same row of the modulation array. -/
theorem condRow_block {b : Nat} (hb : b < 32) (r : Fin 512) : condRow (b * 512) = condRow (blockRow b r).val := by
  have hr := r.isLt
  rw [blockRow_val hb]
  refine Fin.ext ?_
  unfold condRow
  dsimp only
  split <;> split <;> omega

section

variable (X : FVec Ideal ⟨2, ![16384, 2048]⟩ .f32) (M : FVec Ideal ⟨4, ![4, 8, 9, 2048]⟩ .f32) (G : FVec Ideal ⟨3, ![4, 3, 2048]⟩ .f32)
  (WG WU : FVec Ideal ⟨4, ![4, 2, 2048, 5632]⟩ .f32) (WD : FVec Ideal ⟨4, ![4, 2, 5632, 2048]⟩ .f32)

open ValueIdx

/-- Row `i` of `x`, modulated with the rows `n`, `sh` and `sc` of layer `li`'s gains, and its shifts and scales. -/
def normed (li : Fin 4) (n : Fin 3) (sh sc : Fin 9) (x : Fin 2048 → EReal) (i : Nat) : Fin 2048 → EReal :=
  modulated x (fun a => G (ix3 li n a)) (fun a => M (ix4 li (condRow i) sh a)) (fun a => M (ix4 li (condRow i) sc a))

/-- Row `i` after half `hf` of layer `li`. -/
def ffnRow (li : Fin 4) (hf : Fin 2) (n : Fin 3) (sh sc gt : Fin 9) (i : Fin 16384) (c : Fin 2048) : EReal :=
  residual (X (ix2 i c)) (M (ix4 li (condRow i.val) gt c))
    (down (normed M G li n sh sc (fun a => X (ix2 i a)) i.val) (fun a l => WG (ix4 li hf a l)) (fun a l => WU (ix4 li hf a l))
      (fun l => WD (ix4 li hf l c)))

end

end Cert.Ffn

end
-- ==== Proof.Ffn.Payload.lean ====
/-
  The words the feed-forward kernel stores, read at an index: the modulated rows, the accumulator after one group of hidden
  columns, and the residual.
-/
module

public import proofs.«01_k».proof.Proof.Ffn.Swiglu
public import proofs.«01_k».proof.Proof.Gen.Ffn1Ideal.Skeleton
public import Idealize.ShloMosaic.Lib.MatmulPlain
public import Idealize.ShloMosaic.Lib.Pipeline.Value

@[expose] public section

noncomputable section

namespace Cert.Ffn

open Idealize.ShloMosaic Idealize.ShloMosaic.ValueIdx Cert.Ffn1Ideal Cert.Ffn1Ideal.Gen
open scoped BigOperators

/-- A row vector spread over the rows of a block reads its own column. -/
theorem row_apply (x : FVec Ideal S1x2048 .f32) (hb : S1x2048.Broadcasts S512x2048) (r : Fin 512) (c : Fin 2048) :
    broadcastTo S512x2048 x hb (ix2 r c) = x (ix2 (0 : Fin 1) c) :=
  broadcastTo_apply _ _ _ _ (fun a => by match a with | ⟨0, _⟩ => rfl | ⟨1, _⟩ => rfl)

/-- A column vector spread over the columns of a block reads its own row. -/
theorem col_apply (x : FVec Ideal S512x1 .f32) (hb : S512x1.Broadcasts S512x2048) (r : Fin 512) (c : Fin 2048) :
    broadcastTo S512x2048 x hb (ix2 r c) = x (ix2 r (0 : Fin 1)) :=
  broadcastTo_apply _ _ _ _ (fun a => by match a with | ⟨0, _⟩ => rfl | ⟨1, _⟩ => rfl)

/-- A vector of row values as a column. -/
theorem column_apply (x : FVec Ideal S512 .f32) (h : S512.ShapeCasts S512x1) (r : Fin 512) (u : Fin 1) :
    shapeCast S512x1 x h (ix2 r u) = x (ix1 r) :=
  shapeCast_apply _ _ _ _ (by rw [Shape.rowMajor_val_one, Shape.rowMajor_val_two]; have := u.isLt; simp)

/-- Dropping the unit axes in front of a row. -/
theorem drop3_apply (x : FVec Ideal S1x1x2048 .f32) (h : S1x1x2048.ShapeCasts S1x2048) (c : Fin 2048) :
    shapeCast S1x2048 x h (ix2 (0 : Fin 1) c) = x (ix3 (0 : Fin 1) (0 : Fin 1) c) :=
  shapeCast_apply _ _ _ _ (by rw [Shape.rowMajor_val_three, Shape.rowMajor_val_two]; simp)

theorem drop4_apply (x : FVec Ideal S1x1x1x2048 .f32) (h : S1x1x1x2048.ShapeCasts S1x2048) (c : Fin 2048) :
    shapeCast S1x2048 x h (ix2 (0 : Fin 1) c) = x (ix4 (0 : Fin 1) (0 : Fin 1) (0 : Fin 1) c) :=
  shapeCast_apply _ _ _ _ (by rw [Shape.rowMajor_val_four, Shape.rowMajor_val_two]; simp)

/-- Dropping the unit axes in front of a block of weights. -/
theorem dropUp_apply (x : FVec Ideal S1x1x2048x512 .bf16) (h : S1x1x2048x512.ShapeCasts S2048x512) (r : Fin 2048) (c : Fin 512) :
    shapeCast S2048x512 x h (ix2 r c) = x (ix4 (0 : Fin 1) (0 : Fin 1) r c) :=
  shapeCast_apply _ _ _ _ (by rw [Shape.rowMajor_val_four, Shape.rowMajor_val_two]; simp)

theorem dropDown_apply (x : FVec Ideal S1x1x512x2048 .bf16) (h : S1x1x512x2048.ShapeCasts S512x2048) (r : Fin 512) (c : Fin 2048) :
    shapeCast S512x2048 x h (ix2 r c) = x (ix4 (0 : Fin 1) (0 : Fin 1) r c) :=
  shapeCast_apply _ _ _ _ (by rw [Shape.rowMajor_val_four, Shape.rowMajor_val_two]; simp)

/-- The sum along the rows of a block, at a row. -/
theorem rowSum_apply (s : FVec Ideal S512x2048 .f32) (h : S512x2048.Reduces [1] S512) (hφ) (hacc) (r : Fin 512) :
    multiReduction .add [1] S512 s 0x00000000#32 h hφ hacc (ix1 r) = ∑ b : Fin 2048, s (ix2 r b) := by
  rw [Ideal.multiReduction_add_single]
  refine Finset.sum_congr rfl fun b _ => ?_
  exact congrArg s (funext fun a => by match a with | ⟨0, _⟩ => rfl | ⟨1, _⟩ => rfl)

/-- The modulated rows. -/
theorem pay1_apply (x : FVec Ideal S512x2048 .f32) (g : FVec Ideal S1x1x2048 .f32) (sh sc : FVec Ideal S1x1x1x2048 .f32)
    (r : Fin 512) (c : Fin 2048) :
    k0_pay1 (F := Ideal) x g sh sc (ix2 r c) = modulated (fun a => x (ix2 r a)) (fun a => g (ix3 (0 : Fin 1) (0 : Fin 1) a))
      (fun a => sh (ix4 (0 : Fin 1) (0 : Fin 1) (0 : Fin 1) a)) (fun a => sc (ix4 (0 : Fin 1) (0 : Fin 1) (0 : Fin 1) a)) c := by
  unfold k0_pay1 modulated rms
  rw [shapeCast_self, truncf_apply, addf_apply, mulf_apply, mulf_apply, mulf_apply, row_apply, row_apply, row_apply, col_apply,
    drop3_apply, drop4_apply]
  refine congrArg₂ (· + ·) (congrArg₂ (· * ·) (congrArg (· * _) (congrArg (_ * ·) ?_)) ?_) rfl
  · refine congrArg Ideal.rsqrt (congrArg (· + _) (congrArg (Ideal.div · _) ?_))
    exact (column_apply _ _ r 0).trans (rowSum_apply _ _ _ _ r)
  · exact congrArg (_ + ·) (drop4_apply _ _ c)

/-- The zero block. -/
theorem pay2_apply (i : S512x2048.Idx) : k0_pay2 (F := Ideal) i = 0 := by
  unfold k0_pay2
  rw [shapeCast_self]
  exact Ideal.ofBits_zero_f32

/-- A product of a block of rows with a block of the up weights. -/
theorem up_apply (h : FVec Ideal S512x2048 .bf16) (w : FVec Ideal S1x1x2048x512 .bf16) (hc : S1x1x2048x512.ShapeCasts S2048x512)
    (r : Fin 512) (l : Fin 512) :
    matmul (F := Ideal) dot_S512x2048_S2048x512_S512x512_1_0_0_1_n_n none h (shapeCast S2048x512 w hc) (constant S512x512 .f32 0x00000000#32) (ix2 r l)
      = ∑ a : Fin 2048, h (ix2 r a) * w (ix4 (0 : Fin 1) (0 : Fin 1) a l) := by
  refine (Ideal.matmul_plain_apply (M := 512) (K := 2048) (N := 512) none h _ _ r l).trans ?_
  show Ideal.ofBits .f32 0x00000000#32 + _ = _
  rw [Ideal.ofBits_zero_f32, zero_add]
  exact Finset.sum_congr rfl fun a _ => congrArg (_ * ·) (dropUp_apply _ _ a l)

/-- The accumulator after one group of hidden columns. -/
theorem pay3_apply (h : FVec Ideal S512x2048 .bf16) (wg wu : FVec Ideal S1x1x2048x512 .bf16) (acc : FVec Ideal S512x2048 .f32)
    (wd : FVec Ideal S1x1x512x2048 .bf16) (r : Fin 512) (c : Fin 2048) :
    k0_pay3 (F := Ideal) h wg wu acc wd (ix2 r c) = acc (ix2 r c) + down (fun a => h (ix2 r a))
      (fun a l => wg (ix4 (0 : Fin 1) (0 : Fin 1) a l)) (fun a l => wu (ix4 (0 : Fin 1) (0 : Fin 1) a l))
      (fun l => wd (ix4 (0 : Fin 1) (0 : Fin 1) l c)) := by
  unfold k0_pay3 down hidden
  dsimp only
  rw [shapeCast_self, addf_apply]
  refine congrArg (_ + ·) ?_
  refine (Ideal.matmul_plain_apply (M := 512) (K := 512) (N := 2048) none _ _ _ r c).trans ?_
  show Ideal.ofBits .f32 0x00000000#32 + _ = _
  rw [Ideal.ofBits_zero_f32, zero_add]
  refine Finset.sum_congr rfl fun l _ => congrArg₂ (· * ·) ?_ (dropDown_apply _ _ l c)
  rw [truncf_apply, mulf_apply, mulf_apply]
  show _ * Ideal.logistic _ * _ = _
  rw [up_apply, up_apply]

/-- The residual. -/
theorem pay4_apply (x : FVec Ideal S512x2048 .f32) (gate : FVec Ideal S1x1x1x2048 .f32) (acc : FVec Ideal S512x2048 .f32)
    (r : Fin 512) (c : Fin 2048) :
    k0_pay4 (F := Ideal) x gate acc (ix2 r c)
      = residual (x (ix2 r c)) (gate (ix4 (0 : Fin 1) (0 : Fin 1) (0 : Fin 1) c)) (acc (ix2 r c)) := by
  unfold k0_pay4 residual
  rw [addf_apply, mulf_apply, row_apply, mulf_apply]
  exact congrArg (_ + ·) (congrArg (· * _) (congrArg (_ * ·) (drop4_apply _ _ c)))

end Cert.Ffn

end
-- ==== Proof.Ffn.Half1.lean ====
/-
  The second feed-forward half (layer 3), the kernel's side. The grid is 32 blocks of 512 rows by eleven groups of hidden
  columns. What each point leaves in the two buffers it carries is `sweep`; the block written back after the last group is the
  residual of the whole down product; so the result array is `ffnRow` of the arguments.
-/
module

public import proofs.«01_k».proof.Proof.Ffn.Payload
public import proofs.«01_k».proof.Proof.Gen.Ffn1Ideal.Frame
public import Idealize.ShloMosaic.Lib.Pipeline.ValueKit.Geometry
public import Idealize.ShloMosaic.Lib.Pipeline.ValueKit.Acc
public import Idealize.ShloMosaic.Lib.Claim
public import Idealize.ShloMosaic.Lib.Pipeline.ReadBack

@[expose] public section

noncomputable section

namespace Cert.Ffn.Half1

open Idealize.ShloMosaic Idealize.ShloMosaic.ValueIdx Idealize.ShloMosaic.TcCoe Idealize.SL.Sem Cert.Ffn1Ideal Cert.Ffn1Ideal.Gen
open scoped BigOperators

variable (m : (ℓ : Loc nD τ sig) → Buf (Elt Ideal) ℓ)

/-! ### The blocks -/

theorem index_0 : ∀ t : Fin cfg0.N, win0_0.index t = ![t.val / 11, 0] := (by decide +kernel : ∀ t : Fin grid0.N, _)
theorem index_1 : ∀ t : Fin cfg0.N, win0_1.index t = ![3, (condRow (t.val / 11 * 512)).val, 0, 0] :=
  (by decide +kernel : ∀ t : Fin grid0.N, _)
theorem index_2 : ∀ t : Fin cfg0.N, win0_2.index t = ![3, 0, 0] := (by decide +kernel : ∀ t : Fin grid0.N, _)
theorem index_3 : ∀ t : Fin cfg0.N, win0_3.index t = ![3, 1, 0, t.val % 11] := (by decide +kernel : ∀ t : Fin grid0.N, _)
theorem index_4 : ∀ t : Fin cfg0.N, win0_4.index t = ![3, 1, 0, t.val % 11] := (by decide +kernel : ∀ t : Fin grid0.N, _)
theorem index_5 : ∀ t : Fin cfg0.N, win0_5.index t = ![3, 1, t.val % 11, 0] := (by decide +kernel : ∀ t : Fin grid0.N, _)
theorem index_6 : ∀ t : Fin cfg0.N, win0_6.index t = ![t.val / 11, 0] := (by decide +kernel : ∀ t : Fin grid0.N, _)

theorem block_lt (t : Fin cfg0.N) : t.val / 11 < 32 := by
  have ht : t.val < 352 := lt_of_lt_of_eq t.isLt N_0
  omega

theorem block0_apply (c : Dev nD) (t : Fin cfg0.N) (r : Fin 512) (w : Fin 2048) :
    iblk m c 0 t (ix2 r w) = m ((c : Thread nD τ).loc main_arg0) (ix2 (blockRow (t.val / 11) r) w) := by
  have e := index_0 t
  blk_simp [iblk]
  rw [V_main_arg0]
  refine congrArg _ (funext fun a => Fin.ext ?_)
  match a with
  | ⟨0, _⟩ => blk_simp [e]; exact (blockRow_val (block_lt t) r).symm
  | ⟨1, _⟩ => blk_simp [e]

theorem mod_apply (c : Dev nD) (t : Fin cfg0.N) (p : Fin 9) (off) (h) (ho : off = ![0, 0, p.val, 0]) (r : Fin 512) (a : Fin 2048) :
    View.ld (Val := Elt Ideal) (e' := .f32) (iblk m c 1 t) (Rect.unit (s := S1x1x9x2048) off ![1, 1, 1, 2048] h)
        (ix4 (0 : Fin 1) (0 : Fin 1) (0 : Fin 1) a)
      = m ((c : Thread nD τ).loc main_arg1) (ix4 (3 : Fin 4) (condRow (blockRow (t.val / 11) r).val) p a) := by
  subst ho
  rw [← condRow_block (block_lt t)]
  have e := index_1 t
  rw [View.ld_unit]
  refine (extractStridedSlice_apply _ _ _ _ (ix4 (0 : Fin 1) (0 : Fin 1) p a) fun a => ?_).trans ?_
  · match a with
    | ⟨0, _⟩ => rfl
    | ⟨1, _⟩ => rfl
    | ⟨2, _⟩ => rfl
    | ⟨3, _⟩ => simp
  blk_simp [iblk]
  rw [V_main_arg1]
  refine congrArg _ (funext fun a => Fin.ext ?_)
  match a with
  | ⟨0, _⟩ => blk_simp [e]; rfl
  | ⟨1, _⟩ => blk_simp [e]
  | ⟨2, _⟩ => blk_simp [e]
  | ⟨3, _⟩ => blk_simp [e]

theorem gain_apply (c : Dev nD) (t : Fin cfg0.N) (p : Fin 3) (off) (h) (ho : off = ![0, p.val, 0]) (a : Fin 2048) :
    View.ld (Val := Elt Ideal) (e' := .f32) (iblk m c 2 t) (Rect.unit (s := S1x3x2048) off ![1, 1, 2048] h)
        (ix3 (0 : Fin 1) (0 : Fin 1) a)
      = m ((c : Thread nD τ).loc main_arg2) (ix3 (3 : Fin 4) p a) := by
  subst ho
  have e := index_2 t
  rw [View.ld_unit]
  refine (extractStridedSlice_apply _ _ _ _ (ix3 (0 : Fin 1) p a) fun a => ?_).trans ?_
  · match a with
    | ⟨0, _⟩ => rfl
    | ⟨1, _⟩ => rfl
    | ⟨2, _⟩ => simp
  blk_simp [iblk]
  rw [V_main_arg2]
  refine congrArg _ (funext fun a => Fin.ext ?_)
  match a with
  | ⟨0, _⟩ => blk_simp [e]; rfl
  | ⟨1, _⟩ => blk_simp [e]
  | ⟨2, _⟩ => blk_simp [e]

theorem block3_apply (c : Dev nD) (t : Fin cfg0.N) (r : Fin 2048) (w : Fin 512) :
    iblk m c 3 t (ix4 (0 : Fin 1) (0 : Fin 1) r w)
      = m ((c : Thread nD τ).loc main_arg3) (ix4 (3 : Fin 4) (1 : Fin 2) r (lane (t.val % 11) w)) := by
  have e := index_3 t
  blk_simp [iblk]
  entry_read
  rw [truncf_apply]
  refine congrArg _ (funext fun a => Fin.ext ?_)
  match a with
  | ⟨0, _⟩ => blk_simp [e]; rfl
  | ⟨1, _⟩ => blk_simp [e]; rfl
  | ⟨2, _⟩ => blk_simp [e]
  | ⟨3, _⟩ => blk_simp [e]; exact (lane_val _ (Nat.mod_lt _ (by decide)) w).symm

theorem block4_apply (c : Dev nD) (t : Fin cfg0.N) (r : Fin 2048) (w : Fin 512) :
    iblk m c 4 t (ix4 (0 : Fin 1) (0 : Fin 1) r w)
      = m ((c : Thread nD τ).loc main_arg4) (ix4 (3 : Fin 4) (1 : Fin 2) r (lane (t.val % 11) w)) := by
  have e := index_4 t
  blk_simp [iblk]
  entry_read
  rw [truncf_apply]
  refine congrArg _ (funext fun a => Fin.ext ?_)
  match a with
  | ⟨0, _⟩ => blk_simp [e]; rfl
  | ⟨1, _⟩ => blk_simp [e]; rfl
  | ⟨2, _⟩ => blk_simp [e]
  | ⟨3, _⟩ => blk_simp [e]; exact (lane_val _ (Nat.mod_lt _ (by decide)) w).symm

theorem block5_apply (c : Dev nD) (t : Fin cfg0.N) (r : Fin 512) (w : Fin 2048) :
    iblk m c 5 t (ix4 (0 : Fin 1) (0 : Fin 1) r w)
      = m ((c : Thread nD τ).loc main_arg5) (ix4 (3 : Fin 4) (1 : Fin 2) (lane (t.val % 11) r) w) := by
  have e := index_5 t
  blk_simp [iblk]
  entry_read
  rw [truncf_apply]
  refine congrArg _ (funext fun a => Fin.ext ?_)
  match a with
  | ⟨0, _⟩ => blk_simp [e]; rfl
  | ⟨1, _⟩ => blk_simp [e]; rfl
  | ⟨2, _⟩ => blk_simp [e]; exact (lane_val _ (Nat.mod_lt _ (by decide)) r).symm
  | ⟨3, _⟩ => blk_simp [e]

/-! ### What the points leave -/

/-- The modulated row `r` of block `b`. -/
def H (c : Dev nD) (b : Nat) (r : Fin 512) : Fin 2048 → EReal :=
  normed (m ((c : Thread nD τ).loc main_arg1)) (m ((c : Thread nD τ).loc main_arg2)) 3 2 6 7
    (fun a => m ((c : Thread nD τ).loc main_arg0) (ix2 (blockRow b r) a)) (blockRow b r).val

/-- Column `a` of group `s` of the down product of a modulated row. -/
def T (c : Dev nD) (h : Fin 2048 → EReal) (s : Nat) (a : Fin 2048) : EReal :=
  downGroup h (fun a l => m ((c : Thread nD τ).loc main_arg3) (ix4 (3 : Fin 4) (1 : Fin 2) a l))
    (fun a l => m ((c : Thread nD τ).loc main_arg4) (ix4 (3 : Fin 4) (1 : Fin 2) a l))
    (fun l => m ((c : Thread nD τ).loc main_arg5) (ix4 (3 : Fin 4) (1 : Fin 2) l a)) s

/-- One group added to the accumulator, at the point's blocks. -/
theorem group_apply (c : Dev nD) (t : Fin cfg0.N) (h : FVec Ideal S512x2048 .bf16) (acc : FVec Ideal S512x2048 .f32) (r : Fin 512) (a : Fin 2048) :
    k0_pay3 (F := Ideal) h (iblk m c 3 t) (iblk m c 4 t) acc (iblk m c 5 t) (ix2 r a)
      = acc (ix2 r a) + T m c (fun a => h (ix2 r a)) (t.val % 11) a := by
  rw [pay3_apply]
  unfold T downGroup
  refine congrArg (_ + ·) ?_
  rw [funext fun a => funext (block3_apply m c t a), funext fun a => funext (block4_apply m c t a),
    funext fun l => block5_apply m c t l a]

/-- The rows a block of rows is modulated to, from the blocks loaded at a point. -/
def blockNormed (c : Dev nD) (t : Fin cfg0.N) : FVec Ideal S512x2048 .bf16 :=
  k0_pay1 (F := Ideal) (iblk m c 0 t)
    (View.ld (Val := Elt Ideal) (e' := .f32) (iblk m c 2 t) (Rect.unit (s := S1x3x2048) ![0, 2, 0] ![1, 1, 2048] inb_S1x3x2048_S1x1x2048_0_2_0))
    (View.ld (Val := Elt Ideal) (e' := .f32) (iblk m c 1 t) (Rect.unit (s := S1x1x9x2048) ![0, 0, 6, 0] ![1, 1, 1, 2048] inb_S1x1x9x2048_S1x1x1x2048_0_0_6_0))
    (View.ld (Val := Elt Ideal) (e' := .f32) (iblk m c 1 t) (Rect.unit (s := S1x1x9x2048) ![0, 0, 7, 0] ![1, 1, 1, 2048] inb_S1x1x9x2048_S1x1x1x2048_0_0_7_0))

/-- The first point of a block of rows. -/
theorem first0 (c : Dev nD) (t : Fin cfg0.N) (h0 : t.val % 11 = 0) : (outsAt0 m c t.val t.isLt).2.1 = blockNormed m c t := by
  rw [outsAt0_A m c t h0 (by omega)]
  frame_out
  rfl

theorem first1 (c : Dev nD) (t : Fin cfg0.N) (h0 : t.val % 11 = 0) : (outsAt0 m c t.val t.isLt).2.2
    = k0_pay3 (F := Ideal) (blockNormed m c t) (iblk m c 3 t) (iblk m c 4 t) (k0_pay2 (F := Ideal)) (iblk m c 5 t) := by
  rw [outsAt0_A m c t h0 (by omega)]
  frame_out
  rfl

/-- The later points. -/
theorem later0 (c : Dev nD) (t : Fin cfg0.N) (h0 : ¬t.val % 11 = 0) :
    (outsAt0 m c t.val t.isLt).2.1 = (outsAt0 m c (t.val - 1) (lt_of_le_of_lt (Nat.sub_le _ _) t.isLt)).2.1 := by
  by_cases h1 : t.val % 11 = 10
  · rw [outsAt0_C m c t h0 h1]
    dsimp only
    unfold sout0_C_0
    rfl
  · rw [outsAt0_B m c t h0 h1]
    dsimp only
    unfold sout0_B_0
    rfl

theorem later1 (c : Dev nD) (t : Fin cfg0.N) (h0 : ¬t.val % 11 = 0) : (outsAt0 m c t.val t.isLt).2.2
    = k0_pay3 (F := Ideal) (outsAt0 m c (t.val - 1) (lt_of_le_of_lt (Nat.sub_le _ _) t.isLt)).2.1 (iblk m c 3 t) (iblk m c 4 t)
      (outsAt0 m c (t.val - 1) (lt_of_le_of_lt (Nat.sub_le _ _) t.isLt)).2.2 (iblk m c 5 t) := by
  by_cases h1 : t.val % 11 = 10
  · rw [outsAt0_C m c t h0 h1]
    frame_out
    rw [read_unread_whole, read_unread_whole]
  · rw [outsAt0_B m c t h0 h1]
    frame_out
    rw [read_unread_whole, read_unread_whole]

/-- The last point's output block. -/
theorem last6 (c : Dev nD) (t : Fin cfg0.N) (h1 : t.val % 11 = 10) : (outsAt0 m c t.val t.isLt).1
    = k0_pay4 (F := Ideal) (iblk m c 0 t)
      (View.ld (Val := Elt Ideal) (e' := .f32) (iblk m c 1 t) (Rect.unit (s := S1x1x9x2048) ![0, 0, 8, 0] ![1, 1, 1, 2048] inb_S1x1x9x2048_S1x1x1x2048_0_0_8_0))
      (outsAt0 m c t.val t.isLt).2.2 := by
  rw [later1 m c t (by omega), outsAt0_C m c t (by omega) h1]
  frame_out
  rw [read_unread_whole, read_unread_whole]
  rfl

theorem blockNormed_apply (c : Dev nD) (t : Fin cfg0.N) (r : Fin 512) (a : Fin 2048) :
    blockNormed m c t (ix2 r a) = H m c (t.val / 11) r a := by
  unfold blockNormed H normed
  rw [pay1_apply, funext (block0_apply m c t r)]
  have h6 := funext (mod_apply m c t 6 ![0, 0, 6, 0] inb_S1x1x9x2048_S1x1x1x2048_0_0_6_0 rfl r)
  have h7 := funext (mod_apply m c t 7 ![0, 0, 7, 0] inb_S1x1x9x2048_S1x1x1x2048_0_0_7_0 rfl r)
  have h2 := funext (gain_apply m c t 2 ![0, 2, 0] inb_S1x3x2048_S1x1x2048_0_2_0 rfl)
  rw [h6, h7, h2]

/-- What every point leaves in the two buffers. -/
theorem points (c : Dev nD) : ∀ n hn,
    (∀ r a, (outsAt0 m c n hn).2.1 (ix2 r a) = H m c (n / 11) r a)
      ∧ ∀ r a, (outsAt0 m c n hn).2.2 (ix2 r a) = ∑ s ∈ Finset.range (n % 11 + 1), T m c (H m c (n / 11) r) s a := by
  refine sweep (fun n hn r a => (outsAt0 m c n hn).2.1 (ix2 r a)) (fun n hn r a => (outsAt0 m c n hn).2.2 (ix2 r a)) (H m c) (T m c)
    (fun n hn h0 => ?_) (fun n hn h0 => ?_)
  · have e0 := first0 m c ⟨n, hn⟩ h0
    have e1 := first1 m c ⟨n, hn⟩ h0
    dsimp only at e0 e1 ⊢
    refine ⟨fun r a => ?_, fun r a => ?_⟩
    · rw [e0, blockNormed_apply]
    · rw [e1, group_apply, pay2_apply, e0]
  · have e0 := later0 m c ⟨n, hn⟩ h0
    have e1 := later1 m c ⟨n, hn⟩ h0
    dsimp only at e0 e1 ⊢
    refine ⟨fun r a => ?_, fun r a => ?_⟩
    · rw [e0]
    · rw [e1, group_apply]

/-- The block written back after the last group. -/
theorem out_apply (c : Dev nD) (t : Fin cfg0.N) (ht : t.val % 11 = 10) (r : Fin 512) (a : Fin 2048) :
    (outsAt0 m c t.val t.isLt).1 (ix2 r a) = ffnRow (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) 3 1 2 6 7 8 (blockRow (t.val / 11) r) a := by
  have hp := (points m c t.val t.isLt).2 r a
  rw [ht] at hp
  unfold T at hp
  rw [down_groups] at hp
  rw [last6 m c t ht, pay4_apply, hp, block0_apply]
  exact congrArg (residual _ · _) (mod_apply m c t 8 _ _ rfl r a)

/-- The result array after the run. -/
theorem array (c : Dev nD) : (dats m 0 c).arrAt 6 cfg0.N = fun i : S16384x2048.Idx =>
    ffnRow (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) 3 1 2 6 7 8 (i 0) (i 1) := by
  refine (dats m 0 c).arrAt_eq_of_covers 6 _ (by decide +kernel) fun t hf y => ?_
  have e := index_6 t
  blk_simp
  rw [after0_6]
  have h0 : ((cfg0.win 6).blk t).view.emb y 0 = blockRow (t.val / 11) (y 0) :=
    Fin.ext ((by blk_simp [e] : (((cfg0.win 6).blk t).view.emb y 0).val = t.val / 11 * 512 + (y 0).val).trans (blockRow_val (block_lt t) (y 0)).symm)
  have h1 : ((cfg0.win 6).blk t).view.emb y 1 = y 1 :=
    Fin.ext (by blk_simp [e] : (((cfg0.win 6).blk t).view.emb y 1).val = (y 1).val)
  refine Eq.trans (congrArg _ (eq_ix2 y)) ((out_apply m c t ((flush0_6 t).mp hf) (y 0) (y 1)).trans ?_)
  exact (congrArg₂ (ffnRow _ _ _ _ _ _ 3 1 2 6 7 8) h0 h1).symm

/-- Run and result: the kernel ends with the layer's half in its result array and its arguments as they were. -/
theorem run (ρ) : θ_run defs (onTc (τ := τ) (main (F := Ideal))) ⟨m, fun _ => 0, ρ⟩ (fun r => ∀ c : Dev nD,
    r.2.mem ((c : Thread nD τ).loc main_v3) = (fun i : S16384x2048.Idx =>
      ffnRow (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) 3 1 2 6 7 8 (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) :=
  (θ_run _ _ _).mono (fun r h c => ⟨((h c).1 6).trans (array m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩) (run_main m ρ)

end Cert.Ffn.Half1

end
-- ==== Proof.Ffn.Half1Ref.lean ====
/-
  The second feed-forward half (layer 3), the reference's side: its arrays read stage by stage at an index. Token `i` takes
  the modulation rows of `condRow i`, row 0 for a prompt's token and rows 1 and 2 for the samples'; together the stages are
  `ffnRow`.
-/
module

public import proofs.«01_k».proof.Proof.Ffn.Swiglu
public import proofs.«01_k».proof.Proof.Gen.Ffn1RefIdeal.Read
public import Idealize.ShloMosaic.Lib.Pipeline.Value

@[expose] public section

noncomputable section

namespace Cert.Ffn.Half1

open Idealize.ShloMosaic Idealize.ShloMosaic.ValueIdx Cert.Ffn1RefIdeal Cert.Ffn1RefIdeal.Gen Cert.Ffn1RefIdeal.Read
open scoped BigOperators

variable (X : FVec Ideal S16384x2048 .f32) (M : FVec Ideal S4x8x9x2048 .f32) (G : FVec Ideal S4x3x2048 .f32)
  (WG WU : FVec Ideal S4x2x2048x5632 .f32) (WD : FVec Ideal S4x2x5632x2048 .f32)

/-! ### The arguments, laid out for the tokens -/

/-- The three condition rows' modulation: shift, scale and gate. -/
theorem ref_mod (r k : Fin 3) (a : Fin 2048) (n : Fin 8) (hn : n.val = r.val) (p : Fin 9) (hp : p.val = 6 + k.val) :
    val_main_v1 (F := Ideal) M (ix3 r k a) = M (ix4 (3 : Fin 4) n p a) := by
  have hr := r.isLt
  have hk := k.isLt
  have ha := a.isLt
  rw [val_main_v1_apply, val_main_v0_apply]
  refine congrArg M (funext fun b => Fin.ext ?_)
  match b with
  | ⟨0, _⟩ => rfl
  | ⟨1, _⟩ => show ((r.val * 3 + k.val) * 2048 + a.val) / 6144 % 3 = n.val; omega
  | ⟨2, _⟩ => show 6 + ((r.val * 3 + k.val) * 2048 + a.val) / 2048 % 3 = p.val; omega
  | ⟨3, _⟩ => show ((r.val * 3 + k.val) * 2048 + a.val) % 2048 = a.val; omega

/-- The modulation laid out for the tokens. -/
theorem ref_token (i : Fin 16384) (k : Fin 3) (a : Fin 2048) (p : Fin 9) (hp : p.val = 6 + k.val) :
    val_main_v7 (F := Ideal) M (ix3 i k a) = M (ix4 (3 : Fin 4) (condRow i.val) p a) := by
  have hi := i.isLt
  have hk := k.isLt
  have ha := a.isLt
  unfold val_main_v7
  by_cases hlt : i.val < 8192
  · refine (concatenate_pair_apply_left (t := S16384x3x2048) (s₁ := S8192x3x2048) (0 : Fin 3) _ _ _ (ix3 i k a) rfl
      (ix3 (⟨i.val, hlt⟩ : Fin 8192) k a) (fun b => match b with | ⟨0, _⟩ => rfl | ⟨1, _⟩ => rfl | ⟨2, _⟩ => rfl)).trans ?_
    rw [val_main_v3_apply, val_main_v2_apply]
    refine Eq.trans (congrArg _ (funext fun b => ?_)) (ref_mod M (0 : Fin 3) k a (condRow i.val) ?_ p hp)
    · match b with | ⟨0, _⟩ => rfl | ⟨1, _⟩ => rfl | ⟨2, _⟩ => rfl
    · unfold condRow
      simp [hlt]
  · obtain ⟨n, hn⟩ : ∃ n, i.val = n + 8192 := ⟨i.val - 8192, by omega⟩
    have hn8 : n < 8192 := by omega
    have hr : 1 + n / 4096 < 3 := by omega
    refine (concatenate_pair_apply_right (t := S16384x3x2048) (s₁ := S8192x3x2048) (s₂ := S8192x3x2048) (0 : Fin 3) _ _ _ (ix3 i k a)
      rfl rfl (ix3 (⟨n, hn8⟩ : Fin 8192) k a)
      (fun b hb => match b with | ⟨0, _⟩ => absurd rfl hb | ⟨1, _⟩ => rfl | ⟨2, _⟩ => rfl) hn.symm).trans ?_
    rw [val_main_v6_apply, val_main_v5_apply, val_main_v4_apply]
    refine Eq.trans (congrArg _ (funext fun b => Fin.ext ?_)) (ref_mod M (⟨1 + n / 4096, hr⟩ : Fin 3) k a (condRow i.val) ?_ p hp)
    · match b with
      | ⟨0, _⟩ => show 1 + ((n * 3 + k.val) * 2048 + a.val) / 25165824 = 1 + n / 4096; omega
      | ⟨1, _⟩ => show ((n * 3 + k.val) * 2048 + a.val) / 2048 % 3 = k.val; omega
      | ⟨2, _⟩ => show ((n * 3 + k.val) * 2048 + a.val) % 2048 = a.val; omega
    · unfold condRow
      simp only [hlt, if_false]
      omega

/-- A token's shift, scale and gate. -/
theorem ref_rows (i : Fin 16384) (a : Fin 2048) :
    val_main_v11 (F := Ideal) M (ix2 i a) = M (ix4 (3 : Fin 4) (condRow i.val) 6 a)
      ∧ val_main_v13 (F := Ideal) M (ix2 i a) = M (ix4 (3 : Fin 4) (condRow i.val) 7 a)
      ∧ val_main_v32 (F := Ideal) M (ix2 i a) = M (ix4 (3 : Fin 4) (condRow i.val) 8 a) := by
  have hi := i.isLt
  have ha := a.isLt
  refine ⟨?_, ?_, ?_⟩
  · rw [val_main_v11_apply, val_main_v10_apply]
    refine Eq.trans (congrArg _ (funext fun b => Fin.ext ?_)) (ref_token M i 0 a 6 rfl)
    match b with
    | ⟨0, _⟩ => show (i.val * 2048 + a.val) / 2048 = i.val; omega
    | ⟨1, _⟩ => rfl
    | ⟨2, _⟩ => show (i.val * 2048 + a.val) % 2048 = a.val; omega
  · rw [val_main_v13_apply, val_main_v12_apply]
    refine Eq.trans (congrArg _ (funext fun b => Fin.ext ?_)) (ref_token M i 1 a 7 rfl)
    match b with
    | ⟨0, _⟩ => show (i.val * 2048 + a.val) / 2048 = i.val; omega
    | ⟨1, _⟩ => rfl
    | ⟨2, _⟩ => show (i.val * 2048 + a.val) % 2048 = a.val; omega
  · rw [val_main_v32_apply, val_main_v31_apply]
    refine Eq.trans (congrArg _ (funext fun b => Fin.ext ?_)) (ref_token M i 2 a 8 rfl)
    match b with
    | ⟨0, _⟩ => show (i.val * 2048 + a.val) / 2048 = i.val; omega
    | ⟨1, _⟩ => rfl
    | ⟨2, _⟩ => show (i.val * 2048 + a.val) % 2048 = a.val; omega

/-- The gain. -/
theorem ref_gain (i : Fin 16384) (a : Fin 2048) : val_main_v25 (F := Ideal) G (ix2 i a) = G (ix3 (3 : Fin 4) (2 : Fin 3) a) := by
  have ha := a.isLt
  rw [val_main_v25_apply, val_main_v24_apply, val_main_v9_apply, val_main_v8_apply]
  refine congrArg G (funext fun b => Fin.ext ?_)
  match b with
  | ⟨0, _⟩ => rfl
  | ⟨1, _⟩ => rfl
  | ⟨2, _⟩ => show a.val % 2048 = a.val; omega

/-- The weights of the gate's and of the other product. -/
theorem ref_up (a : Fin 2048) (l : Fin 5632) :
    val_main_v36 (F := Ideal) WG (ix2 a l) = WG (ix4 (3 : Fin 4) (1 : Fin 2) a l)
      ∧ val_main_v38 (F := Ideal) WU (ix2 a l) = WU (ix4 (3 : Fin 4) (1 : Fin 2) a l) := by
  have ha := a.isLt
  have hl := l.isLt
  have e : ∀ b, (idx_main_v35 (idx_main_v36 (ix2 a l)) b).val = (ix4 (3 : Fin 4) (1 : Fin 2) a l b).val := fun b => match b with
    | ⟨0, _⟩ => rfl
    | ⟨1, _⟩ => rfl
    | ⟨2, _⟩ => by show (a.val * 5632 + l.val) / 5632 % 2048 = a.val; omega
    | ⟨3, _⟩ => by show (a.val * 5632 + l.val) % 5632 = l.val; omega
  rw [val_main_v36_apply, val_main_v35_apply, val_main_v38_apply, val_main_v37_apply]
  exact ⟨congrArg WG (funext fun b => Fin.ext (e b)), congrArg WU (funext fun b => Fin.ext (e b))⟩

/-- The weights of the down product. -/
theorem ref_down (l : Fin 5632) (a : Fin 2048) :
    val_main_v40 (F := Ideal) WD (ix2 l a) = WD (ix4 (3 : Fin 4) (1 : Fin 2) l a) := by
  have ha := a.isLt
  have hl := l.isLt
  rw [val_main_v40_apply, val_main_v39_apply]
  refine congrArg WD (funext fun b => Fin.ext ?_)
  match b with
  | ⟨0, _⟩ => rfl
  | ⟨1, _⟩ => rfl
  | ⟨2, _⟩ => show (l.val * 2048 + a.val) / 2048 % 5632 = l.val; omega
  | ⟨3, _⟩ => show (l.val * 2048 + a.val) % 2048 = a.val; omega

/-! ### The stages -/

/-- The reciprocal root mean square of a row. -/
theorem ref_rms (i : Fin 16384) (a : Fin 2048) : val_main_v22 (F := Ideal) X (ix2 i a) = rms fun b => X (ix2 i b) := by
  rw [val_main_v22_apply, val_main_v21_apply, val_main_v20_apply, val_main_v18_apply, val_main_v16_apply, val_main_v15_apply,
    val_main_v17_apply, val_main_v19_apply, val_main_cst_apply, val_main_cst_0_apply, val_main_cst_1_apply]
  show Ideal.rsqrt (Ideal.div (Ideal.ofBits .f32 0x00000000#32 + _) _ + _) = _
  rw [Ideal.ofBits_zero_f32, zero_add]
  unfold rms
  refine congrArg (fun s => Ideal.rsqrt (Ideal.div s _ + _)) (Finset.sum_congr rfl fun b _ => ?_)
  have e : idx_main_v15 (idx_main_v16 (idx_main_v22 (ix2 i a))) b = ix2 i b := by
    funext d; match d with | ⟨0, _⟩ => rfl | ⟨1, _⟩ => rfl
  rw [val_main_v14_apply, e]
  rfl

/-- The modulated rows. -/
theorem ref_normed (i : Fin 16384) (a : Fin 2048) :
    val_main_v30 (F := Ideal) X M G (ix2 i a) = normed M G 3 2 6 7 (fun b => X (ix2 i b)) i.val a := by
  rw [val_main_v30_apply, val_main_v29_apply, val_main_v26_apply, val_main_v23_apply, val_main_v28_apply, val_main_v27_apply,
    val_main_cst_2_apply, ref_rms, ref_gain, (ref_rows M i a).1, (ref_rows M i a).2.1]
  rfl

/-- The gate's and the other product. -/
theorem ref_products (i : Fin 16384) (l : Fin 5632) :
    val_main_v41 (F := Ideal) X M G WG (ix2 i l)
        = ∑ a, normed M G 3 2 6 7 (fun b => X (ix2 i b)) i.val a * WG (ix4 (3 : Fin 4) (1 : Fin 2) a l)
      ∧ val_main_v43 (F := Ideal) X M G WU (ix2 i l)
        = ∑ a, normed M G 3 2 6 7 (fun b => X (ix2 i b)) i.val a * WU (ix4 (3 : Fin 4) (1 : Fin 2) a l) := by
  have el : ∀ a, lidx_main_v41 (ix2 i l) a = ix2 i a := fun a => by funext d; match d with | ⟨0, _⟩ => rfl | ⟨1, _⟩ => rfl
  have er : ∀ a, ridx_main_v41 (ix2 i l) a = ix2 a l := fun a => by funext d; match d with | ⟨0, _⟩ => rfl | ⟨1, _⟩ => rfl
  rw [val_main_v41_apply, val_main_v43_apply]
  refine ⟨Finset.sum_congr rfl fun a _ => ?_, Finset.sum_congr rfl fun a _ => ?_⟩
  · rw [el, er, ref_normed, (ref_up WG WG a l).1]
  · exact congrArg₂ (· * ·) ((congrArg _ (el a)).trans (ref_normed X M G i a)) ((congrArg _ (er a)).trans (ref_up WU WU a l).2)

/-- The hidden values. -/
theorem ref_hidden (i : Fin 16384) (l : Fin 5632) : val_main_v44 (F := Ideal) X M G WG WU (ix2 i l)
    = hidden (normed M G 3 2 6 7 (fun b => X (ix2 i b)) i.val) (fun a => WG (ix4 (3 : Fin 4) (1 : Fin 2) a l))
        (fun a => WU (ix4 (3 : Fin 4) (1 : Fin 2) a l)) := by
  rw [val_main_v44_apply, val_main_v42_apply, val_main_call0_v5_apply, val_main_call0_v4_apply, val_main_call0_cst_0_apply,
    val_main_call0_v3_apply, val_main_call0_v2_apply, val_main_call0_cst_apply, val_main_call0_v1_apply, val_main_call0_v0_apply,
    (ref_products X M G WG WU i l).1, (ref_products X M G WG WU i l).2]
  unfold hidden Ideal.logistic
  rw [← one_bits]
  rfl

/-- **The reference's rows.** -/
theorem ref_eq : val_main_v47 (F := Ideal) X M G WG WU WD
    = fun i : S16384x2048.Idx => ffnRow X M G WG WU WD 3 1 2 6 7 8 (i 0) (i 1) := by
  funext j
  obtain ⟨i, c, rfl⟩ : ∃ i c, j = ix2 i c := ⟨j 0, j 1, eq_ix2 j⟩
  have el : ∀ l, lidx_main_v45 (ix2 i c) l = ix2 i l := fun l => by funext d; match d with | ⟨0, _⟩ => rfl | ⟨1, _⟩ => rfl
  have er : ∀ l, ridx_main_v45 (ix2 i c) l = ix2 l c := fun l => by funext d; match d with | ⟨0, _⟩ => rfl | ⟨1, _⟩ => rfl
  rw [val_main_v47_apply, val_main_v46_apply, val_main_v34_apply, val_main_v33_apply, val_main_cst_3_apply, val_main_v45_apply,
    (ref_rows M i c).2.2]
  show _ = ffnRow X M G WG WU WD 3 1 2 6 7 8 i c
  unfold ffnRow residual down
  refine congrArg (fun s => X (ix2 i c) + Ideal.ofBits .f32 0x3F000000#32 * M (ix4 (3 : Fin 4) (condRow i.val) 8 c) * s)
    (Finset.sum_congr rfl fun l _ => ?_)
  rw [el, er, ref_hidden, ref_down]

end Cert.Ffn.Half1

end
-- ==== Proof.Ffn.Half1Claim.lean ====
/-
  The claims about the second feed-forward half: the reference's frame, and the equality of the kernel's result array with
  the reference's.
-/
module

public import proofs.«01_k».proof.Proof.Ffn.Half1
public import proofs.«01_k».proof.Proof.Ffn.Half1Ref
public import proofs.«01_k».proof.Proof.Gen.Ffn1RefIdeal.Run
public import proofs.«01_k».proof.Defs

@[expose] public section

noncomputable section

namespace Cert.Ffn.Half1

open Idealize.ShloMosaic Idealize.ShloMosaic.TcCoe Idealize.SL.Sem

theorem ref_frame : Cert.quiescent_Ffn1RefIdeal := fun m ρ _ =>
  (θ_run Cert.Ffn1RefIdeal.defs _ _).mono (fun r h => ⟨fun c => (h c).2, sem_eq_zero_of_no_sems (by decide) r.2⟩)
    (Cert.Ffn1RefIdeal.Value.run (F := Ideal) m ρ)

/-- **The kernel computes the reference's feed-forward half.** -/
theorem value : Cert.algebraic_Ffn1Ideal_Ffn1RefIdeal := by
  intro m ρ m' ρ' _ hagree
  refine ⟨_, run m ρ, ?_⟩
  refine (θ_run _ _ _).mono (fun r h c => ⟨(h c).1.trans ?_, (h c).2⟩) (Cert.Ffn1RefIdeal.Value.run (F := Ideal) m' ρ')
  refine (Cert.Ffn1RefIdeal.Read.val_main_v47_eq _ _).trans ?_
  obtain ⟨h0, h1, h2, h3, h4, h5⟩ := hagree c
  rw [h0, h1, h2, h3, h4, h5]
  exact ref_eq _ _ _ _ _ _

end Cert.Ffn.Half1

end
-- ==== Proof.Ffn.Payload0.lean ====
/-
  The words the layer's first feed-forward half stores, read at an index. Its modulated rows, its accumulator and its residual
  are the second half's; new is the modulated residual it hands on.
-/
module

public import proofs.«01_k».proof.Proof.Ffn.Payload
public import proofs.«01_k».proof.Proof.Gen.Ffn0Ideal.Skeleton

@[expose] public section

noncomputable section

namespace Cert.Ffn.Half0

open Idealize.ShloMosaic Idealize.ShloMosaic.ValueIdx Cert.Ffn0Ideal Cert.Ffn0Ideal.Gen

theorem rows_eq (x : FVec Ideal S512x2048 .f32) (g : FVec Ideal S1x1x2048 .f32) (sh sc : FVec Ideal S1x1x1x2048 .f32) :
    k0_pay1 (F := Ideal) x g sh sc = Cert.Ffn1Ideal.Gen.k0_pay1 (F := Ideal) x g sh sc := rfl

theorem zeros_eq : k0_pay2 (F := Ideal) = Cert.Ffn1Ideal.Gen.k0_pay2 (F := Ideal) := rfl

theorem acc_eq (h : FVec Ideal S512x2048 .bf16) (wg wu : FVec Ideal S1x1x2048x512 .bf16) (acc : FVec Ideal S512x2048 .f32)
    (wd : FVec Ideal S1x1x512x2048 .bf16) :
    k0_pay3 (F := Ideal) h wg wu acc wd = Cert.Ffn1Ideal.Gen.k0_pay3 (F := Ideal) h wg wu acc wd := rfl

theorem residual_eq (x : FVec Ideal S512x2048 .f32) (gate : FVec Ideal S1x1x1x2048 .f32) (acc : FVec Ideal S512x2048 .f32) :
    k0_pay5 (F := Ideal) x gate acc = Cert.Ffn1Ideal.Gen.k0_pay4 (F := Ideal) x gate acc := rfl

/-- The residual, modulated once more, is what the modulated rows would be of it. -/
theorem next_eq (x : FVec Ideal S512x2048 .f32) (gate : FVec Ideal S1x1x1x2048 .f32) (acc : FVec Ideal S512x2048 .f32)
    (g : FVec Ideal S1x1x2048 .f32) (sh sc : FVec Ideal S1x1x1x2048 .f32) :
    k0_pay4 (F := Ideal) (k0_pay6 (F := Ideal) x gate acc g sc) (k0_pay7 (F := Ideal) sh)
      = Cert.Ffn1Ideal.Gen.k0_pay1 (F := Ideal) (k0_pay5 (F := Ideal) x gate acc) g sh sc := by
  unfold Cert.Ffn1Ideal.Gen.k0_pay1
  dsimp only
  rw [shapeCast_self]
  rfl

end Cert.Ffn.Half0

end
-- ==== Proof.Ffn.Half0.lean ====
/-
  The first feed-forward half (layer 0), the kernel's side: the same sweep of 32 blocks of 512 rows by eleven groups of hidden
  columns, with two blocks written back after the last group, the residual of the whole down product and that residual
  modulated for the mixer. So the first result array is `ffnRow` of the arguments and the second `normed` of its rows.
-/
module

public import proofs.«01_k».proof.Proof.Ffn.Payload0
public import proofs.«01_k».proof.Proof.Gen.Ffn0Ideal.Frame
public import Idealize.ShloMosaic.Lib.Pipeline.ValueKit.Geometry
public import Idealize.ShloMosaic.Lib.Pipeline.ValueKit.Acc
public import Idealize.ShloMosaic.Lib.Claim
public import Idealize.ShloMosaic.Lib.Pipeline.ReadBack

@[expose] public section

noncomputable section

namespace Cert.Ffn.Half0

open Idealize.ShloMosaic Idealize.ShloMosaic.ValueIdx Idealize.ShloMosaic.TcCoe Idealize.SL.Sem Cert.Ffn0Ideal Cert.Ffn0Ideal.Gen
open scoped BigOperators

variable (m : (ℓ : Loc nD τ sig) → Buf (Elt Ideal) ℓ)

/-! ### The blocks -/

theorem index_0 : ∀ t : Fin cfg0.N, win0_0.index t = ![t.val / 11, 0] := (by decide +kernel : ∀ t : Fin grid0.N, _)
theorem index_1 : ∀ t : Fin cfg0.N, win0_1.index t = ![0, (condRow (t.val / 11 * 512)).val, 0, 0] :=
  (by decide +kernel : ∀ t : Fin grid0.N, _)
theorem index_2 : ∀ t : Fin cfg0.N, win0_2.index t = ![0, 0, 0] := (by decide +kernel : ∀ t : Fin grid0.N, _)
theorem index_3 : ∀ t : Fin cfg0.N, win0_3.index t = ![0, 0, 0, t.val % 11] := (by decide +kernel : ∀ t : Fin grid0.N, _)
theorem index_4 : ∀ t : Fin cfg0.N, win0_4.index t = ![0, 0, 0, t.val % 11] := (by decide +kernel : ∀ t : Fin grid0.N, _)
theorem index_5 : ∀ t : Fin cfg0.N, win0_5.index t = ![0, 0, t.val % 11, 0] := (by decide +kernel : ∀ t : Fin grid0.N, _)
theorem index_6 : ∀ t : Fin cfg0.N, win0_6.index t = ![t.val / 11, 0] := (by decide +kernel : ∀ t : Fin grid0.N, _)
theorem index_7 : ∀ t : Fin cfg0.N, win0_7.index t = ![t.val / 11, 0] := (by decide +kernel : ∀ t : Fin grid0.N, _)

theorem block_lt (t : Fin cfg0.N) : t.val / 11 < 32 := by
  have ht : t.val < 352 := lt_of_lt_of_eq t.isLt N_0
  omega

theorem block0_apply (c : Dev nD) (t : Fin cfg0.N) (r : Fin 512) (w : Fin 2048) :
    iblk m c 0 t (ix2 r w) = m ((c : Thread nD τ).loc main_arg0) (ix2 (blockRow (t.val / 11) r) w) := by
  have e := index_0 t
  blk_simp [iblk]
  rw [V_main_arg0]
  refine congrArg _ (funext fun a => Fin.ext ?_)
  match a with
  | ⟨0, _⟩ => blk_simp [e]; exact (blockRow_val (block_lt t) r).symm
  | ⟨1, _⟩ => blk_simp [e]

theorem mod_apply (c : Dev nD) (t : Fin cfg0.N) (p : Fin 9) (off) (h) (ho : off = ![0, 0, p.val, 0]) (r : Fin 512) (a : Fin 2048) :
    View.ld (Val := Elt Ideal) (e' := .f32) (iblk m c 1 t) (Rect.unit (s := S1x1x9x2048) off ![1, 1, 1, 2048] h)
        (ix4 (0 : Fin 1) (0 : Fin 1) (0 : Fin 1) a)
      = m ((c : Thread nD τ).loc main_arg1) (ix4 (0 : Fin 4) (condRow (blockRow (t.val / 11) r).val) p a) := by
  subst ho
  rw [← condRow_block (block_lt t)]
  have e := index_1 t
  rw [View.ld_unit]
  refine (extractStridedSlice_apply _ _ _ _ (ix4 (0 : Fin 1) (0 : Fin 1) p a) fun a => ?_).trans ?_
  · match a with
    | ⟨0, _⟩ => rfl
    | ⟨1, _⟩ => rfl
    | ⟨2, _⟩ => rfl
    | ⟨3, _⟩ => simp
  blk_simp [iblk]
  rw [V_main_arg1]
  refine congrArg _ (funext fun a => Fin.ext ?_)
  match a with
  | ⟨0, _⟩ => blk_simp [e]; rfl
  | ⟨1, _⟩ => blk_simp [e]
  | ⟨2, _⟩ => blk_simp [e]
  | ⟨3, _⟩ => blk_simp [e]

theorem gain_apply (c : Dev nD) (t : Fin cfg0.N) (p : Fin 3) (off) (h) (ho : off = ![0, p.val, 0]) (a : Fin 2048) :
    View.ld (Val := Elt Ideal) (e' := .f32) (iblk m c 2 t) (Rect.unit (s := S1x3x2048) off ![1, 1, 2048] h)
        (ix3 (0 : Fin 1) (0 : Fin 1) a)
      = m ((c : Thread nD τ).loc main_arg2) (ix3 (0 : Fin 4) p a) := by
  subst ho
  have e := index_2 t
  rw [View.ld_unit]
  refine (extractStridedSlice_apply _ _ _ _ (ix3 (0 : Fin 1) p a) fun a => ?_).trans ?_
  · match a with
    | ⟨0, _⟩ => rfl
    | ⟨1, _⟩ => rfl
    | ⟨2, _⟩ => simp
  blk_simp [iblk]
  rw [V_main_arg2]
  refine congrArg _ (funext fun a => Fin.ext ?_)
  match a with
  | ⟨0, _⟩ => blk_simp [e]; rfl
  | ⟨1, _⟩ => blk_simp [e]
  | ⟨2, _⟩ => blk_simp [e]

theorem block3_apply (c : Dev nD) (t : Fin cfg0.N) (r : Fin 2048) (w : Fin 512) :
    iblk m c 3 t (ix4 (0 : Fin 1) (0 : Fin 1) r w)
      = m ((c : Thread nD τ).loc main_arg3) (ix4 (0 : Fin 4) (0 : Fin 2) r (lane (t.val % 11) w)) := by
  have e := index_3 t
  blk_simp [iblk]
  entry_read
  rw [truncf_apply]
  refine congrArg _ (funext fun a => Fin.ext ?_)
  match a with
  | ⟨0, _⟩ => blk_simp [e]; rfl
  | ⟨1, _⟩ => blk_simp [e]; rfl
  | ⟨2, _⟩ => blk_simp [e]
  | ⟨3, _⟩ => blk_simp [e]; exact (lane_val _ (Nat.mod_lt _ (by decide)) w).symm

theorem block4_apply (c : Dev nD) (t : Fin cfg0.N) (r : Fin 2048) (w : Fin 512) :
    iblk m c 4 t (ix4 (0 : Fin 1) (0 : Fin 1) r w)
      = m ((c : Thread nD τ).loc main_arg4) (ix4 (0 : Fin 4) (0 : Fin 2) r (lane (t.val % 11) w)) := by
  have e := index_4 t
  blk_simp [iblk]
  entry_read
  rw [truncf_apply]
  refine congrArg _ (funext fun a => Fin.ext ?_)
  match a with
  | ⟨0, _⟩ => blk_simp [e]; rfl
  | ⟨1, _⟩ => blk_simp [e]; rfl
  | ⟨2, _⟩ => blk_simp [e]
  | ⟨3, _⟩ => blk_simp [e]; exact (lane_val _ (Nat.mod_lt _ (by decide)) w).symm

theorem block5_apply (c : Dev nD) (t : Fin cfg0.N) (r : Fin 512) (w : Fin 2048) :
    iblk m c 5 t (ix4 (0 : Fin 1) (0 : Fin 1) r w)
      = m ((c : Thread nD τ).loc main_arg5) (ix4 (0 : Fin 4) (0 : Fin 2) (lane (t.val % 11) r) w) := by
  have e := index_5 t
  blk_simp [iblk]
  entry_read
  rw [truncf_apply]
  refine congrArg _ (funext fun a => Fin.ext ?_)
  match a with
  | ⟨0, _⟩ => blk_simp [e]; rfl
  | ⟨1, _⟩ => blk_simp [e]; rfl
  | ⟨2, _⟩ => blk_simp [e]; exact (lane_val _ (Nat.mod_lt _ (by decide)) r).symm
  | ⟨3, _⟩ => blk_simp [e]

/-! ### What the points leave -/

/-- The modulated row `r` of block `b`. -/
def H (c : Dev nD) (b : Nat) (r : Fin 512) : Fin 2048 → EReal :=
  normed (m ((c : Thread nD τ).loc main_arg1)) (m ((c : Thread nD τ).loc main_arg2)) 0 0 0 1
    (fun a => m ((c : Thread nD τ).loc main_arg0) (ix2 (blockRow b r) a)) (blockRow b r).val

/-- Column `a` of group `s` of the down product of a modulated row. -/
def T (c : Dev nD) (h : Fin 2048 → EReal) (s : Nat) (a : Fin 2048) : EReal :=
  downGroup h (fun a l => m ((c : Thread nD τ).loc main_arg3) (ix4 (0 : Fin 4) (0 : Fin 2) a l))
    (fun a l => m ((c : Thread nD τ).loc main_arg4) (ix4 (0 : Fin 4) (0 : Fin 2) a l))
    (fun l => m ((c : Thread nD τ).loc main_arg5) (ix4 (0 : Fin 4) (0 : Fin 2) l a)) s

/-- One group added to the accumulator, at the point's blocks. -/
theorem group_apply (c : Dev nD) (t : Fin cfg0.N) (h : FVec Ideal S512x2048 .bf16) (acc : FVec Ideal S512x2048 .f32) (r : Fin 512) (a : Fin 2048) :
    k0_pay3 (F := Ideal) h (iblk m c 3 t) (iblk m c 4 t) acc (iblk m c 5 t) (ix2 r a)
      = acc (ix2 r a) + T m c (fun a => h (ix2 r a)) (t.val % 11) a := by
  rw [acc_eq, pay3_apply]
  unfold T downGroup
  refine congrArg (_ + ·) ?_
  rw [funext fun a => funext (block3_apply m c t a), funext fun a => funext (block4_apply m c t a),
    funext fun l => block5_apply m c t l a]

/-- The rows a block of rows is modulated to, from the blocks loaded at a point. -/
def blockNormed (c : Dev nD) (t : Fin cfg0.N) : FVec Ideal S512x2048 .bf16 :=
  k0_pay1 (F := Ideal) (iblk m c 0 t)
    (View.ld (Val := Elt Ideal) (e' := .f32) (iblk m c 2 t) (Rect.unit (s := S1x3x2048) ![0, 0, 0] ![1, 1, 2048] inb_S1x3x2048_S1x1x2048_0_0_0))
    (View.ld (Val := Elt Ideal) (e' := .f32) (iblk m c 1 t) (Rect.unit (s := S1x1x9x2048) ![0, 0, 0, 0] ![1, 1, 1, 2048] inb_S1x1x9x2048_S1x1x1x2048_0_0_0_0))
    (View.ld (Val := Elt Ideal) (e' := .f32) (iblk m c 1 t) (Rect.unit (s := S1x1x9x2048) ![0, 0, 1, 0] ![1, 1, 1, 2048] inb_S1x1x9x2048_S1x1x1x2048_0_0_1_0))

/-- The first point of a block of rows. -/
theorem first0 (c : Dev nD) (t : Fin cfg0.N) (h0 : t.val % 11 = 0) : (outsAt0 m c t.val t.isLt).2.2.1 = blockNormed m c t := by
  rw [outsAt0_A m c t h0 (by omega)]
  frame_out
  rfl

theorem first1 (c : Dev nD) (t : Fin cfg0.N) (h0 : t.val % 11 = 0) : (outsAt0 m c t.val t.isLt).2.2.2
    = k0_pay3 (F := Ideal) (blockNormed m c t) (iblk m c 3 t) (iblk m c 4 t) (k0_pay2 (F := Ideal)) (iblk m c 5 t) := by
  rw [outsAt0_A m c t h0 (by omega)]
  frame_out
  rfl

/-- The later points. -/
theorem later0 (c : Dev nD) (t : Fin cfg0.N) (h0 : ¬t.val % 11 = 0) :
    (outsAt0 m c t.val t.isLt).2.2.1 = (outsAt0 m c (t.val - 1) (lt_of_le_of_lt (Nat.sub_le _ _) t.isLt)).2.2.1 := by
  by_cases h1 : t.val % 11 = 10
  · rw [outsAt0_C m c t h0 h1]
    dsimp only
    unfold sout0_C_0
    rfl
  · rw [outsAt0_B m c t h0 h1]
    dsimp only
    unfold sout0_B_0
    rfl

theorem later1 (c : Dev nD) (t : Fin cfg0.N) (h0 : ¬t.val % 11 = 0) : (outsAt0 m c t.val t.isLt).2.2.2
    = k0_pay3 (F := Ideal) (outsAt0 m c (t.val - 1) (lt_of_le_of_lt (Nat.sub_le _ _) t.isLt)).2.2.1 (iblk m c 3 t) (iblk m c 4 t)
      (outsAt0 m c (t.val - 1) (lt_of_le_of_lt (Nat.sub_le _ _) t.isLt)).2.2.2 (iblk m c 5 t) := by
  by_cases h1 : t.val % 11 = 10
  · rw [outsAt0_C m c t h0 h1]
    frame_out
    rw [read_unread_whole, read_unread_whole]
  · rw [outsAt0_B m c t h0 h1]
    frame_out
    rw [read_unread_whole, read_unread_whole]

/-- The last point's output block. -/
theorem last6 (c : Dev nD) (t : Fin cfg0.N) (h1 : t.val % 11 = 10) : (outsAt0 m c t.val t.isLt).1
    = k0_pay5 (F := Ideal) (iblk m c 0 t)
      (View.ld (Val := Elt Ideal) (e' := .f32) (iblk m c 1 t) (Rect.unit (s := S1x1x9x2048) ![0, 0, 2, 0] ![1, 1, 1, 2048] inb_S1x1x9x2048_S1x1x1x2048_0_0_2_0))
      (outsAt0 m c t.val t.isLt).2.2.2 := by
  rw [later1 m c t (by omega), outsAt0_C m c t (by omega) h1]
  frame_out
  rw [read_unread_whole, read_unread_whole]
  rfl

theorem blockNormed_apply (c : Dev nD) (t : Fin cfg0.N) (r : Fin 512) (a : Fin 2048) :
    blockNormed m c t (ix2 r a) = H m c (t.val / 11) r a := by
  unfold blockNormed H normed
  rw [rows_eq, pay1_apply, funext (block0_apply m c t r)]
  have h6 := funext (mod_apply m c t 0 ![0, 0, 0, 0] inb_S1x1x9x2048_S1x1x1x2048_0_0_0_0 rfl r)
  have h7 := funext (mod_apply m c t 1 ![0, 0, 1, 0] inb_S1x1x9x2048_S1x1x1x2048_0_0_1_0 rfl r)
  have h2 := funext (gain_apply m c t 0 ![0, 0, 0] inb_S1x3x2048_S1x1x2048_0_0_0 rfl)
  rw [h6, h7, h2]

/-- What every point leaves in the two buffers. -/
theorem points (c : Dev nD) : ∀ n hn,
    (∀ r a, (outsAt0 m c n hn).2.2.1 (ix2 r a) = H m c (n / 11) r a)
      ∧ ∀ r a, (outsAt0 m c n hn).2.2.2 (ix2 r a) = ∑ s ∈ Finset.range (n % 11 + 1), T m c (H m c (n / 11) r) s a := by
  refine sweep (fun n hn r a => (outsAt0 m c n hn).2.2.1 (ix2 r a)) (fun n hn r a => (outsAt0 m c n hn).2.2.2 (ix2 r a)) (H m c) (T m c)
    (fun n hn h0 => ?_) (fun n hn h0 => ?_)
  · have e0 := first0 m c ⟨n, hn⟩ h0
    have e1 := first1 m c ⟨n, hn⟩ h0
    dsimp only at e0 e1 ⊢
    refine ⟨fun r a => ?_, fun r a => ?_⟩
    · rw [e0, blockNormed_apply]
    · rw [e1, group_apply, zeros_eq, pay2_apply, e0]
  · have e0 := later0 m c ⟨n, hn⟩ h0
    have e1 := later1 m c ⟨n, hn⟩ h0
    dsimp only at e0 e1 ⊢
    refine ⟨fun r a => ?_, fun r a => ?_⟩
    · rw [e0]
    · rw [e1, group_apply]

/-- The block written back after the last group. -/
theorem out_apply (c : Dev nD) (t : Fin cfg0.N) (ht : t.val % 11 = 10) (r : Fin 512) (a : Fin 2048) :
    (outsAt0 m c t.val t.isLt).1 (ix2 r a) = ffnRow (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) 0 0 0 0 1 2 (blockRow (t.val / 11) r) a := by
  have hp := (points m c t.val t.isLt).2 r a
  rw [ht] at hp
  unfold T at hp
  rw [down_groups] at hp
  rw [last6 m c t ht, residual_eq, pay4_apply, hp, block0_apply]
  exact congrArg (residual _ · _) (mod_apply m c t 2 _ _ rfl r a)

/-- The layer's half at a row. -/
def F0 (c : Dev nD) (i : Fin 16384) (a : Fin 2048) : EReal :=
  ffnRow (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) 0 0 0 0 1 2 i a

/-- The half's row modulated for the mixer. -/
def F1 (c : Dev nD) (i : Fin 16384) (a : Fin 2048) : EReal :=
  normed (m ((c : Thread nD τ).loc main_arg1)) (m ((c : Thread nD τ).loc main_arg2)) 0 1 3 4 (F0 m c i) i.val a

/-- The second block written back after the last group. -/
theorem last7 (c : Dev nD) (t : Fin cfg0.N) (h1 : t.val % 11 = 10) : (outsAt0 m c t.val t.isLt).2.1
    = Cert.Ffn1Ideal.Gen.k0_pay1 (F := Ideal) (outsAt0 m c t.val t.isLt).1
      (View.ld (Val := Elt Ideal) (e' := .f32) (iblk m c 2 t) (Rect.unit (s := S1x3x2048) ![0, 1, 0] ![1, 1, 2048] inb_S1x3x2048_S1x1x2048_0_1_0))
      (View.ld (Val := Elt Ideal) (e' := .f32) (iblk m c 1 t) (Rect.unit (s := S1x1x9x2048) ![0, 0, 3, 0] ![1, 1, 1, 2048] inb_S1x1x9x2048_S1x1x1x2048_0_0_3_0))
      (View.ld (Val := Elt Ideal) (e' := .f32) (iblk m c 1 t) (Rect.unit (s := S1x1x9x2048) ![0, 0, 4, 0] ![1, 1, 1, 2048] inb_S1x1x9x2048_S1x1x1x2048_0_0_4_0)) := by
  rw [last6 m c t h1, ← next_eq, later1 m c t (by omega), outsAt0_C m c t (by omega) h1]
  frame_out
  rw [read_unread_whole, read_unread_whole]
  rfl

theorem next_apply (c : Dev nD) (t : Fin cfg0.N) (ht : t.val % 11 = 10) (r : Fin 512) (a : Fin 2048) :
    (outsAt0 m c t.val t.isLt).2.1 (ix2 r a) = F1 m c (blockRow (t.val / 11) r) a := by
  have h3 := funext (mod_apply m c t 3 ![0, 0, 3, 0] inb_S1x1x9x2048_S1x1x1x2048_0_0_3_0 rfl r)
  have h4 := funext (mod_apply m c t 4 ![0, 0, 4, 0] inb_S1x1x9x2048_S1x1x1x2048_0_0_4_0 rfl r)
  have h2 := funext (gain_apply m c t 1 ![0, 1, 0] inb_S1x3x2048_S1x1x2048_0_1_0 rfl)
  rw [last7 m c t ht, pay1_apply, funext (out_apply m c t ht r), h3, h4, h2]
  rfl

/-- The first result array after the run. -/
theorem array (c : Dev nD) : (dats m 0 c).arrAt 6 cfg0.N = fun i : S16384x2048.Idx => F0 m c (i 0) (i 1) := by
  refine (dats m 0 c).arrAt_eq_of_covers 6 _ (by decide +kernel) fun t hf y => ?_
  have e := index_6 t
  blk_simp
  rw [after0_6]
  have h0 : ((cfg0.win 6).blk t).view.emb y 0 = blockRow (t.val / 11) (y 0) :=
    Fin.ext ((by blk_simp [e] : (((cfg0.win 6).blk t).view.emb y 0).val = t.val / 11 * 512 + (y 0).val).trans (blockRow_val (block_lt t) (y 0)).symm)
  have h1 : ((cfg0.win 6).blk t).view.emb y 1 = y 1 :=
    Fin.ext (by blk_simp [e] : (((cfg0.win 6).blk t).view.emb y 1).val = (y 1).val)
  refine Eq.trans (congrArg _ (eq_ix2 y)) ((out_apply m c t ((flush0_6 t).mp hf) (y 0) (y 1)).trans ?_)
  exact (congrArg₂ (F0 m c) h0 h1).symm

/-- The second result array after the run. -/
theorem next_array (c : Dev nD) : (dats m 0 c).arrAt 7 cfg0.N = fun i : S16384x2048.Idx => F1 m c (i 0) (i 1) := by
  refine (dats m 0 c).arrAt_eq_of_covers 7 _ (by decide +kernel) fun t hf y => ?_
  have e := index_7 t
  blk_simp
  rw [after0_7]
  have h0 : ((cfg0.win 7).blk t).view.emb y 0 = blockRow (t.val / 11) (y 0) :=
    Fin.ext ((by blk_simp [e] : (((cfg0.win 7).blk t).view.emb y 0).val = t.val / 11 * 512 + (y 0).val).trans (blockRow_val (block_lt t) (y 0)).symm)
  have h1 : ((cfg0.win 7).blk t).view.emb y 1 = y 1 :=
    Fin.ext (by blk_simp [e] : (((cfg0.win 7).blk t).view.emb y 1).val = (y 1).val)
  refine Eq.trans (congrArg _ (eq_ix2 y)) ((next_apply m c t ((flush0_7 t).mp hf) (y 0) (y 1)).trans ?_)
  exact (congrArg₂ (F1 m c) h0 h1).symm

/-- Run and results: the kernel ends with the layer's half and its modulation in the two result arrays, its arguments as they
were. -/
theorem run (ρ) : θ_run defs (onTc (τ := τ) (main (F := Ideal))) ⟨m, fun _ => 0, ρ⟩ (fun r => ∀ c : Dev nD,
    r.2.mem ((c : Thread nD τ).loc main_v3_0) = (fun i : S16384x2048.Idx => F0 m c (i 0) (i 1))
      ∧ r.2.mem ((c : Thread nD τ).loc main_v3_1) = (fun i : S16384x2048.Idx => F1 m c (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) :=
  (θ_run _ _ _).mono (fun r h c => ⟨((h c).1 6).trans (array m c), ((h c).1 7).trans (next_array m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩) (run_main m ρ)

end Cert.Ffn.Half0

end
-- ==== Proof.Ffn.Half0Ref.lean ====
/-
  The first feed-forward half (layer 0), the reference's side: its arrays read stage by stage at an index, with five
  modulation rows to a token; the stages up to the residual are `ffnRow`, and the last ones `normed` of its rows.
-/
module

public import proofs.«01_k».proof.Proof.Ffn.Half1Ref
public import proofs.«01_k».proof.Proof.Gen.Ffn0RefIdeal.Read
public import Idealize.ShloMosaic.Lib.Pipeline.Value

@[expose] public section

noncomputable section

namespace Cert.Ffn.Half0

open Idealize.ShloMosaic Idealize.ShloMosaic.ValueIdx Cert.Ffn0RefIdeal Cert.Ffn0RefIdeal.Gen Cert.Ffn0RefIdeal.Read
open scoped BigOperators

variable (X : FVec Ideal S16384x2048 .f32) (M : FVec Ideal S4x8x9x2048 .f32) (G : FVec Ideal S4x3x2048 .f32)
  (WG WU : FVec Ideal S4x2x2048x5632 .f32) (WD : FVec Ideal S4x2x5632x2048 .f32)

/-! ### The arguments, laid out for the tokens -/

/-- The three condition rows' modulation: shift, scale and gate, and the shift and scale of what follows. -/
theorem ref_mod (r : Fin 3) (k : Fin 5) (a : Fin 2048) (n : Fin 8) (hn : n.val = r.val) (p : Fin 9) (hp : p.val = k.val) :
    val_main_v1 (F := Ideal) M (ix3 r k a) = M (ix4 (0 : Fin 4) n p a) := by
  have hr := r.isLt
  have hk := k.isLt
  have ha := a.isLt
  rw [val_main_v1_apply, val_main_v0_apply]
  refine congrArg M (funext fun b => Fin.ext ?_)
  match b with
  | ⟨0, _⟩ => rfl
  | ⟨1, _⟩ => show ((r.val * 5 + k.val) * 2048 + a.val) / 10240 % 3 = n.val; omega
  | ⟨2, _⟩ => show ((r.val * 5 + k.val) * 2048 + a.val) / 2048 % 5 = p.val; omega
  | ⟨3, _⟩ => show ((r.val * 5 + k.val) * 2048 + a.val) % 2048 = a.val; omega

/-- The modulation laid out for the tokens. -/
theorem ref_token (i : Fin 16384) (k : Fin 5) (a : Fin 2048) (p : Fin 9) (hp : p.val = k.val) :
    val_main_v7 (F := Ideal) M (ix3 i k a) = M (ix4 (0 : Fin 4) (condRow i.val) p a) := by
  have hi := i.isLt
  have hk := k.isLt
  have ha := a.isLt
  unfold val_main_v7
  by_cases hlt : i.val < 8192
  · refine (concatenate_pair_apply_left (t := S16384x5x2048) (s₁ := S8192x5x2048) (0 : Fin 3) _ _ _ (ix3 i k a) rfl
      (ix3 (⟨i.val, hlt⟩ : Fin 8192) k a) (fun b => match b with | ⟨0, _⟩ => rfl | ⟨1, _⟩ => rfl | ⟨2, _⟩ => rfl)).trans ?_
    rw [val_main_v3_apply, val_main_v2_apply]
    refine Eq.trans (congrArg _ (funext fun b => ?_)) (ref_mod M (0 : Fin 3) k a (condRow i.val) ?_ p hp)
    · match b with | ⟨0, _⟩ => rfl | ⟨1, _⟩ => rfl | ⟨2, _⟩ => rfl
    · unfold condRow
      simp [hlt]
  · obtain ⟨n, hn⟩ : ∃ n, i.val = n + 8192 := ⟨i.val - 8192, by omega⟩
    have hn8 : n < 8192 := by omega
    have hr : 1 + n / 4096 < 3 := by omega
    refine (concatenate_pair_apply_right (t := S16384x5x2048) (s₁ := S8192x5x2048) (s₂ := S8192x5x2048) (0 : Fin 3) _ _ _ (ix3 i k a)
      rfl rfl (ix3 (⟨n, hn8⟩ : Fin 8192) k a)
      (fun b hb => match b with | ⟨0, _⟩ => absurd rfl hb | ⟨1, _⟩ => rfl | ⟨2, _⟩ => rfl) hn.symm).trans ?_
    rw [val_main_v6_apply, val_main_v5_apply, val_main_v4_apply]
    refine Eq.trans (congrArg _ (funext fun b => Fin.ext ?_)) (ref_mod M (⟨1 + n / 4096, hr⟩ : Fin 3) k a (condRow i.val) ?_ p hp)
    · match b with
      | ⟨0, _⟩ => show 1 + ((n * 5 + k.val) * 2048 + a.val) / 41943040 = 1 + n / 4096; omega
      | ⟨1, _⟩ => show ((n * 5 + k.val) * 2048 + a.val) / 2048 % 5 = k.val; omega
      | ⟨2, _⟩ => show ((n * 5 + k.val) * 2048 + a.val) % 2048 = a.val; omega
    · unfold condRow
      simp only [hlt, if_false]
      omega

/-- A row of a token's modulation, as it is cut from the tokens'. -/
theorem ref_row (i : Fin 16384) (a : Fin 2048) (k : Fin 5) (p : Fin 9) (hp : p.val = k.val) (j : S16384x5x2048.Idx)
    (h0 : (j 0).val = (i.val * 2048 + a.val) / 2048) (h1 : (j 1).val = k.val) (h2 : (j 2).val = (i.val * 2048 + a.val) % 2048) :
    val_main_v7 (F := Ideal) M j = M (ix4 (0 : Fin 4) (condRow i.val) p a) := by
  have hi := i.isLt
  have ha := a.isLt
  refine Eq.trans (congrArg _ (funext fun b => Fin.ext ?_)) (ref_token M i k a p hp)
  match b with
  | ⟨0, _⟩ => exact h0.trans (show (i.val * 2048 + a.val) / 2048 = i.val by omega)
  | ⟨1, _⟩ => exact h1
  | ⟨2, _⟩ => exact h2.trans (show (i.val * 2048 + a.val) % 2048 = a.val by omega)

theorem ref_shift (i : Fin 16384) (a : Fin 2048) : val_main_v11 (F := Ideal) M (ix2 i a) = M (ix4 (0 : Fin 4) (condRow i.val) 0 a) := by
  rw [val_main_v11_apply, val_main_v10_apply]
  exact ref_row M i a 0 0 rfl _ rfl rfl rfl

theorem ref_scale (i : Fin 16384) (a : Fin 2048) : val_main_v13 (F := Ideal) M (ix2 i a) = M (ix4 (0 : Fin 4) (condRow i.val) 1 a) := by
  rw [val_main_v13_apply, val_main_v12_apply]
  exact ref_row M i a 1 1 rfl _ rfl rfl rfl

theorem ref_gate (i : Fin 16384) (a : Fin 2048) : val_main_v32 (F := Ideal) M (ix2 i a) = M (ix4 (0 : Fin 4) (condRow i.val) 2 a) := by
  rw [val_main_v32_apply, val_main_v31_apply]
  exact ref_row M i a 2 2 rfl _ rfl rfl rfl

theorem ref_nextShift (i : Fin 16384) (a : Fin 2048) : val_main_v51 (F := Ideal) M (ix2 i a) = M (ix4 (0 : Fin 4) (condRow i.val) 3 a) := by
  rw [val_main_v51_apply, val_main_v50_apply]
  exact ref_row M i a 3 3 rfl _ rfl rfl rfl

theorem ref_nextScale (i : Fin 16384) (a : Fin 2048) : val_main_v53 (F := Ideal) M (ix2 i a) = M (ix4 (0 : Fin 4) (condRow i.val) 4 a) := by
  rw [val_main_v53_apply, val_main_v52_apply]
  exact ref_row M i a 4 4 rfl _ rfl rfl rfl

/-- The gains of the two normalisations. -/
theorem ref_gain (i : Fin 16384) (a : Fin 2048) : val_main_v25 (F := Ideal) G (ix2 i a) = G (ix3 (0 : Fin 4) (0 : Fin 3) a) := by
  have ha := a.isLt
  rw [val_main_v25_apply, val_main_v24_apply, val_main_v9_apply, val_main_v8_apply]
  refine congrArg G (funext fun b => Fin.ext ?_)
  match b with
  | ⟨0, _⟩ => rfl
  | ⟨1, _⟩ => rfl
  | ⟨2, _⟩ => show a.val % 2048 = a.val; omega

theorem ref_nextGain (i : Fin 16384) (a : Fin 2048) : val_main_v65 (F := Ideal) G (ix2 i a) = G (ix3 (0 : Fin 4) (1 : Fin 3) a) := by
  have ha := a.isLt
  rw [val_main_v65_apply, val_main_v64_apply, val_main_v49_apply, val_main_v48_apply]
  refine congrArg G (funext fun b => Fin.ext ?_)
  match b with
  | ⟨0, _⟩ => rfl
  | ⟨1, _⟩ => rfl
  | ⟨2, _⟩ => show a.val % 2048 = a.val; omega

/-- The weights of the gate's and of the other product. -/
theorem ref_up (a : Fin 2048) (l : Fin 5632) :
    val_main_v36 (F := Ideal) WG (ix2 a l) = WG (ix4 (0 : Fin 4) (0 : Fin 2) a l)
      ∧ val_main_v38 (F := Ideal) WU (ix2 a l) = WU (ix4 (0 : Fin 4) (0 : Fin 2) a l) := by
  have ha := a.isLt
  have hl := l.isLt
  have e : ∀ b, (idx_main_v35 (idx_main_v36 (ix2 a l)) b).val = (ix4 (0 : Fin 4) (0 : Fin 2) a l b).val := fun b => match b with
    | ⟨0, _⟩ => rfl
    | ⟨1, _⟩ => rfl
    | ⟨2, _⟩ => by show (a.val * 5632 + l.val) / 5632 % 2048 = a.val; omega
    | ⟨3, _⟩ => by show (a.val * 5632 + l.val) % 5632 = l.val; omega
  rw [val_main_v36_apply, val_main_v35_apply, val_main_v38_apply, val_main_v37_apply]
  exact ⟨congrArg WG (funext fun b => Fin.ext (e b)), congrArg WU (funext fun b => Fin.ext (e b))⟩

/-- The weights of the down product. -/
theorem ref_down (l : Fin 5632) (a : Fin 2048) :
    val_main_v40 (F := Ideal) WD (ix2 l a) = WD (ix4 (0 : Fin 4) (0 : Fin 2) l a) := by
  have ha := a.isLt
  have hl := l.isLt
  rw [val_main_v40_apply, val_main_v39_apply]
  refine congrArg WD (funext fun b => Fin.ext ?_)
  match b with
  | ⟨0, _⟩ => rfl
  | ⟨1, _⟩ => rfl
  | ⟨2, _⟩ => show (l.val * 2048 + a.val) / 2048 % 5632 = l.val; omega
  | ⟨3, _⟩ => show (l.val * 2048 + a.val) % 2048 = a.val; omega

/-! ### The stages -/

/-- The reciprocal root mean square of a row is the second half's. -/
theorem ref_rms (i : Fin 16384) (a : Fin 2048) : val_main_v22 (F := Ideal) X (ix2 i a) = rms fun b => X (ix2 i b) :=
  Half1.ref_rms X i a

/-- The modulated rows. -/
theorem ref_normed (i : Fin 16384) (a : Fin 2048) :
    val_main_v30 (F := Ideal) X M G (ix2 i a) = normed M G 0 0 0 1 (fun b => X (ix2 i b)) i.val a := by
  rw [val_main_v30_apply, val_main_v29_apply, val_main_v26_apply, val_main_v23_apply, val_main_v28_apply, val_main_v27_apply,
    val_main_cst_2_apply, ref_rms, ref_gain, ref_shift, ref_scale]
  rfl

/-- The gate's and the other product. -/
theorem ref_products (i : Fin 16384) (l : Fin 5632) :
    val_main_v41 (F := Ideal) X M G WG (ix2 i l)
        = ∑ a, normed M G 0 0 0 1 (fun b => X (ix2 i b)) i.val a * WG (ix4 (0 : Fin 4) (0 : Fin 2) a l)
      ∧ val_main_v43 (F := Ideal) X M G WU (ix2 i l)
        = ∑ a, normed M G 0 0 0 1 (fun b => X (ix2 i b)) i.val a * WU (ix4 (0 : Fin 4) (0 : Fin 2) a l) := by
  have el : ∀ a, lidx_main_v41 (ix2 i l) a = ix2 i a := fun a => by funext d; match d with | ⟨0, _⟩ => rfl | ⟨1, _⟩ => rfl
  have er : ∀ a, ridx_main_v41 (ix2 i l) a = ix2 a l := fun a => by funext d; match d with | ⟨0, _⟩ => rfl | ⟨1, _⟩ => rfl
  rw [val_main_v41_apply, val_main_v43_apply]
  refine ⟨Finset.sum_congr rfl fun a _ => ?_, Finset.sum_congr rfl fun a _ => ?_⟩
  · rw [el, er, ref_normed, (ref_up WG WG a l).1]
  · exact congrArg₂ (· * ·) ((congrArg _ (el a)).trans (ref_normed X M G i a)) ((congrArg _ (er a)).trans (ref_up WU WU a l).2)

/-- The hidden values. -/
theorem ref_hidden (i : Fin 16384) (l : Fin 5632) : val_main_v44 (F := Ideal) X M G WG WU (ix2 i l)
    = hidden (normed M G 0 0 0 1 (fun b => X (ix2 i b)) i.val) (fun a => WG (ix4 (0 : Fin 4) (0 : Fin 2) a l))
        (fun a => WU (ix4 (0 : Fin 4) (0 : Fin 2) a l)) := by
  rw [val_main_v44_apply, val_main_v42_apply, val_main_call0_v5_apply, val_main_call0_v4_apply, val_main_call0_cst_0_apply,
    val_main_call0_v3_apply, val_main_call0_v2_apply, val_main_call0_cst_apply, val_main_call0_v1_apply, val_main_call0_v0_apply,
    (ref_products X M G WG WU i l).1, (ref_products X M G WG WU i l).2]
  unfold hidden Ideal.logistic
  rw [← one_bits]
  rfl

/-- **The reference's rows.** -/
theorem ref_eq : val_main_v47 (F := Ideal) X M G WG WU WD
    = fun i : S16384x2048.Idx => ffnRow X M G WG WU WD 0 0 0 0 1 2 (i 0) (i 1) := by
  funext j
  obtain ⟨i, c, rfl⟩ : ∃ i c, j = ix2 i c := ⟨j 0, j 1, eq_ix2 j⟩
  have el : ∀ l, lidx_main_v45 (ix2 i c) l = ix2 i l := fun l => by funext d; match d with | ⟨0, _⟩ => rfl | ⟨1, _⟩ => rfl
  have er : ∀ l, ridx_main_v45 (ix2 i c) l = ix2 l c := fun l => by funext d; match d with | ⟨0, _⟩ => rfl | ⟨1, _⟩ => rfl
  rw [val_main_v47_apply, val_main_v46_apply, val_main_v34_apply, val_main_v33_apply, val_main_cst_3_apply, val_main_v45_apply,
    ref_gate]
  show _ = ffnRow X M G WG WU WD 0 0 0 0 1 2 i c
  unfold ffnRow residual down
  refine congrArg (fun s => X (ix2 i c) + Ideal.ofBits .f32 0x3F000000#32 * M (ix4 (0 : Fin 4) (condRow i.val) 2 c) * s)
    (Finset.sum_congr rfl fun l _ => ?_)
  rw [el, er, ref_hidden, ref_down]

/-- **The rows handed on**: the residual, normalised and modulated. -/
theorem ref_next : val_main_v71 (F := Ideal) X M G WG WU WD = fun i : S16384x2048.Idx =>
    normed M G 0 1 3 4 (ffnRow X M G WG WU WD 0 0 0 0 1 2 (i 0)) (i 0).val (i 1) := by
  funext j
  obtain ⟨i, c, rfl⟩ : ∃ i c, j = ix2 i c := ⟨j 0, j 1, eq_ix2 j⟩
  have hr : val_main_v62 (F := Ideal) X M G WG WU WD (ix2 i c) = rms fun b => val_main_v47 (F := Ideal) X M G WG WU WD (ix2 i b) :=
    ref_rms (val_main_v47 (F := Ideal) X M G WG WU WD) i c
  rw [val_main_v71_apply, val_main_v70_apply, val_main_v69_apply, val_main_v66_apply, val_main_v63_apply, val_main_v68_apply,
    val_main_v67_apply, val_main_cst_7_apply, hr, ref_nextGain, ref_nextShift, ref_nextScale, ref_eq]
  rfl

end Cert.Ffn.Half0

end
-- ==== Proof.Ffn.Half0Claim.lean ====
/-
  The claims about the first feed-forward half: the reference's frame, and the equality of the kernel's two result arrays
  with the reference's.
-/
module

public import proofs.«01_k».proof.Proof.Ffn.Half0
public import proofs.«01_k».proof.Proof.Ffn.Half0Ref
public import proofs.«01_k».proof.Proof.Gen.Ffn0RefIdeal.Run
public import proofs.«01_k».proof.Defs

@[expose] public section

noncomputable section

namespace Cert.Ffn.Half0

open Idealize.ShloMosaic Idealize.ShloMosaic.TcCoe Idealize.SL.Sem

theorem ref_frame : Cert.quiescent_Ffn0RefIdeal := fun m ρ _ =>
  (θ_run Cert.Ffn0RefIdeal.defs _ _).mono (fun r h => ⟨fun c => (h c).2.2, sem_eq_zero_of_no_sems (by decide) r.2⟩)
    (Cert.Ffn0RefIdeal.Value.run (F := Ideal) m ρ)

/-- **The kernel computes the reference's feed-forward half.** -/
theorem value : Cert.algebraic_Ffn0Ideal_Ffn0RefIdeal := by
  intro m ρ m' ρ' _ hagree
  refine ⟨_, _, run m ρ, ?_⟩
  refine (θ_run _ _ _).mono (fun r h c => ⟨(h c).1.trans ?_, (h c).2.1.trans ?_, (h c).2.2⟩)
    (Cert.Ffn0RefIdeal.Value.run (F := Ideal) m' ρ')
  · refine (Cert.Ffn0RefIdeal.Read.val_main_v47_eq _ _).trans ?_
    obtain ⟨h0, h1, h2, h3, h4, h5⟩ := hagree c
    rw [h0, h1, h2, h3, h4, h5]
    exact ref_eq _ _ _ _ _ _
  · refine (Cert.Ffn0RefIdeal.Read.val_main_v71_eq _ _).trans ?_
    obtain ⟨h0, h1, h2, h3, h4, h5⟩ := hagree c
    rw [h0, h1, h2, h3, h4, h5]
    exact ref_next _ _ _ _ _ _

end Cert.Ffn.Half0

end
-- ==== Proof.Proj.Even.lean ====
/-
  The input projection of an even layer. The grid is two halves of the columns by 32 blocks of 512 rows; every point multiplies
  its rows by its half of the weights. So the result array is `project`, the product of the rows with the second even layer's weights,
  and that is the reference's product.
-/
module

public import proofs.«01_k».proof.Proof.Ffn.Swiglu
public import proofs.«01_k».proof.Proof.Gen.InEvenIdeal.Value
public import proofs.«01_k».proof.Proof.Gen.InEvenRefIdeal.Read
public import proofs.«01_k».proof.Proof.Gen.InEvenRefIdeal.Run
public import proofs.«01_k».proof.Defs
public import Idealize.ShloMosaic.Lib.Pipeline.ValueKit.Geometry
public import Idealize.ShloMosaic.Lib.MatmulPlain
public import Idealize.ShloMosaic.Lib.Claim

@[expose] public section

noncomputable section

namespace Cert.Proj.Even

open Idealize.ShloMosaic Idealize.ShloMosaic.ValueIdx Idealize.ShloMosaic.TcCoe Idealize.SL.Sem Cert.InEvenIdeal Cert.InEvenIdeal.Gen
open Cert.Ffn (blockRow blockRow_val)
open scoped BigOperators

/-- The product of the rows with the second of the two weight matrices. -/
def project (h : FVec Ideal S16384x2048 .bf16) (w : FVec Ideal S2x2048x4096 .f32) (i : S16384x4096.Idx) : EReal :=
  ∑ a : Fin 2048, h (ix2 (i 0 : Fin 16384) a) * w (ix3 (1 : Fin 2) a (i 1 : Fin 4096))

/-- Column `r` of half `b` of the columns. -/
def halfCol (b : Nat) (r : Fin 2048) : Fin 4096 := ⟨(b * 2048 + r.val) % 4096, Nat.mod_lt _ (by decide)⟩

theorem halfCol_val {b : Nat} (hb : b < 2) (r : Fin 2048) : (halfCol b r).val = b * 2048 + r.val := by
  have := r.isLt
  show (b * 2048 + r.val) % 4096 = _
  omega

/-- A block of rows times a half of the weights, at an index. -/
theorem pay_apply (x : FVec Ideal S512x2048 .bf16) (w : FVec Ideal S1x2048x2048 .bf16) (r : Fin 512) (j : Fin 2048) :
    k0_pay1 (F := Ideal) x w (ix2 r j) = ∑ a : Fin 2048, x (ix2 r a) * w (ix3 (0 : Fin 1) a j) := by
  unfold k0_pay1
  refine (Ideal.matmul_plain_apply (M := 512) (K := 2048) (N := 2048) none _ _ _ r j).trans ?_
  show Ideal.ofBits .f32 0x00000000#32 + _ = _
  rw [Ideal.ofBits_zero_f32, zero_add]
  refine Finset.sum_congr rfl fun a _ => congrArg (_ * ·) ?_
  exact shapeCast_apply _ _ _ (ix3 (0 : Fin 1) a j) (by rw [Shape.rowMajor_val_three, Shape.rowMajor_val_two]; simp)

variable (m : (ℓ : Loc nD τ sig) → Buf (Elt Ideal) ℓ)

theorem index_0 : ∀ t : Fin cfg0.N, win0_0.index t = ![t.val % 32, 0] := (by decide +kernel : ∀ t : Fin grid0.N, _)
theorem index_1 : ∀ t : Fin cfg0.N, win0_1.index t = ![1, 0, t.val / 32] := (by decide +kernel : ∀ t : Fin grid0.N, _)
theorem index_2 : ∀ t : Fin cfg0.N, win0_2.index t = ![t.val % 32, t.val / 32] := (by decide +kernel : ∀ t : Fin grid0.N, _)

theorem half_lt (t : Fin cfg0.N) : t.val / 32 < 2 := by
  have ht : t.val < 64 := lt_of_lt_of_eq t.isLt N_0
  omega

theorem block0_apply (c : Dev nD) (t : Fin cfg0.N) (r : Fin 512) (w : Fin 2048) :
    iblk m c 0 t (ix2 r w) = m ((c : Thread nD τ).loc main_arg0) (ix2 (blockRow (t.val % 32) r) w) := by
  have e := index_0 t
  blk_simp [iblk]
  rw [V_main_arg0]
  refine congrArg _ (funext fun a => Fin.ext ?_)
  match a with
  | ⟨0, _⟩ => blk_simp [e]; exact (blockRow_val (Nat.mod_lt _ (by decide)) r).symm
  | ⟨1, _⟩ => blk_simp [e]

theorem block1_apply (c : Dev nD) (t : Fin cfg0.N) (r : Fin 2048) (w : Fin 2048) :
    iblk m c 1 t (ix3 (0 : Fin 1) r w) = m ((c : Thread nD τ).loc main_arg1) (ix3 (1 : Fin 2) r (halfCol (t.val / 32) w)) := by
  have e := index_1 t
  blk_simp [iblk]
  entry_read
  rw [truncf_apply]
  refine congrArg _ (funext fun a => Fin.ext ?_)
  match a with
  | ⟨0, _⟩ => blk_simp [e]; rfl
  | ⟨1, _⟩ => blk_simp [e]
  | ⟨2, _⟩ => blk_simp [e]; exact (halfCol_val (half_lt t) w).symm

/-- What a point leaves in its block is its payload of its two blocks. -/
theorem block_eq (x : FVec Ideal S512x2048 .bf16) (w : FVec Ideal S1x2048x2048 .bf16) :
    out0_2 (F := Ideal) x w = k0_pay1 (F := Ideal) x w := by
  frame_out

/-- The result array after the run. -/
theorem array (c : Dev nD) : (dats m 0 c).arrAt 2 cfg0.N
    = project (m ((c : Thread nD τ).loc main_arg0)) (m ((c : Thread nD τ).loc main_arg1)) := by
  refine (dats m 0 c).arrAt_eq_of_covers 2 _ (by decide +kernel) fun t hf y => ?_
  have e := index_2 t
  blk_simp
  rw [after0_2, block_eq]
  have h0 : ((cfg0.win 2).blk t).view.emb y 0 = blockRow (t.val % 32) (y 0) :=
    Fin.ext ((by blk_simp [e] : (((cfg0.win 2).blk t).view.emb y 0).val = t.val % 32 * 512 + (y 0).val).trans
      (blockRow_val (Nat.mod_lt _ (by decide)) (y 0)).symm)
  have h1 : ((cfg0.win 2).blk t).view.emb y 1 = halfCol (t.val / 32) (y 1) :=
    Fin.ext ((by blk_simp [e] : (((cfg0.win 2).blk t).view.emb y 1).val = t.val / 32 * 2048 + (y 1).val).trans
      (halfCol_val (half_lt t) (y 1)).symm)
  refine Eq.trans (congrArg _ (eq_ix2 y)) ((pay_apply _ _ (y 0) (y 1)).trans ?_)
  unfold project
  rw [h0, h1]
  refine Finset.sum_congr rfl fun a _ => ?_
  exact congrArg₂ (· * ·) (block0_apply m c t (y 0) a) (block1_apply m c t a (y 1))

/-- The reference's product. -/
theorem ref_eq (h : FVec Ideal S16384x2048 .bf16) (w : FVec Ideal S2x2048x4096 .f32) :
    Cert.InEvenRefIdeal.Read.val_main_v3 (F := Ideal) h w = project h w := by
  funext j
  obtain ⟨i, l, rfl⟩ : ∃ i l, j = ix2 i l := ⟨j 0, j 1, eq_ix2 j⟩
  have hl := l.isLt
  rw [Cert.InEvenRefIdeal.Read.val_main_v3_apply]
  unfold project
  refine Finset.sum_congr rfl fun a _ => ?_
  have ha := a.isLt
  rw [Cert.InEvenRefIdeal.Read.val_main_v0_apply, Cert.InEvenRefIdeal.Read.val_main_v2_apply, Cert.InEvenRefIdeal.Read.val_main_v1_apply]
  refine congrArg₂ (· * ·) (congrArg h (funext fun b => ?_)) (congrArg w (funext fun b => Fin.ext ?_))
  · match b with | ⟨0, _⟩ => rfl | ⟨1, _⟩ => rfl
  · match b with
    | ⟨0, _⟩ => rfl
    | ⟨1, _⟩ => show (a.val * 4096 + l.val) / 4096 % 2048 = a.val; omega
    | ⟨2, _⟩ => show (a.val * 4096 + l.val) % 4096 = l.val; omega

theorem ref_frame : Cert.quiescent_InEvenRefIdeal := fun m ρ _ =>
  (θ_run Cert.InEvenRefIdeal.defs _ _).mono (fun r h => ⟨fun c => (h c).2, sem_eq_zero_of_no_sems (by decide) r.2⟩)
    (Cert.InEvenRefIdeal.Value.run (F := Ideal) m ρ)

/-- **The kernel computes the reference's projection.** -/
theorem value : Cert.algebraic_InEvenIdeal_InEvenRefIdeal := by
  intro m ρ m' ρ' _ hagree
  refine ⟨fun c => project (m ((c.tc : Thread _ _).loc main_arg0)) (m ((c.tc : Thread _ _).loc main_arg1)), ?_, ?_⟩
  · exact (θ_run _ _ _).mono (fun r h c => ⟨(h c).1.trans (array m c), (h c).2⟩) (Cert.InEvenIdeal.Value.run_blocks (F := Ideal) m ρ)
  · refine (θ_run _ _ _).mono (fun r h c => ⟨(h c).1.trans ?_, (h c).2⟩) (Cert.InEvenRefIdeal.Value.run (F := Ideal) m' ρ')
    refine (Cert.InEvenRefIdeal.Read.val_main_v3_eq _ _).trans ?_
    obtain ⟨h0, h1⟩ := hagree c
    rw [h0, h1]
    exact ref_eq _ _

end Cert.Proj.Even

end
-- ==== Proof.Proj.Odd.lean ====
/-
  The input projection of an odd layer. The grid is two halves of the columns by 32 blocks of 512 rows; every point multiplies
  its rows by its half of the weights. So the result array is `project`, the product of the rows with the second odd layer's weights,
  and that is the reference's product.
-/
module

public import proofs.«01_k».proof.Proof.Ffn.Swiglu
public import proofs.«01_k».proof.Proof.Gen.InOddIdeal.Value
public import proofs.«01_k».proof.Proof.Gen.InOddRefIdeal.Read
public import proofs.«01_k».proof.Proof.Gen.InOddRefIdeal.Run
public import proofs.«01_k».proof.Defs
public import Idealize.ShloMosaic.Lib.Pipeline.ValueKit.Geometry
public import Idealize.ShloMosaic.Lib.MatmulPlain
public import Idealize.ShloMosaic.Lib.Claim

@[expose] public section

noncomputable section

namespace Cert.Proj.Odd

open Idealize.ShloMosaic Idealize.ShloMosaic.ValueIdx Idealize.ShloMosaic.TcCoe Idealize.SL.Sem Cert.InOddIdeal Cert.InOddIdeal.Gen
open Cert.Ffn (blockRow blockRow_val)
open scoped BigOperators

/-- The product of the rows with the second of the two weight matrices. -/
def project (h : FVec Ideal S16384x2048 .bf16) (w : FVec Ideal S2x2048x5120 .f32) (i : S16384x5120.Idx) : EReal :=
  ∑ a : Fin 2048, h (ix2 (i 0 : Fin 16384) a) * w (ix3 (1 : Fin 2) a (i 1 : Fin 5120))

/-- Column `r` of half `b` of the columns. -/
def halfCol (b : Nat) (r : Fin 2560) : Fin 5120 := ⟨(b * 2560 + r.val) % 5120, Nat.mod_lt _ (by decide)⟩

theorem halfCol_val {b : Nat} (hb : b < 2) (r : Fin 2560) : (halfCol b r).val = b * 2560 + r.val := by
  have := r.isLt
  show (b * 2560 + r.val) % 5120 = _
  omega

/-- A block of rows times a half of the weights, at an index. -/
theorem pay_apply (x : FVec Ideal S512x2048 .bf16) (w : FVec Ideal S1x2048x2560 .bf16) (r : Fin 512) (j : Fin 2560) :
    k0_pay1 (F := Ideal) x w (ix2 r j) = ∑ a : Fin 2048, x (ix2 r a) * w (ix3 (0 : Fin 1) a j) := by
  unfold k0_pay1
  refine (Ideal.matmul_plain_apply (M := 512) (K := 2048) (N := 2560) none _ _ _ r j).trans ?_
  show Ideal.ofBits .f32 0x00000000#32 + _ = _
  rw [Ideal.ofBits_zero_f32, zero_add]
  refine Finset.sum_congr rfl fun a _ => congrArg (_ * ·) ?_
  exact shapeCast_apply _ _ _ (ix3 (0 : Fin 1) a j) (by rw [Shape.rowMajor_val_three, Shape.rowMajor_val_two]; simp)

variable (m : (ℓ : Loc nD τ sig) → Buf (Elt Ideal) ℓ)

theorem index_0 : ∀ t : Fin cfg0.N, win0_0.index t = ![t.val % 32, 0] := (by decide +kernel : ∀ t : Fin grid0.N, _)
theorem index_1 : ∀ t : Fin cfg0.N, win0_1.index t = ![1, 0, t.val / 32] := (by decide +kernel : ∀ t : Fin grid0.N, _)
theorem index_2 : ∀ t : Fin cfg0.N, win0_2.index t = ![t.val % 32, t.val / 32] := (by decide +kernel : ∀ t : Fin grid0.N, _)

theorem half_lt (t : Fin cfg0.N) : t.val / 32 < 2 := by
  have ht : t.val < 64 := lt_of_lt_of_eq t.isLt N_0
  omega

theorem block0_apply (c : Dev nD) (t : Fin cfg0.N) (r : Fin 512) (w : Fin 2048) :
    iblk m c 0 t (ix2 r w) = m ((c : Thread nD τ).loc main_arg0) (ix2 (blockRow (t.val % 32) r) w) := by
  have e := index_0 t
  blk_simp [iblk]
  rw [V_main_arg0]
  refine congrArg _ (funext fun a => Fin.ext ?_)
  match a with
  | ⟨0, _⟩ => blk_simp [e]; exact (blockRow_val (Nat.mod_lt _ (by decide)) r).symm
  | ⟨1, _⟩ => blk_simp [e]

theorem block1_apply (c : Dev nD) (t : Fin cfg0.N) (r : Fin 2048) (w : Fin 2560) :
    iblk m c 1 t (ix3 (0 : Fin 1) r w) = m ((c : Thread nD τ).loc main_arg1) (ix3 (1 : Fin 2) r (halfCol (t.val / 32) w)) := by
  have e := index_1 t
  blk_simp [iblk]
  entry_read
  rw [truncf_apply]
  refine congrArg _ (funext fun a => Fin.ext ?_)
  match a with
  | ⟨0, _⟩ => blk_simp [e]; rfl
  | ⟨1, _⟩ => blk_simp [e]
  | ⟨2, _⟩ => blk_simp [e]; exact (halfCol_val (half_lt t) w).symm

/-- What a point leaves in its block is its payload of its two blocks. -/
theorem block_eq (x : FVec Ideal S512x2048 .bf16) (w : FVec Ideal S1x2048x2560 .bf16) :
    out0_2 (F := Ideal) x w = k0_pay1 (F := Ideal) x w := by
  frame_out

/-- The result array after the run. -/
theorem array (c : Dev nD) : (dats m 0 c).arrAt 2 cfg0.N
    = project (m ((c : Thread nD τ).loc main_arg0)) (m ((c : Thread nD τ).loc main_arg1)) := by
  refine (dats m 0 c).arrAt_eq_of_covers 2 _ (by decide +kernel) fun t hf y => ?_
  have e := index_2 t
  blk_simp
  rw [after0_2, block_eq]
  have h0 : ((cfg0.win 2).blk t).view.emb y 0 = blockRow (t.val % 32) (y 0) :=
    Fin.ext ((by blk_simp [e] : (((cfg0.win 2).blk t).view.emb y 0).val = t.val % 32 * 512 + (y 0).val).trans
      (blockRow_val (Nat.mod_lt _ (by decide)) (y 0)).symm)
  have h1 : ((cfg0.win 2).blk t).view.emb y 1 = halfCol (t.val / 32) (y 1) :=
    Fin.ext ((by blk_simp [e] : (((cfg0.win 2).blk t).view.emb y 1).val = t.val / 32 * 2560 + (y 1).val).trans
      (halfCol_val (half_lt t) (y 1)).symm)
  refine Eq.trans (congrArg _ (eq_ix2 y)) ((pay_apply _ _ (y 0) (y 1)).trans ?_)
  unfold project
  rw [h0, h1]
  refine Finset.sum_congr rfl fun a _ => ?_
  exact congrArg₂ (· * ·) (block0_apply m c t (y 0) a) (block1_apply m c t a (y 1))

/-- The reference's product. -/
theorem ref_eq (h : FVec Ideal S16384x2048 .bf16) (w : FVec Ideal S2x2048x5120 .f32) :
    Cert.InOddRefIdeal.Read.val_main_v3 (F := Ideal) h w = project h w := by
  funext j
  obtain ⟨i, l, rfl⟩ : ∃ i l, j = ix2 i l := ⟨j 0, j 1, eq_ix2 j⟩
  have hl := l.isLt
  rw [Cert.InOddRefIdeal.Read.val_main_v3_apply]
  unfold project
  refine Finset.sum_congr rfl fun a _ => ?_
  have ha := a.isLt
  rw [Cert.InOddRefIdeal.Read.val_main_v0_apply, Cert.InOddRefIdeal.Read.val_main_v2_apply, Cert.InOddRefIdeal.Read.val_main_v1_apply]
  refine congrArg₂ (· * ·) (congrArg h (funext fun b => ?_)) (congrArg w (funext fun b => Fin.ext ?_))
  · match b with | ⟨0, _⟩ => rfl | ⟨1, _⟩ => rfl
  · match b with
    | ⟨0, _⟩ => rfl
    | ⟨1, _⟩ => show (a.val * 5120 + l.val) / 5120 % 2048 = a.val; omega
    | ⟨2, _⟩ => show (a.val * 5120 + l.val) % 5120 = l.val; omega

theorem ref_frame : Cert.quiescent_InOddRefIdeal := fun m ρ _ =>
  (θ_run Cert.InOddRefIdeal.defs _ _).mono (fun r h => ⟨fun c => (h c).2, sem_eq_zero_of_no_sems (by decide) r.2⟩)
    (Cert.InOddRefIdeal.Value.run (F := Ideal) m ρ)

/-- **The kernel computes the reference's projection.** -/
theorem value : Cert.algebraic_InOddIdeal_InOddRefIdeal := by
  intro m ρ m' ρ' _ hagree
  refine ⟨fun c => project (m ((c.tc : Thread _ _).loc main_arg0)) (m ((c.tc : Thread _ _).loc main_arg1)), ?_, ?_⟩
  · exact (θ_run _ _ _).mono (fun r h c => ⟨(h c).1.trans (array m c), (h c).2⟩) (Cert.InOddIdeal.Value.run_blocks (F := Ideal) m ρ)
  · refine (θ_run _ _ _).mono (fun r h c => ⟨(h c).1.trans ?_, (h c).2⟩) (Cert.InOddRefIdeal.Value.run (F := Ideal) m' ρ')
    refine (Cert.InOddRefIdeal.Read.val_main_v3_eq _ _).trans ?_
    obtain ⟨h0, h1⟩ := hagree c
    rw [h0, h1]
    exact ref_eq _ _

end Cert.Proj.Odd

end
-- ==== Proof.Proj.Out.lean ====
/-
  The output projection of a mixer, the kernel's side. The grid is 32 blocks of 512 rows: the first sixteen are the prompts'
  and read the prompts' two mixer halves, the others the samples'. Each point multiplies the two halves of its rows by the two
  halves of the weights, and adds the gated sum to its rows of the residual stream. So the result array is `mixOut`.
-/
module

public import proofs.«01_k».proof.Proof.Ffn.Swiglu
public import proofs.«01_k».proof.Proof.Gen.OutIdeal.Value
public import Idealize.ShloMosaic.Lib.Pipeline.ValueKit.Geometry
public import Idealize.ShloMosaic.Lib.MatmulPlain
public import Idealize.ShloMosaic.Lib.Claim

@[expose] public section

noncomputable section

namespace Cert.Proj.Out

open Idealize.ShloMosaic Idealize.ShloMosaic.ValueIdx Idealize.ShloMosaic.TcCoe Idealize.SL.Sem Cert.OutIdeal Cert.OutIdeal.Gen
open Cert.Ffn (blockRow blockRow_val condRow condRow_block)
open scoped BigOperators

/-- Column `a` of token `i`, a prompt's or a sample's. -/
def token (p s : FVec Ideal S8192x1024 .bf16) (i : Fin 16384) (a : Fin 1024) : EReal :=
  if h : i.val < 8192 then p (ix2 ⟨i.val, h⟩ a) else s (ix2 ⟨i.val - 8192, by have := i.isLt; omega⟩ a)

/-- Column `a` of the second half of the 2048 columns. -/
def upper (a : Fin 1024) : Fin 2048 := ⟨1024 + a.val, by have := a.isLt; omega⟩

/-- Column `a` of the first half of the 2048 columns. -/
def lower (a : Fin 1024) : Fin 2048 := ⟨a.val, by have := a.isLt; omega⟩

/-- A residual value plus its gated sum of two products. -/
def gated (x g a b : EReal) : EReal := x + g * (a + b)

/-- The residual row plus the gated product of its two mixer halves with the second of the two weight matrices. -/
def mixOut (yap ybp yas ybs : FVec Ideal S8192x1024 .bf16) (w : FVec Ideal S2x2048x2048 .f32) (x : FVec Ideal S16384x2048 .f32)
    (M : FVec Ideal S4x8x9x2048 .f32) (i : Fin 16384) (j : Fin 2048) : EReal :=
  gated (x (ix2 i j)) (M (ix4 (3 : Fin 4) (condRow i.val) (5 : Fin 9) j))
    (∑ a, token yap yas i a * w (ix3 (1 : Fin 2) (lower a) j)) (∑ a, token ybp ybs i a * w (ix3 (1 : Fin 2) (upper a) j))

/-- A block of rows times a half of the weights, at an index. -/
theorem product_apply (x : FVec Ideal S512x1024 .bf16) (w : FVec Ideal S1x1024x2048 .bf16) (hw : S1x1024x2048.ShapeCasts S1024x2048)
    (r : Fin 512) (j : Fin 2048) :
    matmul (F := Ideal) dot_S512x1024_S1024x2048_S512x2048_1_0_0_1_n_n none x (shapeCast S1024x2048 w hw)
        (constant S512x2048 .f32 0x00000000#32) (ix2 r j)
      = ∑ a : Fin 1024, x (ix2 r a) * w (ix3 (0 : Fin 1) a j) := by
  refine (Ideal.matmul_plain_apply (M := 512) (K := 1024) (N := 2048) none _ _ _ r j).trans ?_
  show Ideal.ofBits .f32 0x00000000#32 + _ = _
  rw [Ideal.ofBits_zero_f32, zero_add]
  refine Finset.sum_congr rfl fun a _ => congrArg (_ * ·) ?_
  exact shapeCast_apply _ _ _ (ix3 (0 : Fin 1) a j) (by rw [Shape.rowMajor_val_three, Shape.rowMajor_val_two]; simp)

/-- The stored word, at an index. -/
theorem pay_apply (ya : FVec Ideal S512x1024 .bf16) (wa : FVec Ideal S1x1024x2048 .bf16) (yb : FVec Ideal S512x1024 .bf16)
    (wb : FVec Ideal S1x1024x2048 .bf16) (x : FVec Ideal S512x2048 .f32) (g : FVec Ideal S1x1x1x2048 .f32) (r : Fin 512) (j : Fin 2048) :
    k0_pay1 (F := Ideal) ya wa yb wb x g (ix2 r j)
      = gated (x (ix2 r j)) (g (ix4 (0 : Fin 1) (0 : Fin 1) (0 : Fin 1) j))
        (∑ a : Fin 1024, ya (ix2 r a) * wa (ix3 (0 : Fin 1) a j)) (∑ a : Fin 1024, yb (ix2 r a) * wb (ix3 (0 : Fin 1) a j)) := by
  unfold k0_pay1 gated
  rw [addf_apply, mulf_apply, addf_apply, product_apply, product_apply]
  refine congrArg (fun z => x (ix2 r j) + z * _) ?_
  refine (broadcastTo_apply _ _ _ (ix2 (0 : Fin 1) j) (fun a => by match a with | ⟨0, _⟩ => rfl | ⟨1, _⟩ => rfl)).trans ?_
  exact shapeCast_apply _ _ _ (ix4 (0 : Fin 1) (0 : Fin 1) (0 : Fin 1) j) (by rw [Shape.rowMajor_val_four, Shape.rowMajor_val_two]; simp)

variable (m : (ℓ : Loc nD τ sig) → Buf (Elt Ideal) ℓ)

/-! ### The blocks -/

theorem index_p : ∀ t : Fin cfg0.N, t.val < 16 → win0_0.index t = ![t.val, 0] ∧ win0_1.index t = ![t.val, 0] :=
  (by decide +kernel : ∀ t : Fin grid0.N, _)
theorem index_s : ∀ t : Fin cfg0.N, 16 ≤ t.val → win0_2.index t = ![t.val - 16, 0] ∧ win0_3.index t = ![t.val - 16, 0] :=
  (by decide +kernel : ∀ t : Fin grid0.N, _)
theorem index_w : ∀ t : Fin cfg0.N, win0_4.index t = ![1, 0, 0] ∧ win0_5.index t = ![1, 1, 0] := (by decide +kernel : ∀ t : Fin grid0.N, _)
theorem index_x : ∀ t : Fin cfg0.N, win0_6.index t = ![t.val, 0] ∧ win0_8.index t = ![t.val, 0] := (by decide +kernel : ∀ t : Fin grid0.N, _)
theorem index_m : ∀ t : Fin cfg0.N, win0_7.index t = ![3, (condRow (t.val * 512)).val, 0, 0] := (by decide +kernel : ∀ t : Fin grid0.N, _)

theorem point_lt (t : Fin cfg0.N) : t.val < 32 := lt_of_lt_of_eq t.isLt N_0

/-- The prompts' first half. -/
theorem block0_apply (c : Dev nD) (t : Fin cfg0.N) (ht : t.val < 16) (s : FVec Ideal S8192x1024 .bf16) (r : Fin 512) (w : Fin 1024) :
    iblk m c 0 t (ix2 r w) = token (m ((c : Thread nD τ).loc main_arg0)) s (blockRow t.val r) w := by
  have e := (index_p t ht).1
  have hr := r.isLt
  have hv := blockRow_val (point_lt t) r
  unfold token
  rw [dif_pos (show (blockRow t.val r).val < 8192 by omega)]
  blk_simp [iblk]
  rw [V_main_arg0]
  refine congrArg _ (funext fun a => Fin.ext ?_)
  match a with
  | ⟨0, _⟩ => blk_simp [e]; exact hv.symm
  | ⟨1, _⟩ => blk_simp [e]

/-- The prompts' second half. -/
theorem block1_apply (c : Dev nD) (t : Fin cfg0.N) (ht : t.val < 16) (s : FVec Ideal S8192x1024 .bf16) (r : Fin 512) (w : Fin 1024) :
    iblk m c 1 t (ix2 r w) = token (m ((c : Thread nD τ).loc main_arg1)) s (blockRow t.val r) w := by
  have e := (index_p t ht).2
  have hr := r.isLt
  have hv := blockRow_val (point_lt t) r
  unfold token
  rw [dif_pos (show (blockRow t.val r).val < 8192 by omega)]
  blk_simp [iblk]
  rw [V_main_arg1]
  refine congrArg _ (funext fun a => Fin.ext ?_)
  match a with
  | ⟨0, _⟩ => blk_simp [e]; exact hv.symm
  | ⟨1, _⟩ => blk_simp [e]

/-- The samples' first half. -/
theorem block2_apply (c : Dev nD) (t : Fin cfg0.N) (ht : 16 ≤ t.val) (p : FVec Ideal S8192x1024 .bf16) (r : Fin 512) (w : Fin 1024) :
    iblk m c 2 t (ix2 r w) = token p (m ((c : Thread nD τ).loc main_arg2)) (blockRow t.val r) w := by
  have e := (index_s t ht).1
  have hv := blockRow_val (point_lt t) r
  unfold token
  rw [dif_neg (show ¬(blockRow t.val r).val < 8192 by omega)]
  blk_simp [iblk]
  rw [V_main_arg2]
  refine congrArg _ (funext fun a => Fin.ext ?_)
  match a with
  | ⟨0, _⟩ => blk_simp [e]; show (t.val - 16) * 512 + r.val = (blockRow t.val r).val - 8192; omega
  | ⟨1, _⟩ => blk_simp [e]

/-- The samples' second half. -/
theorem block3_apply (c : Dev nD) (t : Fin cfg0.N) (ht : 16 ≤ t.val) (p : FVec Ideal S8192x1024 .bf16) (r : Fin 512) (w : Fin 1024) :
    iblk m c 3 t (ix2 r w) = token p (m ((c : Thread nD τ).loc main_arg3)) (blockRow t.val r) w := by
  have e := (index_s t ht).2
  have hv := blockRow_val (point_lt t) r
  unfold token
  rw [dif_neg (show ¬(blockRow t.val r).val < 8192 by omega)]
  blk_simp [iblk]
  rw [V_main_arg3]
  refine congrArg _ (funext fun a => Fin.ext ?_)
  match a with
  | ⟨0, _⟩ => blk_simp [e]; show (t.val - 16) * 512 + r.val = (blockRow t.val r).val - 8192; omega
  | ⟨1, _⟩ => blk_simp [e]

/-- The first half of the weights. -/
theorem block4_apply (c : Dev nD) (t : Fin cfg0.N) (r : Fin 1024) (w : Fin 2048) :
    iblk m c 4 t (ix3 (0 : Fin 1) r w) = m ((c : Thread nD τ).loc main_arg4) (ix3 (1 : Fin 2) (lower r) w) := by
  have e := (index_w t).1
  blk_simp [iblk]
  entry_read
  rw [truncf_apply]
  refine congrArg _ (funext fun a => Fin.ext ?_)
  match a with
  | ⟨0, _⟩ => blk_simp [e]; rfl
  | ⟨1, _⟩ => blk_simp [e]; rfl
  | ⟨2, _⟩ => blk_simp [e]

/-- The second half of the weights. -/
theorem block5_apply (c : Dev nD) (t : Fin cfg0.N) (r : Fin 1024) (w : Fin 2048) :
    iblk m c 5 t (ix3 (0 : Fin 1) r w) = m ((c : Thread nD τ).loc main_arg4) (ix3 (1 : Fin 2) (upper r) w) := by
  have e := (index_w t).2
  blk_simp [iblk]
  entry_read
  rw [truncf_apply]
  refine congrArg _ (funext fun a => Fin.ext ?_)
  match a with
  | ⟨0, _⟩ => blk_simp [e]; rfl
  | ⟨1, _⟩ => blk_simp [e]; rfl
  | ⟨2, _⟩ => blk_simp [e]

/-- The residual stream. -/
theorem block6_apply (c : Dev nD) (t : Fin cfg0.N) (r : Fin 512) (w : Fin 2048) :
    iblk m c 6 t (ix2 r w) = m ((c : Thread nD τ).loc main_arg5) (ix2 (blockRow t.val r) w) := by
  have e := (index_x t).1
  blk_simp [iblk]
  rw [V_main_arg5]
  refine congrArg _ (funext fun a => Fin.ext ?_)
  match a with
  | ⟨0, _⟩ => blk_simp [e]; exact (blockRow_val (point_lt t) r).symm
  | ⟨1, _⟩ => blk_simp [e]

/-- The gate's row of the modulation. -/
def gate (c : Dev nD) (t : Fin cfg0.N) : FVec Ideal S1x1x1x2048 .f32 :=
  View.ld (Val := Elt Ideal) (e' := .f32) (iblk m c 7 t) (Rect.unit (s := S1x1x9x2048) ![0, 0, 5, 0] ![1, 1, 1, 2048] inb_S1x1x9x2048_S1x1x1x2048_0_0_5_0)

theorem gate_apply (c : Dev nD) (t : Fin cfg0.N) (r : Fin 512) (a : Fin 2048) :
    gate m c t (ix4 (0 : Fin 1) (0 : Fin 1) (0 : Fin 1) a)
      = m ((c : Thread nD τ).loc main_arg6) (ix4 (3 : Fin 4) (condRow (blockRow t.val r).val) (5 : Fin 9) a) := by
  unfold gate
  rw [← condRow_block (point_lt t)]
  have e := index_m t
  rw [View.ld_unit]
  refine (extractStridedSlice_apply _ _ _ _ (ix4 (0 : Fin 1) (0 : Fin 1) (5 : Fin 9) a) fun a => ?_).trans ?_
  · match a with
    | ⟨0, _⟩ => rfl
    | ⟨1, _⟩ => rfl
    | ⟨2, _⟩ => rfl
    | ⟨3, _⟩ => simp
  blk_simp [iblk]
  rw [V_main_arg6]
  refine congrArg _ (funext fun a => Fin.ext ?_)
  match a with
  | ⟨0, _⟩ => blk_simp [e]; rfl
  | ⟨1, _⟩ => blk_simp [e]
  | ⟨2, _⟩ => blk_simp [e]
  | ⟨3, _⟩ => blk_simp [e]

/-! ### What the points leave -/

/-- A point of the prompts. -/
theorem prompt_eq (c : Dev nD) (t : Fin cfg0.N) (ht : t.val < 16) : outsAt0 m c t.val t.isLt
    = k0_pay1 (F := Ideal) (iblk m c 0 t) (iblk m c 4 t) (iblk m c 1 t) (iblk m c 5 t) (iblk m c 6 t) (gate m c t) := by
  rw [outsAt0_A m c t ht (by omega)]
  frame_out
  rfl

/-- A point of the samples. -/
theorem sample_eq (c : Dev nD) (t : Fin cfg0.N) (ht : 16 ≤ t.val) : outsAt0 m c t.val t.isLt
    = k0_pay1 (F := Ideal) (iblk m c 2 t) (iblk m c 4 t) (iblk m c 3 t) (iblk m c 5 t) (iblk m c 6 t) (gate m c t) := by
  rw [outsAt0_B m c t (by omega) ht]
  frame_out
  rfl

theorem out_apply (c : Dev nD) (t : Fin cfg0.N) (r : Fin 512) (j : Fin 2048) :
    outsAt0 m c t.val t.isLt (ix2 r j) = mixOut (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (blockRow t.val r) j := by
  unfold mixOut
  by_cases ht : t.val < 16
  · rw [prompt_eq m c t ht, pay_apply, block6_apply, gate_apply m c t r]
    refine congrArg₂ (gated _ _) (Finset.sum_congr rfl fun a _ => ?_) (Finset.sum_congr rfl fun a _ => ?_)
    · exact congrArg₂ (· * ·) (block0_apply m c t ht _ r a) (block4_apply m c t a j)
    · exact congrArg₂ (· * ·) (block1_apply m c t ht _ r a) (block5_apply m c t a j)
  · have ht' : 16 ≤ t.val := by omega
    rw [sample_eq m c t ht', pay_apply, block6_apply, gate_apply m c t r]
    refine congrArg₂ (gated _ _) (Finset.sum_congr rfl fun a _ => ?_) (Finset.sum_congr rfl fun a _ => ?_)
    · exact congrArg₂ (· * ·) (block2_apply m c t ht' _ r a) (block4_apply m c t a j)
    · exact congrArg₂ (· * ·) (block3_apply m c t ht' _ r a) (block5_apply m c t a j)

/-- The result array after the run. -/
theorem array (c : Dev nD) : (dats m 0 c).arrAt 8 cfg0.N = fun i : S16384x2048.Idx =>
    mixOut (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (i 0) (i 1) := by
  refine (dats m 0 c).arrAt_eq_of_covers 8 _ (by decide +kernel) fun t hf y => ?_
  have e := (index_x t).2
  blk_simp
  rw [after0_8]
  have h0 : ((cfg0.win 8).blk t).view.emb y 0 = blockRow t.val (y 0) :=
    Fin.ext ((by blk_simp [e] : (((cfg0.win 8).blk t).view.emb y 0).val = t.val * 512 + (y 0).val).trans (blockRow_val (point_lt t) (y 0)).symm)
  have h1 : ((cfg0.win 8).blk t).view.emb y 1 = y 1 :=
    Fin.ext (by blk_simp [e] : (((cfg0.win 8).blk t).view.emb y 1).val = (y 1).val)
  refine Eq.trans (congrArg _ (eq_ix2 y)) ((out_apply m c t (y 0) (y 1)).trans ?_)
  exact (congrArg₂ (mixOut _ _ _ _ _ _ _) h0 h1).symm

end Cert.Proj.Out

end
-- ==== Proof.Proj.OutClaim.lean ====
/-
  The output projection of a mixer, the reference's side and the claims. The reference lays the two mixer halves of every token
  side by side and multiplies the 2048 columns at once: that sum is the sum of the kernel's two products.
-/
module

public import proofs.«01_k».proof.Proof.Proj.Out
public import proofs.«01_k».proof.Proof.Gen.OutRefIdeal.Read
public import proofs.«01_k».proof.Proof.Gen.OutRefIdeal.Run
public import proofs.«01_k».proof.Defs

@[expose] public section

noncomputable section

namespace Cert.Proj.Out

open Idealize.ShloMosaic Idealize.ShloMosaic.ValueIdx Idealize.ShloMosaic.TcCoe Idealize.SL.Sem Cert.OutRefIdeal Cert.OutRefIdeal.Gen Cert.OutRefIdeal.Read
open Cert.Ffn (condRow)
open scoped BigOperators

variable (P0 P1 S0 S1 : FVec Ideal S8192x1024 .bf16) (W : FVec Ideal S2x2048x2048 .f32) (X : FVec Ideal S16384x2048 .f32)
  (M : FVec Ideal S4x8x9x2048 .f32)

/-- The gates of the three condition rows. -/
theorem ref_mod (r : Fin 3) (a : Fin 2048) (n : Fin 8) (hn : n.val = r.val) :
    val_main_v4 (F := Ideal) M (ix2 r a) = M (ix4 (3 : Fin 4) n (5 : Fin 9) a) := by
  have hr := r.isLt
  have ha := a.isLt
  rw [val_main_v4_apply, val_main_v3_apply]
  refine congrArg M (funext fun b => Fin.ext ?_)
  match b with
  | ⟨0, _⟩ => rfl
  | ⟨1, _⟩ => show (r.val * 2048 + a.val) / 2048 % 3 = n.val; omega
  | ⟨2, _⟩ => rfl
  | ⟨3, _⟩ => show (r.val * 2048 + a.val) % 2048 = a.val; omega

/-- The gate laid out for the tokens. -/
theorem ref_gate (i : Fin 16384) (a : Fin 2048) :
    val_main_v10 (F := Ideal) M (ix2 i a) = M (ix4 (3 : Fin 4) (condRow i.val) (5 : Fin 9) a) := by
  have hi := i.isLt
  have ha := a.isLt
  unfold val_main_v10
  by_cases hlt : i.val < 8192
  · refine (concatenate_pair_apply_left (t := S16384x2048) (s₁ := S8192x2048) (0 : Fin 2) _ _ _ (ix2 i a) rfl
      (ix2 (⟨i.val, hlt⟩ : Fin 8192) a) (fun b => match b with | ⟨0, _⟩ => rfl | ⟨1, _⟩ => rfl)).trans ?_
    rw [val_main_v6_apply, val_main_v5_apply]
    refine Eq.trans (congrArg _ (funext fun b => ?_)) (ref_mod M (0 : Fin 3) a (condRow i.val) ?_)
    · match b with | ⟨0, _⟩ => rfl | ⟨1, _⟩ => rfl
    · unfold condRow
      simp [hlt]
  · obtain ⟨n, hn⟩ : ∃ n, i.val = n + 8192 := ⟨i.val - 8192, by omega⟩
    have hn8 : n < 8192 := by omega
    have hr : 1 + n / 4096 < 3 := by omega
    refine (concatenate_pair_apply_right (t := S16384x2048) (s₁ := S8192x2048) (s₂ := S8192x2048) (0 : Fin 2) _ _ _ (ix2 i a)
      rfl rfl (ix2 (⟨n, hn8⟩ : Fin 8192) a)
      (fun b hb => match b with | ⟨0, _⟩ => absurd rfl hb | ⟨1, _⟩ => rfl) hn.symm).trans ?_
    rw [val_main_v9_apply, val_main_v8_apply, val_main_v7_apply]
    refine Eq.trans (congrArg _ (funext fun b => Fin.ext ?_)) (ref_mod M (⟨1 + n / 4096, hr⟩ : Fin 3) a (condRow i.val) ?_)
    · match b with
      | ⟨0, _⟩ => show 1 + (n * 2048 + a.val) / 8388608 = 1 + n / 4096; omega
      | ⟨1, _⟩ => show (n * 2048 + a.val) % 2048 = a.val; omega
    · unfold condRow
      simp only [hlt, if_false]
      omega

/-- Two halves side by side, at a column of the first half and at one of the second. -/
theorem pair_apply (y z : FVec Ideal S8192x1024 .bf16) (i : Fin 8192) (a : Fin 1024) :
    val_main_v0 (F := Ideal) y z (ix2 i (lower a)) = y (ix2 i a) ∧ val_main_v0 (F := Ideal) y z (ix2 i (upper a)) = z (ix2 i a) := by
  unfold val_main_v0
  constructor
  · exact concatenate_pair_apply_left (t := S8192x2048) (s₁ := S8192x1024) (1 : Fin 2) _ _ _ (ix2 i (lower a)) rfl
      (ix2 i a) (fun b => match b with | ⟨0, _⟩ => rfl | ⟨1, _⟩ => rfl)
  · exact concatenate_pair_apply_right (t := S8192x2048) (s₁ := S8192x1024) (s₂ := S8192x1024) (1 : Fin 2) _ _ _ (ix2 i (upper a))
      rfl rfl (ix2 i a) (fun b hb => match b with | ⟨0, _⟩ => rfl | ⟨1, _⟩ => absurd rfl hb) (Nat.add_comm _ _)

/-- Every token's two halves side by side. -/
theorem ref_token (i : Fin 16384) (a : Fin 1024) :
    val_main_v2 (F := Ideal) P0 P1 S0 S1 (ix2 i (lower a)) = token P0 S0 i a
      ∧ val_main_v2 (F := Ideal) P0 P1 S0 S1 (ix2 i (upper a)) = token P1 S1 i a := by
  have hi := i.isLt
  unfold val_main_v2 token
  by_cases hlt : i.val < 8192
  · have step : ∀ l : Fin 2048, concatenate S16384x2048 0 [⟨S8192x2048, val_main_v0 (F := Ideal) P0 P1⟩, ⟨S8192x2048, val_main_v1 (F := Ideal) S0 S1⟩]
        concatenates_S8192x2048_S8192x2048_S16384x2048_d0 (ix2 i l) = val_main_v0 (F := Ideal) P0 P1 (ix2 (⟨i.val, hlt⟩ : Fin 8192) l) := fun l =>
      concatenate_pair_apply_left (t := S16384x2048) (s₁ := S8192x2048) (0 : Fin 2) _ _ _ (ix2 i l) rfl
        (ix2 (⟨i.val, hlt⟩ : Fin 8192) l) (fun b => match b with | ⟨0, _⟩ => rfl | ⟨1, _⟩ => rfl)
    rw [dif_pos hlt, dif_pos hlt]
    exact ⟨(step _).trans (pair_apply P0 P1 _ a).1, (step _).trans (pair_apply P0 P1 _ a).2⟩
  · have step : ∀ l : Fin 2048, concatenate S16384x2048 0 [⟨S8192x2048, val_main_v0 (F := Ideal) P0 P1⟩, ⟨S8192x2048, val_main_v1 (F := Ideal) S0 S1⟩]
        concatenates_S8192x2048_S8192x2048_S16384x2048_d0 (ix2 i l)
          = val_main_v0 (F := Ideal) S0 S1 (ix2 (⟨i.val - 8192, by omega⟩ : Fin 8192) l) := fun l =>
      concatenate_pair_apply_right (t := S16384x2048) (s₁ := S8192x2048) (s₂ := S8192x2048) (0 : Fin 2) _ _ _ (ix2 i l)
        rfl rfl (ix2 (⟨i.val - 8192, by omega⟩ : Fin 8192) l)
        (fun b hb => match b with | ⟨0, _⟩ => absurd rfl hb | ⟨1, _⟩ => rfl) (show i.val - 8192 + 8192 = i.val by omega)
    rw [dif_neg hlt, dif_neg hlt]
    exact ⟨(step _).trans (pair_apply S0 S1 _ a).1, (step _).trans (pair_apply S0 S1 _ a).2⟩

/-- The weights. -/
theorem ref_weights (a j : Fin 2048) : val_main_v13 (F := Ideal) W (ix2 a j) = W (ix3 (1 : Fin 2) a j) := by
  have ha := a.isLt
  have hj := j.isLt
  rw [val_main_v13_apply, val_main_v12_apply]
  refine congrArg W (funext fun b => Fin.ext ?_)
  match b with
  | ⟨0, _⟩ => rfl
  | ⟨1, _⟩ => show (a.val * 2048 + j.val) / 2048 % 2048 = a.val; omega
  | ⟨2, _⟩ => show (a.val * 2048 + j.val) % 2048 = j.val; omega

/-- A sum over the 2048 columns is the sum over its two halves. -/
theorem sum_halves (f : Fin 2048 → EReal) : ∑ a, f a = (∑ a, f (lower a)) + ∑ a, f (upper a) :=
  Fin.sum_univ_add (a := 1024) (b := 1024) f

/-- **The reference's rows.** -/
theorem ref_eq : val_main_v16 (F := Ideal) P0 P1 S0 S1 W X M
    = fun i : S16384x2048.Idx => mixOut P0 P1 S0 S1 W X M (i 0) (i 1) := by
  funext y
  obtain ⟨i, j, rfl⟩ : ∃ i j, y = ix2 i j := ⟨y 0, y 1, eq_ix2 y⟩
  have el : ∀ l, lidx_main_v14 (ix2 i j) l = ix2 i l := fun l => by funext d; match d with | ⟨0, _⟩ => rfl | ⟨1, _⟩ => rfl
  have er : ∀ l, ridx_main_v14 (ix2 i j) l = ix2 l j := fun l => by funext d; match d with | ⟨0, _⟩ => rfl | ⟨1, _⟩ => rfl
  rw [val_main_v16_apply, val_main_v15_apply, ref_gate, val_main_v14_apply, sum_halves]
  show _ = mixOut P0 P1 S0 S1 W X M i j
  unfold mixOut
  refine congrArg₂ (gated _ _) (Finset.sum_congr rfl fun a _ => ?_) (Finset.sum_congr rfl fun a _ => ?_)
  · rw [el, er, val_main_v11_apply, ref_weights]
    exact congrArg (· * _) (ref_token P0 P1 S0 S1 i a).1
  · rw [el, er, val_main_v11_apply, ref_weights]
    exact congrArg (· * _) (ref_token P0 P1 S0 S1 i a).2

theorem ref_frame : Cert.quiescent_OutRefIdeal := fun m ρ _ =>
  (θ_run Cert.OutRefIdeal.defs _ _).mono (fun r h => ⟨fun c => (h c).2, sem_eq_zero_of_no_sems (by decide) r.2⟩)
    (Cert.OutRefIdeal.Value.run (F := Ideal) m ρ)

/-- **The kernel computes the reference's projection, gate and residual.** -/
theorem value : Cert.algebraic_OutIdeal_OutRefIdeal := by
  intro m ρ m' ρ' _ hagree
  refine ⟨_, (θ_run _ _ _).mono (fun r h c => ⟨(h c).1.trans (array m c), (h c).2⟩) (Cert.OutIdeal.Value.run_blocks (F := Ideal) m ρ), ?_⟩
  refine (θ_run _ _ _).mono (fun r h c => ⟨(h c).1.trans ?_, (h c).2⟩) (Cert.OutRefIdeal.Value.run (F := Ideal) m' ρ')
  refine (Cert.OutRefIdeal.Read.val_main_v16_eq _ _ _ _ _ _ _).trans ?_
  obtain ⟨h0, h1, h2, h3, h4, h5, h6⟩ := hagree c
  rw [h0, h1, h2, h3, h4, h5, h6]
  exact ref_eq _ _ _ _ _ _ _

end Cert.Proj.Out

end
-- ==== Proof.Qkv.HeadRms.lean ====
/-
  The mean square of a head. A row has 16 heads of 64 columns. The kernel takes 256 columns at a time, splits every square into a
  leading part and a rest, and multiplies both by a matrix of ones on the diagonal's 64 by 64 blocks; the sum of the two products
  is, for finite entries, the sum of the squares of the head. `headNorm` is the normalised entry, and the kernel's words are it.
-/
module

public import proofs.«01_k».proof.Proof.Attn.Softmax
public import proofs.«01_k».proof.Proof.Gen.QkvIdeal.Skeleton
public import Idealize.ShloMosaic.Lib.MatmulPlain
public import Idealize.ShloMosaic.Lib.Pipeline.Value

@[expose] public section

noncomputable section

namespace Cert.Qkv

open Idealize.ShloMosaic Idealize.ShloMosaic.ValueIdx Cert.QkvIdeal Cert.QkvIdeal.Gen
open Cert.Attn (Finite)
open scoped BigOperators

/-- Column `d` of the head that column `c` lies in. -/
def headCol (c : Fin 1024) (d : Fin 64) : Fin 1024 := ⟨c.val / 64 * 64 + d.val, by have := c.isLt; have := d.isLt; omega⟩

/-- Column `b` of group `p` of 256 columns. -/
def groupCol (p : Fin 4) (b : Fin 256) : Fin 1024 := ⟨p.val * 256 + b.val, by have := p.isLt; have := b.isLt; omega⟩

/-- An entry of a row divided by the root mean square of its head, times its gain. -/
def headNorm (x : Fin 1024 → EReal) (g : EReal) (c : Fin 1024) : EReal :=
  x c * Ideal.rsqrt (Ideal.div (∑ d : Fin 64, x (headCol c d) * x (headCol c d)) (Ideal.ofBits .f32 0x42800000#32)
    + Ideal.ofBits .f32 0x358637BD#32) * g

/-- The matrix of ones on the diagonal's blocks. -/
def headOnes (b c : Fin 256) : EReal := if b.val / 64 = c.val / 64 then 1 else 0

/-- A product with the matrix of ones is the sum over a head. -/
theorem sum_headOnes (s : Fin 1024 → EReal) (p : Fin 4) (c : Fin 256) :
    ∑ b : Fin 256, s (groupCol p b) * headOnes b c = ∑ d : Fin 64, s (headCol (groupCol p c) d) := by
  have hp := p.isLt
  have hc := c.isLt
  have split : ∑ b : Fin 256, s (groupCol p b) * headOnes b c
      = ∑ h : Fin 4, ∑ d : Fin 64, s (groupCol p (finProdFinEquiv (m := 4) (n := 64) (h, d))) * headOnes (finProdFinEquiv (m := 4) (n := 64) (h, d)) c := by
    rw [← Fintype.sum_prod_type' (f := fun h d => s (groupCol p (finProdFinEquiv (m := 4) (n := 64) (h, d)))
      * headOnes (finProdFinEquiv (m := 4) (n := 64) (h, d)) c)]
    exact ((finProdFinEquiv (m := 4) (n := 64)).sum_comp fun b => s (groupCol p b) * headOnes b c).symm
  have val : ∀ (h : Fin 4) (d : Fin 64), (finProdFinEquiv (m := 4) (n := 64) (h, d)).val = d.val + 64 * h.val := fun _ _ => rfl
  rw [split, Finset.sum_eq_single (⟨c.val / 64, by omega⟩ : Fin 4)]
  · refine Finset.sum_congr rfl fun d _ => ?_
    have hd := d.isLt
    have on : headOnes (finProdFinEquiv (m := 4) (n := 64) (⟨c.val / 64, by omega⟩, d)) c = 1 := by
      unfold headOnes
      rw [if_pos]
      rw [val]
      show (d.val + 64 * (c.val / 64)) / 64 = c.val / 64
      omega
    rw [on, mul_one]
    refine congrArg s (Fin.ext ?_)
    show p.val * 256 + (d.val + 64 * (c.val / 64)) = (p.val * 256 + c.val) / 64 * 64 + d.val
    omega
  · intro h _ hne
    refine Finset.sum_eq_zero fun d _ => ?_
    have hd := d.isLt
    have off : headOnes (finProdFinEquiv (m := 4) (n := 64) (h, d)) c = 0 := by
      unfold headOnes
      rw [if_neg]
      rw [val]
      intro e
      exact hne (Fin.ext (show h.val = c.val / 64 by omega))
    rw [off, mul_zero]
  · exact fun h => absurd (Finset.mem_univ _) h

/-- A finite number less itself is zero. -/
theorem sub_self_of_finite {x : EReal} (h : Finite x) : x - x = 0 := by
  obtain ⟨r, rfl⟩ := h
  rw [← EReal.coe_sub, sub_self, EReal.coe_zero]

/-- A quotient by 64 is a product with a 64th. -/
theorem mul_64th (s : EReal) : s * Ideal.ofBits .f32 0x3C800000#32 = Ideal.div s (Ideal.ofBits .f32 0x42800000#32) := by
  have a : Ideal.ofBits .f32 0x3C800000#32 = (((64 : ℝ)⁻¹ : ℝ) : EReal) := by
    simp [Ideal.ofBits, Ideal.ieee, -EReal.coe_mul]; norm_num
  have b : Ideal.ofBits .f32 0x42800000#32 = ((64 : ℝ) : EReal) := by
    simp [Ideal.ofBits, Ideal.ieee, -EReal.coe_mul]; norm_num
  rw [a, b]
  unfold Ideal.div
  rw [if_neg (by exact_mod_cast (by norm_num : (64 : ℝ) ≠ 0)), EReal.coe_inv]

/-! ### The words of the kernel -/

/-- The products of 256 columns' two parts with the ones, summed. -/
theorem group_apply (x : FVec Ideal S512x1024 .f32) (o : FVec Ideal S256x256 .bf16) (off : Fin S512x1024.rank → Nat)
    (hs : S512x1024.Slices off S512x256) (p : Fin 4) (h0 : off 0 = 0) (h1 : off 1 = p.val * 256)
    (ho : ∀ b c : Fin 256, o (ix2 b c) = headOnes b c) (r : Fin 512) (hx : ∀ a, Finite (x (ix2 r a))) (c : Fin 256) :
    addf (F := Ideal)
      (matmul dot_S512x256_S256x256_S512x256_1_0_0_1_n_n none
        (extractStridedSlice S512x256 off (truncf .bf16 (mulf x x) bitsLt_bf16_f32) hs) o (constant S512x256 .f32 0x00000000#32))
      (matmul dot_S512x256_S256x256_S512x256_1_0_0_1_n_n none
        (extractStridedSlice S512x256 off (truncf .bf16 (subf (mulf x x) (extf .f32 (truncf .bf16 (mulf x x) bitsLt_bf16_f32) bitsLt_bf16_f32)) bitsLt_bf16_f32) hs)
        o (constant S512x256 .f32 0x00000000#32)) (ix2 r c)
      = ∑ d : Fin 64, x (ix2 r (headCol (groupCol p c) d)) * x (ix2 r (headCol (groupCol p c) d)) := by
  have part : ∀ (v : FVec Ideal S512x1024 .bf16) (b : Fin 256), extractStridedSlice S512x256 off v hs (ix2 r b) = v (ix2 r (groupCol p b)) := by
    intro v b
    refine extractStridedSlice_apply _ _ _ _ (ix2 r (groupCol p b)) fun a => ?_
    match a with
    | ⟨0, _⟩ => exact (show r.val = off 0 + r.val by omega)
    | ⟨1, _⟩ => exact (show p.val * 256 + b.val = off 1 + b.val by omega)
  have prod : ∀ v : FVec Ideal S512x1024 .bf16,
      matmul dot_S512x256_S256x256_S512x256_1_0_0_1_n_n none (extractStridedSlice S512x256 off v hs) o (constant S512x256 .f32 0x00000000#32) (ix2 r c)
        = ∑ b : Fin 256, v (ix2 r (groupCol p b)) * headOnes b c := by
    intro v
    refine (Ideal.matmul_plain_apply (M := 512) (K := 256) (N := 256) none _ _ _ r c).trans ?_
    show Ideal.ofBits .f32 0x00000000#32 + _ = _
    rw [Ideal.ofBits_zero_f32, zero_add]
    exact Finset.sum_congr rfl fun b _ => congrArg₂ (· * ·) (part v b) (ho b c)
  rw [addf_apply, prod, prod]
  have rest : ∑ b : Fin 256, truncf (F := Ideal) .bf16 (subf (mulf x x) (extf .f32 (truncf .bf16 (mulf x x) bitsLt_bf16_f32) bitsLt_bf16_f32)) bitsLt_bf16_f32
      (ix2 r (groupCol p b)) * headOnes b c = 0 := by
    refine Finset.sum_eq_zero fun b _ => ?_
    have z : truncf (F := Ideal) .bf16 (subf (mulf x x) (extf .f32 (truncf .bf16 (mulf x x) bitsLt_bf16_f32) bitsLt_bf16_f32)) bitsLt_bf16_f32
        (ix2 r (groupCol p b)) = 0 := sub_self_of_finite ((hx (groupCol p b)).mul (hx (groupCol p b)))
    rw [z, zero_mul]
  rw [rest]
  show _ + (0 : EReal) = _
  rw [add_zero]
  exact sum_headOnes (fun a => x (ix2 r a) * x (ix2 r a)) p c

/-- Every column is a column of a group. -/
theorem exists_group (c : Fin 1024) : ∃ p b, c = groupCol p b := by
  have hc := c.isLt
  exact ⟨⟨c.val / 256, by omega⟩, ⟨c.val % 256, by omega⟩, Fin.ext (show c.val = c.val / 256 * 256 + c.val % 256 by omega)⟩

/-- The row of gains spread over the rows of a block. -/
theorem gain_apply (g : FVec Ideal S1x1024 .f32) (hb : S1x1024.Broadcasts S512x1024) (r : Fin 512) (c : Fin 1024) :
    broadcastTo S512x1024 g hb (ix2 r c) = g (ix2 (0 : Fin 1) c) :=
  broadcastTo_apply _ _ _ _ (fun a => by match a with | ⟨0, _⟩ => rfl | ⟨1, _⟩ => rfl)

/-- Four groups side by side. -/
theorem groups_apply (y0 y1 y2 y3 : FVec Ideal S512x256 .f32)
    (h : Shape.Concatenates [S512x256, S512x256, S512x256, S512x256] S512x1024 1) (r : Fin 512) (p : Fin 4) (b : Fin 256) :
    concatenate S512x1024 1 [⟨S512x256, y0⟩, ⟨S512x256, y1⟩, ⟨S512x256, y2⟩, ⟨S512x256, y3⟩] h (ix2 r (groupCol p b))
      = (![y0, y1, y2, y3] p : FVec Ideal S512x256 .f32) (ix2 r b) := by
  refine concatenate_ofFn_apply (t := S512x1024) (s₁ := S512x256) 1 (N := 4) (![y0, y1, y2, y3] : Fin 4 → FVec Ideal S512x256 .f32) h rfl 256 rfl
    (ix2 r (groupCol p b)) p ?_ (ix2 r b) ?_ ?_
  · have hb := b.isLt
    show (p.val * 256 + b.val) / 256 = p.val
    omega
  · have hb := b.isLt
    show b.val = (p.val * 256 + b.val) % 256
    omega
  · intro a ha
    match a with
    | ⟨0, _⟩ => rfl
    | ⟨1, _⟩ => exact absurd rfl ha

/-- The normalised block, at an entry. -/
theorem pay4_apply (o : FVec Ideal S256x256 .bf16) (x : FVec Ideal S512x1024 .f32) (g : FVec Ideal S1x1024 .f32)
    (ho : ∀ b c : Fin 256, o (ix2 b c) = headOnes b c) (r : Fin 512) (hx : ∀ a, Finite (x (ix2 r a))) (c : Fin 1024) :
    k0_pay4 (F := Ideal) o x g (ix2 r c) = headNorm (fun a => x (ix2 r a)) (g (ix2 (0 : Fin 1) c)) c := by
  obtain ⟨p, b, rfl⟩ := exists_group c
  unfold k0_pay4 headNorm
  rw [shapeCast_self, mulf_apply, gain_apply, mulf_apply]
  refine congrArg (· * _) (congrArg (_ * ·) (congrArg Ideal.rsqrt (congrArg (· + _) ?_)))
  rw [← mul_64th]
  refine congrArg (· * _) ((groups_apply _ _ _ _ _ r p b).trans ?_)
  match p with
  | ⟨0, _⟩ => exact group_apply x o _ _ 0 rfl rfl ho r hx b
  | ⟨1, _⟩ => exact group_apply x o _ _ 1 rfl rfl ho r hx b
  | ⟨2, _⟩ => exact group_apply x o _ _ 2 rfl rfl ho r hx b
  | ⟨3, _⟩ => exact group_apply x o _ _ 3 rfl rfl ho r hx b

/-- The first window's words are the second's, narrowed. -/
theorem pay3_eq (o : FVec Ideal S256x256 .bf16) (x : FVec Ideal S512x1024 .f32) (g : FVec Ideal S1x1024 .f32) :
    k0_pay3 (F := Ideal) o x g = k0_pay5 (F := Ideal) (k0_pay2 (F := Ideal) o) x g := rfl

end Cert.Qkv

end
-- ==== Proof.Qkv.Ref.lean ====
/-
  The reference's arrays, read at an index: the queries and the keys are `headNorm` of the token's columns with the second odd
  layer's gains, the values are the token's last 1024 columns.
-/
module

public import proofs.«01_k».proof.Proof.Qkv.HeadRms
public import proofs.«01_k».proof.Proof.Gen.QkvRefIdeal.Read

@[expose] public section

noncomputable section

namespace Cert.Qkv

open Idealize.ShloMosaic Idealize.ShloMosaic.ValueIdx Cert.QkvRefIdeal Cert.QkvRefIdeal.Gen Cert.QkvRefIdeal.Read
open scoped BigOperators

/-- Column `c` of part `k` of a projected row: 0 and 1 feed the recurrence, 2 the queries, 3 the keys, 4 the values. -/
def partCol (k : Fin 5) (c : Fin 1024) : Fin 5120 := ⟨k.val * 1024 + c.val, by have := k.isLt; have := c.isLt; omega⟩

/-- A token's columns of one part. -/
def part (P : FVec Ideal S16384x5120 .f32) (k : Fin 5) (i : Fin 16384) (c : Fin 1024) : EReal := P (ix2 i (partCol k c))

/-- Column `c`'s place in its head. -/
def inHead (c : Fin 1024) : Fin 64 := ⟨c.val % 64, Nat.mod_lt _ (by decide)⟩

/-- The head of a column. -/
def head (c : Fin 1024) : Fin 16 := ⟨c.val / 64, by have := c.isLt; omega⟩

/-- A token's queries or keys: the part of its row normalised head by head. -/
def normed (P : FVec Ideal S16384x5120 .f32) (G : FVec Ideal S2x64 .f32) (k : Fin 5) (i : Fin 16384) (c : Fin 1024) : EReal :=
  headNorm (part P k i) (G (ix2 (1 : Fin 2) (inHead c))) c

variable (P : FVec Ideal S16384x5120 .f32) (G : FVec Ideal S2x64 .f32)

/-- The three parts as heads. -/
theorem ref_parts (i : Fin 16384) (k : Fin 3) (h : Fin 16) (d : Fin 64) (n : Fin 5) (hn : n.val = 2 + k.val) (c : Fin 1024)
    (hc : c.val = h.val * 64 + d.val) : val_main_v1 (F := Ideal) P (ix4 i k h d) = part P n i c := by
  have hi := i.isLt
  have hk := k.isLt
  have hh := h.isLt
  have hd := d.isLt
  rw [val_main_v1_apply, val_main_v0_apply]
  refine congrArg P (funext fun b => Fin.ext ?_)
  match b with
  | ⟨0, _⟩ => show (((i.val * 3 + k.val) * 16 + h.val) * 64 + d.val) / 3072 = i.val; omega
  | ⟨1, _⟩ => show 2048 + (((i.val * 3 + k.val) * 16 + h.val) * 64 + d.val) % 3072 = n.val * 1024 + c.val; omega

/-- The queries, the keys and the values as heads. -/
theorem ref_heads (i : Fin 16384) (h : Fin 16) (d : Fin 64) (c : Fin 1024) (hc : c.val = h.val * 64 + d.val) :
    val_main_v3 (F := Ideal) P (ix3 i h d) = part P 2 i c ∧ val_main_v21 (F := Ideal) P (ix3 i h d) = part P 3 i c
      ∧ val_main_v41 (F := Ideal) P (ix3 i h d) = part P 4 i c := by
  have hi := i.isLt
  have hh := h.isLt
  have hd := d.isLt
  have a0 : ((i.val * 16 + h.val) * 64 + d.val) / 1024 = i.val := by omega
  have a1 : ((i.val * 16 + h.val) * 64 + d.val) / 64 % 16 = h.val := by omega
  have a2 : ((i.val * 16 + h.val) * 64 + d.val) % 64 = d.val := by omega
  refine ⟨?_, ?_, ?_⟩
  · rw [val_main_v3_apply, val_main_v2_apply]
    refine Eq.trans (congrArg _ (funext fun b => Fin.ext ?_)) (ref_parts P i 0 h d 2 rfl c hc)
    match b with | ⟨0, _⟩ => exact a0 | ⟨1, _⟩ => rfl | ⟨2, _⟩ => exact a1 | ⟨3, _⟩ => exact a2
  · rw [val_main_v21_apply, val_main_v20_apply]
    refine Eq.trans (congrArg _ (funext fun b => Fin.ext ?_)) (ref_parts P i 1 h d 3 rfl c hc)
    match b with | ⟨0, _⟩ => exact a0 | ⟨1, _⟩ => rfl | ⟨2, _⟩ => exact a1 | ⟨3, _⟩ => exact a2
  · rw [val_main_v41_apply, val_main_v40_apply]
    refine Eq.trans (congrArg _ (funext fun b => Fin.ext ?_)) (ref_parts P i 2 h d 4 rfl c hc)
    match b with | ⟨0, _⟩ => exact a0 | ⟨1, _⟩ => rfl | ⟨2, _⟩ => exact a1 | ⟨3, _⟩ => exact a2

/-- Laying the heads of a token side by side. -/
theorem flat_index (i : Fin 16384) (c : Fin 1024) : idx_main_v19 (ix2 i c) = ix3 i (head c) (inHead c) := by
  have hi := i.isLt
  have hc := c.isLt
  funext b
  refine Fin.ext ?_
  match b with
  | ⟨0, _⟩ => show (i.val * 1024 + c.val) / 1024 = i.val; omega
  | ⟨1, _⟩ => show (i.val * 1024 + c.val) / 64 % 16 = c.val / 64; omega
  | ⟨2, _⟩ => show (i.val * 1024 + c.val) % 64 = c.val % 64; omega

theorem head_inHead (c : Fin 1024) : c.val = (head c).val * 64 + (inHead c).val := by
  show c.val = c.val / 64 * 64 + c.val % 64
  omega

/-- The gains. -/
theorem ref_gains (i : Fin 16384) (h : Fin 16) (d : Fin 64) :
    val_main_v17 (F := Ideal) G (ix3 i h d) = G (ix2 (1 : Fin 2) d) ∧ val_main_v35 (F := Ideal) G (ix3 i h d) = G (ix2 (1 : Fin 2) d) := by
  have hd := d.isLt
  constructor
  · rw [val_main_v17_apply, val_main_v16_apply, val_main_v5_apply, val_main_v4_apply]
    refine congrArg G (funext fun b => Fin.ext ?_)
    match b with | ⟨0, _⟩ => rfl | ⟨1, _⟩ => show d.val % 64 = d.val; omega
  · rw [val_main_v35_apply, val_main_v34_apply, val_main_v23_apply, val_main_v22_apply]
    refine congrArg G (funext fun b => Fin.ext ?_)
    match b with | ⟨0, _⟩ => rfl | ⟨1, _⟩ => show d.val % 64 = d.val; omega

/-- The queries. -/
theorem ref_q (i : Fin 16384) (c : Fin 1024) : val_main_v19 (F := Ideal) P G (ix2 i c) = normed P G 2 i c := by
  have hc := c.isLt
  rw [val_main_v19_apply, flat_index, val_main_v18_apply, val_main_v15_apply, (ref_gains G i (head c) (inHead c)).1,
    (ref_heads P i (head c) (inHead c) c (head_inHead c)).1, val_main_v14_apply, val_main_v13_apply, val_main_v12_apply,
    val_main_v10_apply, val_main_v8_apply, val_main_v7_apply, val_main_v9_apply, val_main_v11_apply, val_main_cst_apply,
    val_main_cst_0_apply, val_main_cst_1_apply]
  unfold normed headNorm
  refine congrArg (· * _) (congrArg (_ * ·) ?_)
  show Ideal.rsqrt (Ideal.div (Ideal.ofBits .f32 0x00000000#32 + _) _ + _) = _
  rw [Ideal.ofBits_zero_f32, zero_add]
  refine congrArg (fun s => Ideal.rsqrt (Ideal.div s _ + _)) (Finset.sum_congr rfl fun d _ => ?_)
  have e : idx_main_v7 (idx_main_v8 (idx_main_v14 (ix3 i (head c) (inHead c)))) d = ix3 i (head c) d := by
    funext b; match b with | ⟨0, _⟩ => rfl | ⟨1, _⟩ => rfl | ⟨2, _⟩ => rfl
  rw [val_main_v6_apply, e, (ref_heads P i (head c) d (headCol c d) rfl).1]
  rfl

/-- The keys. -/
theorem ref_k (i : Fin 16384) (c : Fin 1024) : val_main_v37 (F := Ideal) P G (ix2 i c) = normed P G 3 i c := by
  have hc := c.isLt
  have f : idx_main_v37 (ix2 i c) = ix3 i (head c) (inHead c) := flat_index i c
  rw [val_main_v37_apply, f, val_main_v36_apply, val_main_v33_apply, (ref_gains G i (head c) (inHead c)).2,
    (ref_heads P i (head c) (inHead c) c (head_inHead c)).2.1, val_main_v32_apply, val_main_v31_apply, val_main_v30_apply,
    val_main_v28_apply, val_main_v26_apply, val_main_v25_apply, val_main_v27_apply, val_main_v29_apply, val_main_cst_2_apply,
    val_main_cst_3_apply, val_main_cst_4_apply]
  unfold normed headNorm
  refine congrArg (· * _) (congrArg (_ * ·) ?_)
  show Ideal.rsqrt (Ideal.div (Ideal.ofBits .f32 0x00000000#32 + _) _ + _) = _
  rw [Ideal.ofBits_zero_f32, zero_add]
  refine congrArg (fun s => Ideal.rsqrt (Ideal.div s _ + _)) (Finset.sum_congr rfl fun d _ => ?_)
  have e : idx_main_v25 (idx_main_v26 (idx_main_v32 (ix3 i (head c) (inHead c)))) d = ix3 i (head c) d := by
    funext b; match b with | ⟨0, _⟩ => rfl | ⟨1, _⟩ => rfl | ⟨2, _⟩ => rfl
  rw [val_main_v24_apply, e, (ref_heads P i (head c) d (headCol c d) rfl).2.1]
  rfl

/-- The values. -/
theorem ref_v (i : Fin 16384) (c : Fin 1024) : val_main_v42 (F := Ideal) P (ix2 i c) = part P 4 i c := by
  have f : idx_main_v42 (ix2 i c) = ix3 i (head c) (inHead c) := flat_index i c
  rw [val_main_v42_apply, f]
  exact (ref_heads P i (head c) (inHead c) c (head_inHead c)).2.2

/-- **The reference's four results.** -/
theorem ref_eq (Q K : FVec Ideal S2x64 .f32) :
    val_main_v38 (F := Ideal) P Q = (fun i : S16384x1024.Idx => normed P Q 2 (i 0) (i 1))
      ∧ val_main_v39 (F := Ideal) P K = (fun i : S16384x1024.Idx => normed P K 3 (i 0) (i 1))
      ∧ val_main_v43 (F := Ideal) P = (fun i : S16384x1024.Idx => part P 4 (i 0) (i 1))
      ∧ val_main_v37 (F := Ideal) P K = (fun i : S16384x1024.Idx => normed P K 3 (i 0) (i 1)) := by
  refine ⟨funext fun j => ?_, funext fun j => ?_, funext fun j => ?_, funext fun j => ?_⟩
  all_goals obtain ⟨i, c, rfl⟩ : ∃ i c, j = ix2 i c := ⟨j 0, j 1, eq_ix2 j⟩
  · exact ref_q P Q i c
  · exact ref_k P K i c
  · exact ref_v P i c
  · exact ref_k P K i c

end Cert.Qkv

end
-- ==== Proof.Qkv.Array.lean ====
/-
  The kernel's four result arrays. The grid is 32 blocks of 512 rows. Every point reads the queries', the keys' and the values' columns
  of its rows, the matrix of ones and the two rows of gains, and leaves the normalised queries and keys and the values.
-/
module

public import proofs.«01_k».proof.Proof.Ffn.Swiglu
public import proofs.«01_k».proof.Proof.Qkv.Ref
public import proofs.«01_k».proof.Proof.Gen.QkvIdeal.Value
public import Idealize.ShloMosaic.Lib.Pipeline.ValueKit.Geometry

@[expose] public section

noncomputable section

namespace Cert.Qkv

open Idealize.ShloMosaic Idealize.ShloMosaic.ValueIdx Idealize.ShloMosaic.TcCoe Idealize.SL.Sem Cert.QkvIdeal Cert.QkvIdeal.Gen
open Cert.Ffn (blockRow blockRow_val)
open Cert.Attn (Finite)
open scoped BigOperators

variable (m : (ℓ : Loc nD τ sig) → Buf (Elt Ideal) ℓ)

theorem index_in : ∀ t : Fin cfg0.N, win0_0.index t = ![t.val, 2] ∧ win0_1.index t = ![t.val, 3] ∧ win0_2.index t = ![t.val, 4] :=
  (by decide +kernel : ∀ t : Fin grid0.N, _)
theorem index_w : ∀ t : Fin cfg0.N, win0_3.index t = ![0, 0] ∧ win0_4.index t = ![0, 0] ∧ win0_5.index t = ![0, 0] :=
  (by decide +kernel : ∀ t : Fin grid0.N, _)
theorem index_out : ∀ t : Fin cfg0.N, win0_6.index t = ![t.val, 0] ∧ win0_7.index t = ![t.val, 0] ∧ win0_8.index t = ![t.val, 0]
    ∧ win0_9.index t = ![t.val, 0] := (by decide +kernel : ∀ t : Fin grid0.N, _)

theorem point_lt (t : Fin cfg0.N) : t.val < 32 := lt_of_lt_of_eq t.isLt N_0

/-- The queries' columns. -/
theorem block0_apply (c : Dev nD) (t : Fin cfg0.N) (r : Fin 512) (w : Fin 1024) :
    iblk m c 0 t (ix2 r w) = part (m ((c : Thread nD τ).loc main_arg0)) 2 (blockRow t.val r) w := by
  have e := (index_in t).1
  blk_simp [iblk]
  rw [V_main_arg0]
  refine congrArg _ (funext fun a => Fin.ext ?_)
  match a with
  | ⟨0, _⟩ => blk_simp [e]; exact (blockRow_val (point_lt t) r).symm
  | ⟨1, _⟩ => blk_simp [e]; rfl

/-- The keys' columns. -/
theorem block1_apply (c : Dev nD) (t : Fin cfg0.N) (r : Fin 512) (w : Fin 1024) :
    iblk m c 1 t (ix2 r w) = part (m ((c : Thread nD τ).loc main_arg0)) 3 (blockRow t.val r) w := by
  have e := (index_in t).2.1
  blk_simp [iblk]
  rw [V_main_arg0]
  refine congrArg _ (funext fun a => Fin.ext ?_)
  match a with
  | ⟨0, _⟩ => blk_simp [e]; exact (blockRow_val (point_lt t) r).symm
  | ⟨1, _⟩ => blk_simp [e]; rfl

/-- The values' columns. -/
theorem block2_apply (c : Dev nD) (t : Fin cfg0.N) (r : Fin 512) (w : Fin 1024) :
    iblk m c 2 t (ix2 r w) = part (m ((c : Thread nD τ).loc main_arg0)) 4 (blockRow t.val r) w := by
  have e := (index_in t).2.2
  blk_simp [iblk]
  rw [V_main_arg0]
  refine congrArg _ (funext fun a => Fin.ext ?_)
  match a with
  | ⟨0, _⟩ => blk_simp [e]; exact (blockRow_val (point_lt t) r).symm
  | ⟨1, _⟩ => blk_simp [e]; rfl

/-- The row of gains the host lays out: the second odd layer's 64 gains, once per head. -/
def gainRow (g : FVec Ideal S2x64 .f32) : FVec Ideal S1x1024 .f32 :=
  shapeCast S1x1024 (shapeCast S1024 (broadcastInDim S16x64 ![0, 1] bcast_S1x64_S16x64_0_1
    (shapeCast S1x64 (shapeCast S64 (extractStridedSlice S1x64 ![1, 0] g slices_S2x64_S1x64_1_0) shapeCasts_S1x64_S64) shapeCasts_S64_S1x64))
    shapeCasts_S16x64_S1024) shapeCasts_S1024_S1x1024

/-- The 4 by 4 identity the host starts from. -/
def eye : FVec Ideal S4x4 .f32 :=
  uitofp .f32 (cmpi .eq (addi (iotaInDim S4x4 32 0) (broadcastInDim S4x4 ![] bcast_S_S4x4 (constantI S_ 32 0#32))) (iotaInDim S4x4 32 1))

/-- The matrix of ones the host builds: every entry of the identity repeated 64 by 64 times. -/
def onesMatrix : FVec Ideal S256x256 .bf16 :=
  truncf .bf16 (shapeCast S256x256 (mulf
    (broadcastInDim S4x64x4x64 ![0, 1, 2, 3] bcast_S4x1x4x1_S4x64x4x64_0_1_2_3 (broadcastInDim S4x1x4x1 ![0, 2] bcast_S4x4_S4x1x4x1_0_2 eye))
    (broadcastInDim S4x64x4x64 ![0, 1, 2, 3] bcast_S1x64x1x64_S4x64x4x64_0_1_2_3 (broadcastInDim S1x64x1x64 ![1, 3] bcast_S64x64_S1x64x1x64_1_3
      (broadcastInDim S64x64 ![] bcast_S_S64x64 (constant (F := Ideal) S_ .f32 0x3F800000#32)))))
    shapeCasts_S4x64x4x64_S256x256) bitsLt_bf16_f32

theorem entry_ones (c : Dev nD) : V m c main_v12 = onesMatrix := by
  unfold V
  simp only [hostOps0, hostOps0_1, hostOps0_2, List.flatten_cons, List.flatten_nil, List.append_nil, List.cons_append, List.nil_append]
  after_results
  rfl

theorem entry_gains (c : Dev nD) : V m c main_v16 = gainRow (m ((c : Thread nD τ).loc main_arg1))
    ∧ V m c main_v20 = gainRow (m ((c : Thread nD τ).loc main_arg2)) := by
  unfold V
  simp only [hostOps0, hostOps0_1, hostOps0_2, List.flatten_cons, List.flatten_nil, List.append_nil, List.cons_append, List.nil_append]
  constructor
  · after_results
    rfl
  · after_results
    rfl

/-- The row of gains, at a column. -/
theorem gainRow_apply (g : FVec Ideal S2x64 .f32) (w : Fin 1024) : gainRow g (ix2 (0 : Fin 1) w) = g (ix2 (1 : Fin 2) (inHead w)) := by
  have hw := w.isLt
  unfold gainRow
  refine (shapeCast_apply _ _ _ (ix1 w) (by rw [Shape.rowMajor_val_one, Shape.rowMajor_val_two]; simp)).trans ?_
  refine (shapeCast_apply _ _ _ (ix2 (head w) (inHead w)) ?_).trans ?_
  · rw [Shape.rowMajor_val_one, Shape.rowMajor_val_two]
    exact (head_inHead w).symm
  refine (broadcastInDim_apply _ _ _ _ (ix2 (0 : Fin 1) (inHead w)) fun a => ?_).trans ?_
  · match a with | ⟨0, _⟩ => rfl | ⟨1, _⟩ => rfl
  refine (shapeCast_apply _ _ _ (ix1 (inHead w)) (by rw [Shape.rowMajor_val_one, Shape.rowMajor_val_two]; simp)).trans ?_
  refine (shapeCast_apply _ _ _ (ix2 (0 : Fin 1) (inHead w)) (by rw [Shape.rowMajor_val_one, Shape.rowMajor_val_two]; simp)).trans ?_
  refine extractStridedSlice_apply _ _ _ _ (ix2 (1 : Fin 2) (inHead w)) fun a => ?_
  match a with | ⟨0, _⟩ => rfl | ⟨1, _⟩ => exact (Nat.zero_add _).symm

/-- The identity, at an entry. -/
theorem eye_apply (h k : Fin 4) : eye (ix2 h k) = if h = k then 1 else 0 := by
  have bit : cmpi .eq (addi (iotaInDim S4x4 32 0) (broadcastInDim S4x4 ![] bcast_S_S4x4 (constantI S_ 32 0#32))) (iotaInDim S4x4 32 1) (ix2 h k)
      = if h = k then 1#1 else 0#1 := by revert h k; decide
  unfold eye
  show FloatOps.uitofp (F := Ideal) .f32 _ = _
  rw [bit]
  by_cases e : h = k
  · rw [if_pos e, if_pos e]
    show (((1#1 : BitVec 1).toNat : ℝ) : EReal) = 1
    simp
  · rw [if_neg e, if_neg e]
    show (((0#1 : BitVec 1).toNat : ℝ) : EReal) = 0
    simp

/-- The matrix of ones, at an entry. -/
theorem onesMatrix_apply (a b : Fin 256) : onesMatrix (ix2 a b) = headOnes a b := by
  have ha := a.isLt
  have hb := b.isLt
  unfold onesMatrix headOnes
  rw [truncf_apply]
  refine (shapeCast_apply _ _ _ (ix4 (⟨a.val / 64, by omega⟩ : Fin 4) (⟨a.val % 64, by omega⟩ : Fin 64)
    (⟨b.val / 64, by omega⟩ : Fin 4) (⟨b.val % 64, by omega⟩ : Fin 64)) ?_).trans ?_
  · rw [Shape.rowMajor_val_four, Shape.rowMajor_val_two]
    show ((a.val / 64 * 64 + a.val % 64) * 4 + b.val / 64) * 64 + b.val % 64 = a.val * 256 + b.val
    omega
  rw [mulf_apply]
  have one : ∀ j, broadcastInDim S4x64x4x64 ![0, 1, 2, 3] bcast_S1x64x1x64_S4x64x4x64_0_1_2_3 (broadcastInDim S1x64x1x64 ![1, 3] bcast_S64x64_S1x64x1x64_1_3
      (broadcastInDim S64x64 ![] bcast_S_S64x64 (constant (F := Ideal) S_ .f32 0x3F800000#32))) j = (1 : EReal) := fun _ => Cert.Ffn.one_bits
  refine (congrArg₂ (fun x y : EReal => x * y) ?_ (one _)).trans (mul_one _)
  refine (broadcastInDim_apply _ _ _ _ (ix4 (⟨a.val / 64, by omega⟩ : Fin 4) (0 : Fin 1) (⟨b.val / 64, by omega⟩ : Fin 4) (0 : Fin 1)) fun d => ?_).trans ?_
  · match d with | ⟨0, _⟩ => rfl | ⟨1, _⟩ => rfl | ⟨2, _⟩ => rfl | ⟨3, _⟩ => rfl
  refine (broadcastInDim_apply _ _ _ _ (ix2 (⟨a.val / 64, by omega⟩ : Fin 4) (⟨b.val / 64, by omega⟩ : Fin 4)) fun d => ?_).trans ?_
  · match d with | ⟨0, _⟩ => rfl | ⟨1, _⟩ => rfl
  rw [eye_apply]
  simp only [Fin.mk.injEq]

/-- The matrix of ones' block. -/
theorem block3_apply (c : Dev nD) (t : Fin cfg0.N) (a b : Fin 256) :
    iblk m c 3 t (ix2 a b) = headOnes a b := by
  have e := (index_w t).1
  blk_simp [iblk]
  refine (congrFun (entry_ones m c) _).trans ((congrArg onesMatrix (funext fun d => Fin.ext ?_)).trans (onesMatrix_apply a b))
  match d with
  | ⟨0, _⟩ => blk_simp [e]
  | ⟨1, _⟩ => blk_simp [e]

/-- The queries' gains. -/
theorem block4_apply (c : Dev nD) (t : Fin cfg0.N) (w : Fin 1024) :
    iblk m c 4 t (ix2 (0 : Fin 1) w) = m ((c : Thread nD τ).loc main_arg1) (ix2 (1 : Fin 2) (inHead w)) := by
  have e := (index_w t).2.1
  blk_simp [iblk]
  refine (congrFun (entry_gains m c).1 _).trans ((congrArg (gainRow _) (funext fun d => Fin.ext ?_)).trans (gainRow_apply _ w))
  match d with
  | ⟨0, _⟩ => blk_simp [e]
  | ⟨1, _⟩ => blk_simp [e]

/-- The keys' gains. -/
theorem block5_apply (c : Dev nD) (t : Fin cfg0.N) (w : Fin 1024) :
    iblk m c 5 t (ix2 (0 : Fin 1) w) = m ((c : Thread nD τ).loc main_arg2) (ix2 (1 : Fin 2) (inHead w)) := by
  have e := (index_w t).2.2
  blk_simp [iblk]
  refine (congrFun (entry_gains m c).2 _).trans ((congrArg (gainRow _) (funext fun d => Fin.ext ?_)).trans (gainRow_apply _ w))
  match d with
  | ⟨0, _⟩ => blk_simp [e]
  | ⟨1, _⟩ => blk_simp [e]

/-! ### What a point leaves -/

theorem keep6_eq (x0 x1 x2 : FVec Ideal S512x1024 .f32) (o : FVec Ideal S256x256 .bf16) (g h : FVec Ideal S1x1024 .f32) :
    k0_pay6 (F := Ideal) x0 x1 x2 o g h = k0_pay2 (F := Ideal) o := by
  unfold k0_pay6
  refine congrArg _ (funext fun i => ?_)
  refine (congrFun (View.ld_unit ..) i).trans ?_
  refine extractStridedSlice_apply _ _ _ _ i fun a => ?_
  match a with | ⟨0, _⟩ => exact (Nat.zero_add _).symm | ⟨1, _⟩ => exact (Nat.zero_add _).symm

theorem keep2_eq (o : FVec Ideal S256x256 .bf16) : k0_pay2 (F := Ideal) o = o := by
  unfold k0_pay2
  exact shapeCast_self _ _

theorem block_q (x0 x1 x2 : FVec Ideal S512x1024 .f32) (o : FVec Ideal S256x256 .bf16) (g h : FVec Ideal S1x1024 .f32) :
    out0_6 (F := Ideal) x0 x1 x2 o g h = k0_pay3 (F := Ideal) o x0 g := by
  frame_out

theorem block_k (x0 x1 x2 : FVec Ideal S512x1024 .f32) (o : FVec Ideal S256x256 .bf16) (g h : FVec Ideal S1x1024 .f32) :
    out0_7 (F := Ideal) x0 x1 x2 o g h = k0_pay5 (F := Ideal) (k0_pay2 (F := Ideal) o) x1 h := by
  frame_out
  exact congrArg (fun w => k0_pay5 (F := Ideal) w x1 h) (keep6_eq x0 x1 x2 o g h)

theorem block_v (x0 x1 x2 : FVec Ideal S512x1024 .f32) (o : FVec Ideal S256x256 .bf16) (g h : FVec Ideal S1x1024 .f32) :
    out0_8 (F := Ideal) x0 x1 x2 o g h = k0_pay1 (F := Ideal) x2 := by
  frame_out

theorem block_kf (x0 x1 x2 : FVec Ideal S512x1024 .f32) (o : FVec Ideal S256x256 .bf16) (g h : FVec Ideal S1x1024 .f32) :
    out0_9 (F := Ideal) x0 x1 x2 o g h = k0_pay4 (F := Ideal) (k0_pay2 (F := Ideal) o) x1 h := by
  frame_out
  exact congrArg (fun w => k0_pay4 (F := Ideal) w x1 h) (keep6_eq x0 x1 x2 o g h)

/-- Row `r` and column `w` of point `t`'s block of a result array. -/
theorem place (t : Fin cfg0.N) (r : Fin 512) : (blockRow t.val r).val = t.val * 512 + r.val := blockRow_val (point_lt t) r

/-- The normalised queries or keys of a point, at an entry. -/
theorem normed_apply (P : FVec Ideal S16384x5120 .f32) (G : FVec Ideal S2x64 .f32) (k : Fin 5) (i : Fin 16384)
    (hP : ∀ a, Finite (part P k i a)) (o : FVec Ideal S256x256 .bf16) (x : FVec Ideal S512x1024 .f32) (g : FVec Ideal S1x1024 .f32)
    (ho : ∀ b c : Fin 256, o (ix2 b c) = headOnes b c) (r : Fin 512) (hx : ∀ a, x (ix2 r a) = part P k i a)
    (hg : ∀ w, g (ix2 (0 : Fin 1) w) = G (ix2 (1 : Fin 2) (inHead w))) (w : Fin 1024) :
    k0_pay4 (F := Ideal) (k0_pay2 (F := Ideal) o) x g (ix2 r w) = normed P G k i w := by
  rw [keep2_eq, pay4_apply o x g ho r (fun a => (hx a).symm ▸ hP a) w]
  unfold normed
  rw [hg]
  exact congrArg (fun f => headNorm f _ w) (funext hx)

/-- The queries after the run. -/
theorem array_q (c : Dev nD) (hP : ∀ i a, Finite (part (m ((c : Thread nD τ).loc main_arg0)) 2 i a)) :
    (dats m 0 c).arrAt 6 cfg0.N = fun i : S16384x1024.Idx =>
      normed (m ((c : Thread nD τ).loc main_arg0)) (m ((c : Thread nD τ).loc main_arg1)) 2 (i 0) (i 1) := by
  refine (dats m 0 c).arrAt_eq_of_covers 6 _ (by decide +kernel) fun t hf y => ?_
  have e := (index_out t).1
  blk_simp
  rw [after0_6, block_q, pay3_eq]
  have h0 : ((cfg0.win 6).blk t).view.emb y 0 = blockRow t.val (y 0) :=
    Fin.ext ((by blk_simp [e] : (((cfg0.win 6).blk t).view.emb y 0).val = t.val * 512 + (y 0).val).trans (place t (y 0)).symm)
  have h1 : ((cfg0.win 6).blk t).view.emb y 1 = y 1 :=
    Fin.ext (by blk_simp [e] : (((cfg0.win 6).blk t).view.emb y 1).val = (y 1).val)
  rw [h0, h1]
  refine Eq.trans (congrArg _ (eq_ix2 y)) ?_
  exact normed_apply _ _ 2 (blockRow t.val (y 0)) (hP _) _ _ _ (block3_apply m c t) (y 0) (block0_apply m c t (y 0)) (block4_apply m c t) (y 1)

/-- The keys after the run, narrowed and not. -/
theorem array_k (c : Dev nD) (hP : ∀ i a, Finite (part (m ((c : Thread nD τ).loc main_arg0)) 3 i a)) :
    (dats m 0 c).arrAt 7 cfg0.N = (fun i : S16384x1024.Idx =>
        normed (m ((c : Thread nD τ).loc main_arg0)) (m ((c : Thread nD τ).loc main_arg2)) 3 (i 0) (i 1))
      ∧ (dats m 0 c).arrAt 9 cfg0.N = (fun i : S16384x1024.Idx =>
        normed (m ((c : Thread nD τ).loc main_arg0)) (m ((c : Thread nD τ).loc main_arg2)) 3 (i 0) (i 1)) := by
  constructor
  · refine (dats m 0 c).arrAt_eq_of_covers 7 _ (by decide +kernel) fun t hf y => ?_
    have e := (index_out t).2.1
    blk_simp
    rw [after0_7, block_k]
    have h0 : ((cfg0.win 7).blk t).view.emb y 0 = blockRow t.val (y 0) :=
      Fin.ext ((by blk_simp [e] : (((cfg0.win 7).blk t).view.emb y 0).val = t.val * 512 + (y 0).val).trans (place t (y 0)).symm)
    have h1 : ((cfg0.win 7).blk t).view.emb y 1 = y 1 :=
      Fin.ext (by blk_simp [e] : (((cfg0.win 7).blk t).view.emb y 1).val = (y 1).val)
    rw [h0, h1]
    refine Eq.trans (congrArg _ (eq_ix2 y)) ?_
    exact normed_apply _ _ 3 (blockRow t.val (y 0)) (hP _) _ _ _ (block3_apply m c t) (y 0) (block1_apply m c t (y 0)) (block5_apply m c t) (y 1)
  · refine (dats m 0 c).arrAt_eq_of_covers 9 _ (by decide +kernel) fun t hf y => ?_
    have e := (index_out t).2.2.2
    blk_simp
    rw [after0_9, block_kf]
    have h0 : ((cfg0.win 9).blk t).view.emb y 0 = blockRow t.val (y 0) :=
      Fin.ext ((by blk_simp [e] : (((cfg0.win 9).blk t).view.emb y 0).val = t.val * 512 + (y 0).val).trans (place t (y 0)).symm)
    have h1 : ((cfg0.win 9).blk t).view.emb y 1 = y 1 :=
      Fin.ext (by blk_simp [e] : (((cfg0.win 9).blk t).view.emb y 1).val = (y 1).val)
    rw [h0, h1]
    refine Eq.trans (congrArg _ (eq_ix2 y)) ?_
    exact normed_apply _ _ 3 (blockRow t.val (y 0)) (hP _) _ _ _ (block3_apply m c t) (y 0) (block1_apply m c t (y 0)) (block5_apply m c t) (y 1)

/-- The values after the run. -/
theorem array_v (c : Dev nD) : (dats m 0 c).arrAt 8 cfg0.N = fun i : S16384x1024.Idx =>
    part (m ((c : Thread nD τ).loc main_arg0)) 4 (i 0) (i 1) := by
  refine (dats m 0 c).arrAt_eq_of_covers 8 _ (by decide +kernel) fun t hf y => ?_
  have e := (index_out t).2.2.1
  blk_simp
  rw [after0_8, block_v]
  have h0 : ((cfg0.win 8).blk t).view.emb y 0 = blockRow t.val (y 0) :=
    Fin.ext ((by blk_simp [e] : (((cfg0.win 8).blk t).view.emb y 0).val = t.val * 512 + (y 0).val).trans (place t (y 0)).symm)
  have h1 : ((cfg0.win 8).blk t).view.emb y 1 = y 1 :=
    Fin.ext (by blk_simp [e] : (((cfg0.win 8).blk t).view.emb y 1).val = (y 1).val)
  rw [h0, h1]
  refine Eq.trans (congrArg _ (eq_ix2 y)) ?_
  exact block2_apply m c t (y 0) (y 1)

end Cert.Qkv

end
-- ==== Proof.Qkv.Claim.lean ====
/-
  The claims about the queries, keys and values: the reference's frame, and the equality of the kernel's four result arrays with the
  reference's, for finite queries' and keys' columns.
-/
module

public import proofs.«01_k».proof.Proof.Qkv.Array
public import proofs.«01_k».proof.Proof.Gen.QkvRefIdeal.Run
public import proofs.«01_k».proof.Defs

@[expose] public section

noncomputable section

namespace Cert.Qkv

open Idealize.ShloMosaic Idealize.ShloMosaic.ValueIdx Idealize.ShloMosaic.TcCoe Idealize.SL.Sem
open Cert.Attn (Finite finite_of_abs_lt)

instance pre_facts : Cert.Pre_finite_projected.Facts := ⟨by decide, by decide⟩

/-- Column `c` of part `k`, counted from the first of the queries' columns. -/
def queryCol (k : Fin 2) (c : Fin 1024) : Fin 2048 := ⟨k.val * 1024 + c.val, by have := k.isLt; have := c.isLt; omega⟩

/-- The precondition says that no entry of the queries' and the keys' columns is infinite. -/
theorem finite_of_pre (P : FVec Ideal Cert.Pre_finite_projected.S16384x5120 .f32) (Q K : FVec Ideal Cert.Pre_finite_projected.S2x64 .f32)
    (h : Cert.Pre_finite_projected.fn (F := Ideal) P Q K = fun _ => 1#1) (k : Fin 2) (n : Fin 5) (hn : n.val = 2 + k.val) (i : Fin 16384)
    (c : Fin 1024) : Finite (part P n i c) := by
  have inf : Ideal.ofBits .f32 0x7F800000#32 = ⊤ := by simp [Ideal.ofBits, Ideal.ieee]
  have e : extractStridedSlice Cert.Pre_finite_projected.S16384x2048 ![0, 2048] P Cert.Pre_finite_projected.Facts.slices_S16384x5120_S16384x2048_0_2048
      (ix2 i (queryCol k c)) = part P n i c := by
    refine extractStridedSlice_apply _ _ _ _ (ix2 i (partCol n c)) fun a => ?_
    match a with
    | ⟨0, _⟩ => exact (Nat.zero_add _).symm
    | ⟨1, _⟩ => show n.val * 1024 + c.val = 2048 + (k.val * 1024 + c.val); omega
  have hx : Ideal.cmp .olt (max (part P n i c) (-(part P n i c))) (Ideal.ofBits .f32 0x7F800000#32) = 1#1 := by
    rw [← e]
    exact congrFun h (ix2 i (queryCol k c))
  refine finite_of_abs_lt ?_
  rw [inf] at hx
  by_contra hlt
  simp [Ideal.cmp, hlt] at hx

theorem ref_frame : Cert.quiescent_QkvRefIdeal := fun m ρ _ =>
  (θ_run Cert.QkvRefIdeal.defs _ _).mono (fun r h => ⟨fun c => (h c).2.2.2.2, sem_eq_zero_of_no_sems (by decide) r.2⟩)
    (Cert.QkvRefIdeal.Value.run (F := Ideal) m ρ)

/-- **The kernel computes the reference's queries, keys and values.** -/
theorem value : Cert.algebraic_QkvIdeal_QkvRefIdeal_pre_finite_projected := by
  intro m ρ m' ρ' hpre hagree
  have fin := fun c => finite_of_pre _ _ _ (hpre c)
  refine ⟨_, _, _, _, (θ_run _ _ _).mono (fun r h c => ⟨(h c).1.trans (array_q m c (fin c 0 2 rfl)),
    (h c).2.1.trans (array_k m c (fin c 1 3 rfl)).1, (h c).2.2.1.trans (array_v m c), (h c).2.2.2.1.trans (array_k m c (fin c 1 3 rfl)).2,
    (h c).2.2.2.2⟩) (Cert.QkvIdeal.Value.run_blocks (F := Ideal) m ρ), ?_⟩
  have reads := fun c : Dev _ => ref_eq (m ((c.tc : Thread _ _).loc Cert.QkvIdeal.main_arg0)) (m ((c.tc : Thread _ _).loc Cert.QkvIdeal.main_arg1))
    (m ((c.tc : Thread _ _).loc Cert.QkvIdeal.main_arg2))
  refine (θ_run _ _ _).mono (fun r h c => ⟨(h c).1.trans ?_, (h c).2.1.trans ?_, (h c).2.2.1.trans ?_, (h c).2.2.2.1.trans ?_, (h c).2.2.2.2⟩)
    (Cert.QkvRefIdeal.Value.run (F := Ideal) m' ρ')
  · refine (Cert.QkvRefIdeal.Read.val_main_v38_eq _ _).trans ?_
    rw [(hagree c).1, (hagree c).2.1]
    exact (reads c).1
  · refine (Cert.QkvRefIdeal.Read.val_main_v39_eq _ _).trans ?_
    rw [(hagree c).1, (hagree c).2.2]
    exact (reads c).2.1
  · refine (Cert.QkvRefIdeal.Read.val_main_v43_eq _).trans ?_
    rw [(hagree c).1]
    exact (reads c).2.2.1
  · refine (Cert.QkvRefIdeal.Read.val_main_v37_eq _ _).trans ?_
    rw [(hagree c).1, (hagree c).2.2]
    exact (reads c).2.2.2

end Cert.Qkv

end
-- ==== Proof.Glu.Ref.lean ====
/-
  The gated unit after the even layers' recurrence, over the extended reals, and the reference's rows: they are `glu` of the
  prompts' rows.
-/
module

public import proofs.«01_k».proof.Proof.Ffn.Swiglu
public import proofs.«01_k».proof.Proof.Gen.GluRefIdeal.Read

@[expose] public section

noncomputable section

namespace Cert.Glu

open Idealize.ShloMosaic Idealize.ShloMosaic.ValueIdx Cert.GluRefIdeal Cert.GluRefIdeal.Gen Cert.GluRefIdeal.Read
open Cert.Ffn (one_bits)
open scoped BigOperators

/-- The `gelu` by `tanh`. -/
def gelu (y : EReal) : EReal :=
  y * (Ideal.ofBits .f32 0x3F000000#32 * (Ideal.ofBits .f32 0x3F800000#32
    + Ideal.tanh (Ideal.ofBits .f32 0x3F4C422A#32 * (y + Ideal.ofBits .f32 0x3D372713#32 * (y * y * y)))))

/-- A row's `gelu` through the gate: its product with a column of the weights and the bias of that column, by the logistic function. -/
def gatedUnit (z : Fin 1024 → EReal) (w : Fin 1024 → EReal) (b : EReal) (j : Fin 1024) : EReal :=
  z j * Ideal.logistic ((∑ a, z a * w a) + b)

/-- A prompt's row among all tokens. -/
def promptRow (i : Fin 8192) : Fin 16384 := ⟨i.val, by have := i.isLt; omega⟩

/-- A column of the recurrence's input among the projected columns. -/
def firstCol (a : Fin 1024) : Fin 4096 := ⟨a.val, by have := a.isLt; omega⟩

/-- The group of a column. -/
def group (a : Fin 1024) : Fin 64 := ⟨a.val / 16, by have := a.isLt; omega⟩

/-- A column's place in its group. -/
def inGroup (a : Fin 1024) : Fin 16 := ⟨a.val % 16, Nat.mod_lt _ (by decide)⟩

/-- The skip plus the two directions' outputs. -/
def mixed (P : FVec Ideal S16384x4096 .f32) (Y : FVec Ideal S2x8192x1024 .f32) (D : FVec Ideal S2x64x16 .f32) (i : Fin 8192)
    (a : Fin 1024) : EReal :=
  D (ix3 (1 : Fin 2) (group a) (inGroup a)) * P (ix2 (promptRow i) (firstCol a)) + Y (ix3 (0 : Fin 2) i a) + Y (ix3 (1 : Fin 2) i a)

/-- The gated unit's entry of one token and column. -/
def glu (P : FVec Ideal S16384x4096 .f32) (Y : FVec Ideal S2x8192x1024 .f32) (D : FVec Ideal S2x64x16 .f32)
    (W : FVec Ideal S2x1024x1024 .f32) (B : FVec Ideal S2x1024 .f32) (i : Fin 8192) (j : Fin 1024) : EReal :=
  gatedUnit (fun a => gelu (mixed P Y D i a)) (fun a => W (ix3 (1 : Fin 2) a j)) (B (ix2 (1 : Fin 2) j)) j

variable (P : FVec Ideal S16384x4096 .f32) (Y : FVec Ideal S2x8192x1024 .f32) (D : FVec Ideal S2x64x16 .f32)
  (W : FVec Ideal S2x1024x1024 .f32) (B : FVec Ideal S2x1024 .f32)

/-- The reference's skip weights. -/
theorem ref_skip (i : Fin 8192) (a : Fin 1024) : val_main_v5 (F := Ideal) D (ix2 i a) = D (ix3 (1 : Fin 2) (group a) (inGroup a)) := by
  have ha := a.isLt
  rw [val_main_v5_apply, val_main_v4_apply, val_main_v2_apply, val_main_v1_apply, val_main_v0_apply]
  refine congrArg D (funext fun b => Fin.ext ?_)
  match b with
  | ⟨0, _⟩ => rfl
  | ⟨1, _⟩ => show (a.val / 16 * 16 + a.val % 16) / 16 % 64 = a.val / 16; omega
  | ⟨2, _⟩ => show (a.val / 16 * 16 + a.val % 16) % 16 = a.val % 16; omega

/-- The reference's rows of one direction's output. -/
theorem ref_outputs (i : Fin 8192) (a : Fin 1024) : val_main_v8 (F := Ideal) Y (ix2 i a) = Y (ix3 (0 : Fin 2) i a)
    ∧ val_main_v11 (F := Ideal) Y (ix2 i a) = Y (ix3 (1 : Fin 2) i a) := by
  have hi := i.isLt
  have ha := a.isLt
  have e0 : (i.val * 1024 + a.val) / 1024 % 8192 = i.val := by omega
  have e1 : (i.val * 1024 + a.val) % 1024 = a.val := by omega
  constructor
  · rw [val_main_v8_apply, val_main_v7_apply]
    refine congrArg Y (funext fun b => Fin.ext ?_)
    match b with | ⟨0, _⟩ => rfl | ⟨1, _⟩ => exact e0 | ⟨2, _⟩ => exact e1
  · rw [val_main_v11_apply, val_main_v10_apply]
    refine congrArg Y (funext fun b => Fin.ext ?_)
    match b with | ⟨0, _⟩ => rfl | ⟨1, _⟩ => exact e0 | ⟨2, _⟩ => exact e1

/-- The reference's sum of the skip and the two outputs. -/
theorem ref_mixed (i : Fin 8192) (a : Fin 1024) : val_main_v12 (F := Ideal) P Y D (ix2 i a) = mixed P Y D i a := by
  rw [val_main_v12_apply, val_main_v9_apply, val_main_v6_apply, ref_skip, (ref_outputs Y i a).1, (ref_outputs Y i a).2, val_main_v3_apply]
  have e : idx_main_v3 (ix2 i a) = ix2 (promptRow i) (firstCol a) := by
    funext b
    match b with | ⟨0, _⟩ => exact Fin.ext (by simp [promptRow]) | ⟨1, _⟩ => exact Fin.ext (by simp [firstCol])
  rw [e]
  rfl

/-- The reference's `gelu`. -/
theorem ref_gelu (i : Fin 8192) (a : Fin 1024) : val_main_v25 (F := Ideal) P Y D (ix2 i a) = gelu (mixed P Y D i a) := by
  rw [val_main_v25_apply, val_main_v24_apply, val_main_v23_apply, val_main_v22_apply, val_main_v21_apply, val_main_v20_apply,
    val_main_v19_apply, val_main_v18_apply, val_main_v17_apply, val_main_v16_apply, val_main_v15_apply, val_main_v14_apply,
    val_main_v13_apply, ref_mixed]
  rfl

/-- The reference's bias and weights. -/
theorem ref_bias (i : Fin 8192) (j : Fin 1024) : val_main_v32 (F := Ideal) B (ix2 i j) = B (ix2 (1 : Fin 2) j) := by
  have hj := j.isLt
  rw [val_main_v32_apply, val_main_v31_apply, val_main_v30_apply, val_main_v29_apply]
  refine congrArg B (funext fun b => Fin.ext ?_)
  match b with
  | ⟨0, _⟩ => rfl
  | ⟨1, _⟩ => show j.val % 1024 = j.val; omega

theorem ref_weights (a j : Fin 1024) : val_main_v27 (F := Ideal) W (ix2 a j) = W (ix3 (1 : Fin 2) a j) := by
  have ha := a.isLt
  have hj := j.isLt
  rw [val_main_v27_apply, val_main_v26_apply]
  refine congrArg W (funext fun b => Fin.ext ?_)
  match b with
  | ⟨0, _⟩ => rfl
  | ⟨1, _⟩ => show (a.val * 1024 + j.val) / 1024 % 1024 = a.val; omega
  | ⟨2, _⟩ => show (a.val * 1024 + j.val) % 1024 = j.val; omega

/-- **The reference's rows.** -/
theorem ref_eq : val_main_v41 (F := Ideal) P Y D W B = fun i : S8192x1024.Idx => glu P Y D W B (i 0) (i 1) := by
  funext y
  obtain ⟨i, j, rfl⟩ : ∃ i j, y = ix2 i j := ⟨y 0, y 1, eq_ix2 y⟩
  have el : ∀ l, lidx_main_v28 (ix2 i j) l = ix2 i l := fun l => by funext d; match d with | ⟨0, _⟩ => rfl | ⟨1, _⟩ => rfl
  have er : ∀ l, ridx_main_v28 (ix2 i j) l = ix2 l j := fun l => by funext d; match d with | ⟨0, _⟩ => rfl | ⟨1, _⟩ => rfl
  have hd : val_main_v28 (F := Ideal) P Y D W (ix2 i j) = ∑ a, gelu (mixed P Y D i a) * W (ix3 (1 : Fin 2) a j) := by
    rw [val_main_v28_apply]
    refine Finset.sum_congr rfl fun a _ => ?_
    rw [el, er, ref_gelu, ref_weights]
  show val_main_v40 (F := Ideal) P Y D W B (ix2 i j) = glu P Y D W B i j
  rw [val_main_v40_apply, val_main_v39_apply, val_main_v38_apply, val_main_v37_apply, val_main_v36_apply, val_main_v35_apply,
    val_main_v34_apply, val_main_v33_apply, ref_gelu, ref_bias, hd]
  unfold glu gatedUnit Ideal.logistic
  rw [← one_bits]
  rfl

end Cert.Glu

end
-- ==== Proof.Glu.Array.lean ====
/-
  The gated unit after the even layers' recurrence, the kernel's side. The grid is sixteen blocks of 512 rows of the prompts; every
  point adds the skip and the two directions' outputs, and multiplies the `gelu` of its rows by all the weights. So the result
  array is `glu`.
-/
module

public import proofs.«01_k».proof.Proof.Glu.Ref
public import proofs.«01_k».proof.Proof.Gen.GluIdeal.Value
public import Idealize.ShloMosaic.Lib.Pipeline.ValueKit.Geometry
public import Idealize.ShloMosaic.Lib.MatmulPlain
public import Idealize.ShloMosaic.Lib.Claim

@[expose] public section

noncomputable section

namespace Cert.Glu

open Idealize.ShloMosaic Idealize.ShloMosaic.ValueIdx Idealize.ShloMosaic.TcCoe Idealize.SL.Sem Cert.GluIdeal Cert.GluIdeal.Gen
open scoped BigOperators

/-- Row `r` of the prompts' block `b`. -/
def promptBlock (b : Nat) (r : Fin 512) : Fin 8192 := ⟨(b * 512 + r.val) % 8192, Nat.mod_lt _ (by decide)⟩

theorem promptBlock_val {b : Nat} (hb : b < 16) (r : Fin 512) : (promptBlock b r).val = b * 512 + r.val := by
  have := r.isLt
  show (b * 512 + r.val) % 8192 = _
  omega

/-- The kernel's spelling of `gelu`. -/
theorem gelu_eq (y : EReal) : Ideal.ofBits .f32 0x3F000000#32 * y * (Ideal.ofBits .f32 0x3F800000#32
    + Ideal.tanh (Ideal.ofBits .f32 0x3F4C422A#32 * (y + Ideal.ofBits .f32 0x3D372713#32 * (y * y * y)))) = gelu y := by
  unfold gelu
  rw [mul_comm (Ideal.ofBits .f32 0x3F000000#32) y, mul_assoc]

/-- A point's rows before the `gelu`. -/
def pointRow (d : FVec Ideal S1x1024 .f32) (u : FVec Ideal S512x1024 .f32) (p q : FVec Ideal S1x512x1024 .f32) (r : Fin 512)
    (a : Fin 1024) : EReal :=
  d (ix2 (0 : Fin 1) a) * u (ix2 r a) + p (ix3 (0 : Fin 1) r a) + q (ix3 (0 : Fin 1) r a)

/-- The stored word, at an index. -/
theorem pay_apply (d : FVec Ideal S1x1024 .f32) (u : FVec Ideal S512x1024 .f32) (p q : FVec Ideal S1x512x1024 .f32)
    (w : FVec Ideal S1024x1024 .bf16) (b : FVec Ideal S1x1024 .f32) (r : Fin 512) (j : Fin 1024) :
    k0_pay1 (F := Ideal) d u p q w b (ix2 r j)
      = gatedUnit (fun a => gelu (pointRow d u p q r a)) (fun a => w (ix2 a j)) (b (ix2 (0 : Fin 1) j)) j := by
  have row : ∀ (x : FVec Ideal S1x1024 .f32) (c : Fin 1024),
      broadcastTo S512x1024 (shapeCast S1x1024 x shapeCasts_S1x1024_S1x1024) broadcasts_S1x1024_S512x1024 (ix2 r c) = x (ix2 (0 : Fin 1) c) :=
    fun x c => (broadcastTo_apply _ _ _ (ix2 (0 : Fin 1) c) (fun a => by match a with | ⟨0, _⟩ => rfl | ⟨1, _⟩ => rfl)).trans
      (congrFun (shapeCast_self _ _) _)
  have half : ∀ (x : FVec Ideal S1x512x1024 .f32) (c : Fin 1024),
      shapeCast S512x1024 x shapeCasts_S1x512x1024_S512x1024 (ix2 r c) = x (ix3 (0 : Fin 1) r c) :=
    fun x c => shapeCast_apply _ _ _ _ (by rw [Shape.rowMajor_val_three, Shape.rowMajor_val_two]; simp)
  unfold k0_pay1 gatedUnit
  rw [truncf_apply, mulf_apply]
  refine congrArg₂ (fun z g => z * Ideal.logistic g) ?_ ?_
  · refine Eq.trans ?_ (gelu_eq _)
    unfold pointRow
    rw [← row d j, ← half p j, ← half q j]
    rfl
  · refine congrArg₂ (· + ·) ((Ideal.matmul_plain_apply (M := 512) (K := 1024) (N := 1024) none _ _ _ r j).trans ?_) (row b j)
    show Ideal.ofBits .f32 0x00000000#32 + _ = _
    rw [Ideal.ofBits_zero_f32, zero_add]
    refine Finset.sum_congr rfl fun a _ => congrArg₂ (· * ·) ?_ (congrFun (shapeCast_self _ _) _)
    refine Eq.trans ?_ (gelu_eq _)
    unfold pointRow
    rw [← row d a, ← half p a, ← half q a]
    rfl

/-! ### The host's layouts -/

/-- The second even layer's skip weights in a row. -/
def skipRow (D : FVec Ideal S2x64x16 .f32) : FVec Ideal S1x1024 .f32 :=
  shapeCast S1x1024 (shapeCast S1024 (shapeCast S64x16 (extractStridedSlice S1x64x16 ![1, 0, 0] D slices_S2x64x16_S1x64x16_1_0_0)
    shapeCasts_S1x64x16_S64x16) shapeCasts_S64x16_S1024) shapeCasts_S1024_S1x1024

theorem skipRow_apply (D : FVec Ideal S2x64x16 .f32) (w : Fin 1024) :
    skipRow D (ix2 (0 : Fin 1) w) = D (ix3 (1 : Fin 2) (group w) (inGroup w)) := by
  have hw := w.isLt
  unfold skipRow
  refine (shapeCast_apply _ _ _ (ix1 w) (by rw [Shape.rowMajor_val_one, Shape.rowMajor_val_two]; simp)).trans ?_
  refine (shapeCast_apply _ _ _ (ix2 (group w) (inGroup w)) ?_).trans ?_
  · rw [Shape.rowMajor_val_one, Shape.rowMajor_val_two]
    show w.val / 16 * 16 + w.val % 16 = w.val
    omega
  refine (shapeCast_apply _ _ _ (ix3 (0 : Fin 1) (group w) (inGroup w)) (by rw [Shape.rowMajor_val_three, Shape.rowMajor_val_two]; simp)).trans ?_
  refine extractStridedSlice_apply _ _ _ _ (ix3 (1 : Fin 2) (group w) (inGroup w)) fun a => ?_
  match a with | ⟨0, _⟩ => rfl | ⟨1, _⟩ => exact (Nat.zero_add _).symm | ⟨2, _⟩ => exact (Nat.zero_add _).symm

/-- The second even layer's weights. -/
def weightMatrix (W : FVec Ideal S2x1024x1024 .f32) : FVec Ideal S1024x1024 .f32 :=
  shapeCast S1024x1024 (extractStridedSlice S1x1024x1024 ![1, 0, 0] W slices_S2x1024x1024_S1x1024x1024_1_0_0)
    shapeCasts_S1x1024x1024_S1024x1024

theorem weightMatrix_apply (W : FVec Ideal S2x1024x1024 .f32) (r w : Fin 1024) :
    weightMatrix W (ix2 r w) = W (ix3 (1 : Fin 2) r w) := by
  unfold weightMatrix
  refine (shapeCast_apply _ _ _ (ix3 (0 : Fin 1) r w) (by rw [Shape.rowMajor_val_three, Shape.rowMajor_val_two]; simp)).trans ?_
  refine extractStridedSlice_apply _ _ _ _ (ix3 (1 : Fin 2) r w) fun a => ?_
  match a with | ⟨0, _⟩ => rfl | ⟨1, _⟩ => exact (Nat.zero_add _).symm | ⟨2, _⟩ => exact (Nat.zero_add _).symm

/-- The second even layer's bias in a row. -/
def biasRow (B : FVec Ideal S2x1024 .f32) : FVec Ideal S1x1024 .f32 :=
  shapeCast S1x1024 (shapeCast S1024 (extractStridedSlice S1x1024 ![1, 0] B slices_S2x1024_S1x1024_1_0) shapeCasts_S1x1024_S1024)
    shapeCasts_S1024_S1x1024

theorem biasRow_apply (B : FVec Ideal S2x1024 .f32) (w : Fin 1024) : biasRow B (ix2 (0 : Fin 1) w) = B (ix2 (1 : Fin 2) w) := by
  unfold biasRow
  refine (shapeCast_apply _ _ _ (ix1 w) (by rw [Shape.rowMajor_val_one, Shape.rowMajor_val_two]; simp)).trans ?_
  refine (shapeCast_apply _ _ _ (ix2 (0 : Fin 1) w) (by rw [Shape.rowMajor_val_one, Shape.rowMajor_val_two]; simp)).trans ?_
  refine extractStridedSlice_apply _ _ _ _ (ix2 (1 : Fin 2) w) fun a => ?_
  match a with | ⟨0, _⟩ => rfl | ⟨1, _⟩ => exact (Nat.zero_add _).symm

variable (m : (ℓ : Loc nD τ sig) → Buf (Elt Ideal) ℓ)

/-! ### The blocks -/

theorem index_0 : ∀ t : Fin cfg0.N, win0_0.index t = ![t.val, 0] := (by decide +kernel : ∀ t : Fin grid0.N, _)
theorem index_1 : ∀ t : Fin cfg0.N, win0_1.index t = ![0, t.val, 0] := (by decide +kernel : ∀ t : Fin grid0.N, _)
theorem index_c : ∀ t : Fin cfg0.N, win0_2.index t = ![0, 0] ∧ win0_3.index t = ![0, 0] ∧ win0_4.index t = ![0, 0] :=
  (by decide +kernel : ∀ t : Fin grid0.N, _)
theorem index_5 : ∀ t : Fin cfg0.N, win0_5.index t = ![t.val, 0] := (by decide +kernel : ∀ t : Fin grid0.N, _)

theorem point_lt (t : Fin cfg0.N) : t.val < 16 := lt_of_lt_of_eq t.isLt N_0

/-- The projected rows. -/
theorem block0_apply (c : Dev nD) (t : Fin cfg0.N) (r : Fin 512) (w : Fin 1024) :
    iblk m c 0 t (ix2 r w) = m ((c : Thread nD τ).loc main_arg0) (ix2 (promptRow (promptBlock t.val r)) (firstCol w)) := by
  have e := index_0 t
  blk_simp [iblk]
  rw [V_main_arg0]
  refine congrArg _ (funext fun a => Fin.ext ?_)
  match a with
  | ⟨0, _⟩ => blk_simp [e]; exact (promptBlock_val (point_lt t) r).symm
  | ⟨1, _⟩ => blk_simp [e]; rfl

/-- The two directions' outputs. -/
theorem block1_apply (c : Dev nD) (t : Fin cfg0.N) (k : Fin 2) (r : Fin 512) (w : Fin 1024) :
    iblk m c 1 t (ix3 k r w) = m ((c : Thread nD τ).loc main_arg1) (ix3 k (promptBlock t.val r) w) := by
  have e := index_1 t
  blk_simp [iblk]
  rw [V_main_arg1]
  refine congrArg _ (funext fun a => Fin.ext ?_)
  match a with
  | ⟨0, _⟩ => blk_simp [e]
  | ⟨1, _⟩ => blk_simp [e]; exact (promptBlock_val (point_lt t) r).symm
  | ⟨2, _⟩ => blk_simp [e]

/-- The skip weights, laid out in a row by the host. -/
theorem block2_apply (c : Dev nD) (t : Fin cfg0.N) (w : Fin 1024) :
    iblk m c 2 t (ix2 (0 : Fin 1) w) = m ((c : Thread nD τ).loc main_arg2) (ix3 (1 : Fin 2) (group w) (inGroup w)) := by
  have e := (index_c t).1
  have hw := w.isLt
  blk_simp [iblk]
  entry_read
  have hx : ((View.whole main_v7).slice (win0_2.rect t)).emb (ix2 (0 : Fin 1) w) = ix2 (0 : Fin 1) w := by
    refine funext fun a => Fin.ext ?_
    match a with
    | ⟨0, _⟩ => blk_simp [e]
    | ⟨1, _⟩ => blk_simp [e]
  exact (congrArg _ hx).trans (skipRow_apply _ w)

/-- The weights. -/
theorem block3_apply (c : Dev nD) (t : Fin cfg0.N) (r w : Fin 1024) :
    iblk m c 3 t (ix2 r w) = m ((c : Thread nD τ).loc main_arg3) (ix3 (1 : Fin 2) r w) := by
  have e := (index_c t).2.1
  blk_simp [iblk]
  entry_read
  rw [truncf_apply]
  have hx : ((View.whole main_v8).slice (win0_3.rect t)).emb (ix2 r w) = ix2 r w := by
    refine funext fun a => Fin.ext ?_
    match a with
    | ⟨0, _⟩ => blk_simp [e]
    | ⟨1, _⟩ => blk_simp [e]
  exact (congrArg _ hx).trans (weightMatrix_apply _ r w)

/-- The bias. -/
theorem block4_apply (c : Dev nD) (t : Fin cfg0.N) (w : Fin 1024) :
    iblk m c 4 t (ix2 (0 : Fin 1) w) = m ((c : Thread nD τ).loc main_arg4) (ix2 (1 : Fin 2) w) := by
  have e := (index_c t).2.2
  blk_simp [iblk]
  entry_read
  have hx : ((View.whole main_v9).slice (win0_4.rect t)).emb (ix2 (0 : Fin 1) w) = ix2 (0 : Fin 1) w := by
    refine funext fun a => Fin.ext ?_
    match a with
    | ⟨0, _⟩ => blk_simp [e]
    | ⟨1, _⟩ => blk_simp [e]
  exact (congrArg _ hx).trans (biasRow_apply _ w)

/-- One direction's output, as the body loads it. -/
theorem load_apply (x : FVec Ideal S2x512x1024 .f32) (r : Fin 512) (a : Fin 1024) :
    View.ld (Val := Elt Ideal) (e' := .f32) x r0_2 (ix3 (0 : Fin 1) r a) = x (ix3 (0 : Fin 2) r a)
      ∧ View.ld (Val := Elt Ideal) (e' := .f32) x r0_3 (ix3 (0 : Fin 1) r a) = x (ix3 (1 : Fin 2) r a) := by
  constructor
  · rw [View.ld_unit]
    refine extractStridedSlice_apply _ _ _ _ _ fun a => ?_
    match a with | ⟨0, _⟩ => rfl | ⟨1, _⟩ => exact (Nat.zero_add _).symm | ⟨2, _⟩ => exact (Nat.zero_add _).symm
  · rw [View.ld_unit]
    refine extractStridedSlice_apply _ _ _ _ _ fun a => ?_
    match a with | ⟨0, _⟩ => rfl | ⟨1, _⟩ => exact (Nat.zero_add _).symm | ⟨2, _⟩ => exact (Nat.zero_add _).symm

/-- What a point leaves in its block. -/
theorem block_eq (x0 : FVec Ideal S512x1024 .f32) (x1 : FVec Ideal S2x512x1024 .f32) (x2 : FVec Ideal S1x1024 .f32)
    (x3 : FVec Ideal S1024x1024 .bf16) (x4 : FVec Ideal S1x1024 .f32) :
    out0_5 (F := Ideal) x0 x1 x2 x3 x4 = k0_pay1 (F := Ideal) x2 x0 (View.ld (Val := Elt Ideal) (e' := .f32) x1 r0_2)
      (View.ld (Val := Elt Ideal) (e' := .f32) x1 r0_3) x3 x4 := by
  frame_out

theorem out_apply (c : Dev nD) (t : Fin cfg0.N) (r : Fin 512) (j : Fin 1024) :
    out0_5 (F := Ideal) (iblk m c 0 t) (iblk m c 1 t) (iblk m c 2 t) (iblk m c 3 t) (iblk m c 4 t) (ix2 r j)
      = glu (m ((c : Thread nD τ).loc main_arg0)) (m ((c : Thread nD τ).loc main_arg1)) (m ((c : Thread nD τ).loc main_arg2))
          (m ((c : Thread nD τ).loc main_arg3)) (m ((c : Thread nD τ).loc main_arg4)) (promptBlock t.val r) j := by
  rw [block_eq, pay_apply]
  unfold glu
  have hz : ∀ a, pointRow (iblk m c 2 t) (iblk m c 0 t) (View.ld (Val := Elt Ideal) (e' := .f32) (iblk m c 1 t) r0_2)
      (View.ld (Val := Elt Ideal) (e' := .f32) (iblk m c 1 t) r0_3) r a
      = mixed (m ((c : Thread nD τ).loc main_arg0)) (m ((c : Thread nD τ).loc main_arg1)) (m ((c : Thread nD τ).loc main_arg2))
          (promptBlock t.val r) a := fun a => by
    unfold pointRow mixed
    refine congrArg₂ (· + ·) (congrArg₂ (· + ·) (congrArg₂ (· * ·) (block2_apply m c t a) (block0_apply m c t r a)) ?_) ?_
    · exact (load_apply _ r a).1.trans (block1_apply m c t 0 r a)
    · exact (load_apply _ r a).2.trans (block1_apply m c t 1 r a)
  have hw : (fun a => (iblk m c 3 t) (ix2 a j)) = fun a => m ((c : Thread nD τ).loc main_arg3) (ix3 (1 : Fin 2) a j) :=
    funext fun a => block3_apply m c t a j
  exact congrFun (congr (congrArg₂ gatedUnit (funext fun a => congrArg gelu (hz a)) hw) (block4_apply m c t j)) j

/-- The result array after the run. -/
theorem array (c : Dev nD) : (dats m 0 c).arrAt 5 cfg0.N = fun i : S8192x1024.Idx =>
    glu (m ((c : Thread nD τ).loc main_arg0)) (m ((c : Thread nD τ).loc main_arg1)) (m ((c : Thread nD τ).loc main_arg2))
      (m ((c : Thread nD τ).loc main_arg3)) (m ((c : Thread nD τ).loc main_arg4)) (i 0) (i 1) := by
  refine (dats m 0 c).arrAt_eq_of_covers 5 _ (by decide +kernel) fun t hf y => ?_
  have e := index_5 t
  blk_simp
  rw [after0_5]
  have h0 : ((cfg0.win 5).blk t).view.emb y 0 = promptBlock t.val (y 0) :=
    Fin.ext ((by blk_simp [e] : (((cfg0.win 5).blk t).view.emb y 0).val = t.val * 512 + (y 0).val).trans (promptBlock_val (point_lt t) (y 0)).symm)
  have h1 : ((cfg0.win 5).blk t).view.emb y 1 = y 1 :=
    Fin.ext (by blk_simp [e] : (((cfg0.win 5).blk t).view.emb y 1).val = (y 1).val)
  refine Eq.trans (congrArg _ (eq_ix2 y)) ((out_apply m c t (y 0) (y 1)).trans ?_)
  exact (congrArg₂ (glu _ _ _ _ _) h0 h1).symm

end Cert.Glu

end
-- ==== Proof.Glu.Claim.lean ====
/-
  The claims about the gated unit: the reference's frame, and the equality of the kernel's result array with the reference's.
-/
module

public import proofs.«01_k».proof.Proof.Glu.Array
public import proofs.«01_k».proof.Proof.Gen.GluRefIdeal.Run
public import proofs.«01_k».proof.Defs

@[expose] public section

noncomputable section

namespace Cert.Glu

open Idealize.ShloMosaic Idealize.ShloMosaic.ValueIdx Idealize.ShloMosaic.TcCoe Idealize.SL.Sem

theorem ref_frame : Cert.quiescent_GluRefIdeal := fun m ρ _ =>
  (θ_run Cert.GluRefIdeal.defs _ _).mono (fun r h => ⟨fun c => (h c).2, sem_eq_zero_of_no_sems (by decide) r.2⟩)
    (Cert.GluRefIdeal.Value.run (F := Ideal) m ρ)

/-- **The kernel computes the reference's gated unit.** -/
theorem value : Cert.algebraic_GluIdeal_GluRefIdeal := by
  intro m ρ m' ρ' _ hagree
  refine ⟨_, (θ_run _ _ _).mono (fun r h c => ⟨(h c).1.trans (array m c), (h c).2⟩) (Cert.GluIdeal.Value.run_blocks (F := Ideal) m ρ), ?_⟩
  refine (θ_run _ _ _).mono (fun r h c => ⟨(h c).1.trans ?_, (h c).2⟩) (Cert.GluRefIdeal.Value.run (F := Ideal) m' ρ')
  refine (Cert.GluRefIdeal.Read.val_main_v41_eq _ _).trans ?_
  obtain ⟨h0, h1, h2, h3, h4⟩ := hagree c
  rw [h0, h1, h2, h3, h4]
  exact ref_eq _ _ _ _ _

end Cert.Glu

end
-- ==== Proof.Rg.Ref.lean ====
/-
  The gated sum after the odd layers' recurrence, over the extended reals: the two directions' states added and multiplied by the
  `gelu` of the gate. The reference's rows are `gatedSum` of the prompts' rows.
-/
module

public import proofs.«01_k».proof.Proof.Glu.Ref
public import proofs.«01_k».proof.Proof.Gen.RgRefIdeal.Read

@[expose] public section

noncomputable section

namespace Cert.Rg

open Idealize.ShloMosaic Idealize.ShloMosaic.ValueIdx Cert.RgRefIdeal Cert.RgRefIdeal.Gen Cert.RgRefIdeal.Read
open Cert.Glu (gelu promptRow)

/-- A column of the gate among the projected columns. -/
def gateCol (a : Fin 1024) : Fin 5120 := ⟨1024 + a.val, by have := a.isLt; omega⟩

/-- The gated sum's entry of one token and column. -/
def gatedSum (H : FVec Ideal S2x8192x1024 .f32) (P : FVec Ideal S16384x5120 .f32) (i : Fin 8192) (j : Fin 1024) : EReal :=
  (H (ix3 (0 : Fin 2) i j) + H (ix3 (1 : Fin 2) i j)) * gelu (P (ix2 (promptRow i) (gateCol j)))

variable (H : FVec Ideal S2x8192x1024 .f32) (P : FVec Ideal S16384x5120 .f32)

/-- The reference's sum of the two directions. -/
theorem ref_sum (i : Fin 8192) (j : Fin 1024) :
    val_main_v4 (F := Ideal) H (ix2 i j) = H (ix3 (0 : Fin 2) i j) + H (ix3 (1 : Fin 2) i j) := by
  have hi := i.isLt
  have hj := j.isLt
  have e0 : (i.val * 1024 + j.val) / 1024 % 8192 = i.val := by omega
  have e1 : (i.val * 1024 + j.val) % 1024 = j.val := by omega
  rw [val_main_v4_apply, val_main_v1_apply, val_main_v0_apply, val_main_v3_apply, val_main_v2_apply]
  refine congrArg₂ (· + ·) (congrArg H (funext fun b => Fin.ext ?_)) (congrArg H (funext fun b => Fin.ext ?_))
  · match b with | ⟨0, _⟩ => rfl | ⟨1, _⟩ => exact e0 | ⟨2, _⟩ => exact e1
  · match b with | ⟨0, _⟩ => rfl | ⟨1, _⟩ => exact e0 | ⟨2, _⟩ => exact e1

/-- The reference's gate. -/
theorem ref_gate (i : Fin 8192) (j : Fin 1024) : val_main_v18 (F := Ideal) P (ix2 i j) = gelu (P (ix2 (promptRow i) (gateCol j))) := by
  have e : val_main_v5 (F := Ideal) P (ix2 i j) = P (ix2 (promptRow i) (gateCol j)) := by
    rw [val_main_v5_apply]
    refine congrArg P (funext fun b => ?_)
    match b with | ⟨0, _⟩ => exact Fin.ext (by simp [promptRow]) | ⟨1, _⟩ => exact Fin.ext (by simp [gateCol])
  rw [val_main_v18_apply, val_main_v17_apply, val_main_v16_apply, val_main_v15_apply, val_main_v14_apply, val_main_v13_apply,
    val_main_v12_apply, val_main_v11_apply, val_main_v10_apply, val_main_v9_apply, val_main_v8_apply, val_main_v7_apply,
    val_main_v6_apply, e]
  rfl

/-- **The reference's rows.** -/
theorem ref_eq : val_main_v20 (F := Ideal) H P = fun i : S8192x1024.Idx => gatedSum H P (i 0) (i 1) := by
  funext y
  obtain ⟨i, j, rfl⟩ : ∃ i j, y = ix2 i j := ⟨y 0, y 1, eq_ix2 y⟩
  show val_main_v19 (F := Ideal) H P (ix2 i j) = gatedSum H P i j
  rw [val_main_v19_apply, ref_sum, ref_gate]
  rfl

end Cert.Rg

end
-- ==== Proof.Rg.Array.lean ====
/-
  The gated sum after the odd layers' recurrence, the kernel's side. The grid is sixteen blocks of 512 rows of the prompts; every
  point multiplies the sum of the two directions' rows by the `gelu` of the gate's. So the result array is `gatedSum`.
-/
module

public import proofs.«01_k».proof.Proof.Rg.Ref
public import proofs.«01_k».proof.Proof.Glu.Array
public import proofs.«01_k».proof.Proof.Gen.RgIdeal.Value
public import Idealize.ShloMosaic.Lib.Pipeline.ValueKit.Geometry
public import Idealize.ShloMosaic.Lib.Claim

@[expose] public section

noncomputable section

namespace Cert.Rg

open Idealize.ShloMosaic Idealize.ShloMosaic.ValueIdx Idealize.ShloMosaic.TcCoe Idealize.SL.Sem Cert.RgIdeal Cert.RgIdeal.Gen
open Cert.Glu (gelu gelu_eq promptRow promptBlock promptBlock_val)

/-- The stored word, at an index. -/
theorem pay_apply (p q : FVec Ideal S1x512x1024 .f32) (g : FVec Ideal S512x1024 .f32) (r : Fin 512) (j : Fin 1024) :
    k0_pay1 (F := Ideal) p q g (ix2 r j) = (p (ix3 (0 : Fin 1) r j) + q (ix3 (0 : Fin 1) r j)) * gelu (g (ix2 r j)) := by
  have half : ∀ x : FVec Ideal S1x512x1024 .f32,
      shapeCast S512x1024 x shapeCasts_S1x512x1024_S512x1024 (ix2 r j) = x (ix3 (0 : Fin 1) r j) :=
    fun x => shapeCast_apply _ _ _ _ (by rw [Shape.rowMajor_val_three, Shape.rowMajor_val_two]; simp)
  rw [← half p, ← half q, ← gelu_eq]
  rfl

variable (m : (ℓ : Loc nD τ sig) → Buf (Elt Ideal) ℓ)

/-! ### The blocks -/

theorem index_0 : ∀ t : Fin cfg0.N, win0_0.index t = ![0, t.val, 0] := (by decide +kernel : ∀ t : Fin grid0.N, _)
theorem index_1 : ∀ t : Fin cfg0.N, win0_1.index t = ![t.val, 1] := (by decide +kernel : ∀ t : Fin grid0.N, _)
theorem index_2 : ∀ t : Fin cfg0.N, win0_2.index t = ![t.val, 0] := (by decide +kernel : ∀ t : Fin grid0.N, _)

theorem point_lt (t : Fin cfg0.N) : t.val < 16 := lt_of_lt_of_eq t.isLt N_0

/-- The two directions' states. -/
theorem block0_apply (c : Dev nD) (t : Fin cfg0.N) (k : Fin 2) (r : Fin 512) (w : Fin 1024) :
    iblk m c 0 t (ix3 k r w) = m ((c : Thread nD τ).loc main_arg0) (ix3 k (promptBlock t.val r) w) := by
  have e := index_0 t
  blk_simp [iblk]
  refine congrArg _ (funext fun a => Fin.ext ?_)
  match a with
  | ⟨0, _⟩ => blk_simp [e]
  | ⟨1, _⟩ => blk_simp [e]; exact (promptBlock_val (point_lt t) r).symm
  | ⟨2, _⟩ => blk_simp [e]

/-- The gate. -/
theorem block1_apply (c : Dev nD) (t : Fin cfg0.N) (r : Fin 512) (w : Fin 1024) :
    iblk m c 1 t (ix2 r w) = m ((c : Thread nD τ).loc main_arg1) (ix2 (promptRow (promptBlock t.val r)) (gateCol w)) := by
  have e := index_1 t
  blk_simp [iblk]
  refine congrArg _ (funext fun a => Fin.ext ?_)
  match a with
  | ⟨0, _⟩ => blk_simp [e]; exact (promptBlock_val (point_lt t) r).symm
  | ⟨1, _⟩ => blk_simp [e]; rfl

/-- One direction's states, as the body loads them. -/
theorem load_apply (x : FVec Ideal S2x512x1024 .f32) (r : Fin 512) (a : Fin 1024) :
    View.ld (Val := Elt Ideal) (e' := .f32) x r0_0 (ix3 (0 : Fin 1) r a) = x (ix3 (0 : Fin 2) r a)
      ∧ View.ld (Val := Elt Ideal) (e' := .f32) x r0_1 (ix3 (0 : Fin 1) r a) = x (ix3 (1 : Fin 2) r a) := by
  constructor
  · rw [View.ld_unit]
    refine extractStridedSlice_apply _ _ _ _ _ fun a => ?_
    match a with | ⟨0, _⟩ => rfl | ⟨1, _⟩ => exact (Nat.zero_add _).symm | ⟨2, _⟩ => exact (Nat.zero_add _).symm
  · rw [View.ld_unit]
    refine extractStridedSlice_apply _ _ _ _ _ fun a => ?_
    match a with | ⟨0, _⟩ => rfl | ⟨1, _⟩ => exact (Nat.zero_add _).symm | ⟨2, _⟩ => exact (Nat.zero_add _).symm

/-- What a point leaves in its block. -/
theorem block_eq (x0 : FVec Ideal S2x512x1024 .f32) (x1 : FVec Ideal S512x1024 .f32) :
    out0_2 (F := Ideal) x0 x1 = k0_pay1 (F := Ideal) (View.ld (Val := Elt Ideal) (e' := .f32) x0 r0_0)
      (View.ld (Val := Elt Ideal) (e' := .f32) x0 r0_1) x1 := by
  frame_out

theorem out_apply (c : Dev nD) (t : Fin cfg0.N) (r : Fin 512) (j : Fin 1024) :
    out0_2 (F := Ideal) (iblk m c 0 t) (iblk m c 1 t) (ix2 r j)
      = gatedSum (m ((c : Thread nD τ).loc main_arg0)) (m ((c : Thread nD τ).loc main_arg1)) (promptBlock t.val r) j := by
  rw [block_eq, pay_apply]
  unfold gatedSum
  refine congrArg₂ (· * ·) (congrArg₂ (· + ·) ?_ ?_) (congrArg gelu (block1_apply m c t r j))
  · exact (load_apply _ r j).1.trans (block0_apply m c t 0 r j)
  · exact (load_apply _ r j).2.trans (block0_apply m c t 1 r j)

/-- The result array after the run. -/
theorem array (c : Dev nD) : (dats m 0 c).arrAt 2 cfg0.N = fun i : S8192x1024.Idx =>
    gatedSum (m ((c : Thread nD τ).loc main_arg0)) (m ((c : Thread nD τ).loc main_arg1)) (i 0) (i 1) := by
  refine (dats m 0 c).arrAt_eq_of_covers 2 _ (by decide +kernel) fun t hf y => ?_
  have e := index_2 t
  blk_simp
  rw [after0_2]
  have h0 : ((cfg0.win 2).blk t).view.emb y 0 = promptBlock t.val (y 0) :=
    Fin.ext ((by blk_simp [e] : (((cfg0.win 2).blk t).view.emb y 0).val = t.val * 512 + (y 0).val).trans (promptBlock_val (point_lt t) (y 0)).symm)
  have h1 : ((cfg0.win 2).blk t).view.emb y 1 = y 1 :=
    Fin.ext (by blk_simp [e] : (((cfg0.win 2).blk t).view.emb y 1).val = (y 1).val)
  refine Eq.trans (congrArg _ (eq_ix2 y)) ((out_apply m c t (y 0) (y 1)).trans ?_)
  exact (congrArg₂ (gatedSum _ _) h0 h1).symm

end Cert.Rg

end
-- ==== Proof.Rg.Claim.lean ====
/-
  The claims about the gated sum: the reference's frame, and the equality of the kernel's result array with the reference's.
-/
module

public import proofs.«01_k».proof.Proof.Rg.Array
public import proofs.«01_k».proof.Proof.Gen.RgRefIdeal.Run
public import proofs.«01_k».proof.Defs

@[expose] public section

noncomputable section

namespace Cert.Rg

open Idealize.ShloMosaic Idealize.ShloMosaic.ValueIdx Idealize.ShloMosaic.TcCoe Idealize.SL.Sem

theorem ref_frame : Cert.quiescent_RgRefIdeal := fun m ρ _ =>
  (θ_run Cert.RgRefIdeal.defs _ _).mono (fun r h => ⟨fun c => (h c).2, sem_eq_zero_of_no_sems (by decide) r.2⟩)
    (Cert.RgRefIdeal.Value.run (F := Ideal) m ρ)

/-- **The kernel computes the reference's gated sum.** -/
theorem value : Cert.algebraic_RgIdeal_RgRefIdeal := by
  intro m ρ m' ρ' _ hagree
  refine ⟨_, (θ_run _ _ _).mono (fun r h c => ⟨(h c).1.trans (array m c), (h c).2⟩) (Cert.RgIdeal.Value.run_blocks (F := Ideal) m ρ), ?_⟩
  refine (θ_run _ _ _).mono (fun r h c => ⟨(h c).1.trans ?_, (h c).2⟩) (Cert.RgRefIdeal.Value.run (F := Ideal) m' ρ')
  refine (Cert.RgRefIdeal.Read.val_main_v20_eq _ _).trans ?_
  obtain ⟨h0, h1⟩ := hagree c
  rw [h0, h1]
  exact ref_eq _ _

end Cert.Rg

end
-- ==== Proof.Ada.Ref.lean ====
/-
  The modulation of every layer, over the extended reals: a condition through `silu`, times a layer's weights, plus its bias. The
  reference's entries are `modulation`.
-/
module

public import proofs.«01_k».proof.Proof.Ffn.Swiglu
public import proofs.«01_k».proof.Proof.Gen.AdaRefIdeal.Read

@[expose] public section

noncomputable section

namespace Cert.Ada

open Idealize.ShloMosaic Idealize.ShloMosaic.ValueIdx Cert.AdaRefIdeal Cert.AdaRefIdeal.Gen Cert.AdaRefIdeal.Read
open Cert.Ffn (one_bits)
open scoped BigOperators

/-- The modulation's entry of one layer, condition and column. -/
def modulation (C : FVec Ideal S8x2048 .f32) (W : FVec Ideal S4x2048x18432 .f32) (B : FVec Ideal S4x18432 .f32) (l : Fin 4)
    (n : Fin 8) (j : Fin 18432) : EReal :=
  (∑ k : Fin 2048, C (ix2 n k) * Ideal.logistic (C (ix2 n k)) * W (ix3 l k j)) + B (ix2 l j)

variable (C : FVec Ideal S8x2048 .f32) (W : FVec Ideal S4x2048x18432 .f32) (B : FVec Ideal S4x18432 .f32)

/-- The reference's `silu`. -/
theorem ref_silu (n : Fin 8) (k : Fin 2048) :
    val_main_v0 (F := Ideal) C (ix2 n k) = C (ix2 n k) * Ideal.logistic (C (ix2 n k)) := by
  rw [val_main_v0_apply, val_main_call0_v5_apply, val_main_call0_v4_apply, val_main_call0_v3_apply, val_main_call0_v2_apply,
    val_main_call0_v1_apply, val_main_call0_v0_apply]
  unfold Ideal.logistic
  rw [← one_bits]
  rfl

/-- The reference's product. -/
theorem ref_product (l : Fin 4) (n : Fin 8) (j : Fin 18432) : val_main_v2 (F := Ideal) C W (ix3 l n j)
    = ∑ k : Fin 2048, C (ix2 n k) * Ideal.logistic (C (ix2 n k)) * W (ix3 l k j) := by
  rw [val_main_v2_apply, val_main_v1_apply]
  refine Finset.sum_congr rfl fun k _ => ?_
  have el : lidx_main_v1 (idx_main_v2 (ix3 l n j)) k = ix3 l k j := by
    funext d; match d with | ⟨0, _⟩ => rfl | ⟨1, _⟩ => rfl | ⟨2, _⟩ => rfl
  have er : ridx_main_v1 (idx_main_v2 (ix3 l n j)) k = ix2 n k := by funext d; match d with | ⟨0, _⟩ => rfl | ⟨1, _⟩ => rfl
  rw [el, er, ref_silu, mul_comm]

/-- The reference's bias. -/
theorem ref_bias (l : Fin 4) (n : Fin 8) (j : Fin 18432) : val_main_v4 (F := Ideal) B (ix3 l n j) = B (ix2 l j) := by
  rw [val_main_v4_apply, val_main_v3_apply]
  refine congrArg B (funext fun b => ?_)
  match b with | ⟨0, _⟩ => rfl | ⟨1, _⟩ => rfl

/-- **The reference's entries.** -/
theorem ref_eq : val_main_v5 (F := Ideal) C W B = fun i : S4x8x18432.Idx => modulation C W B (i 0) (i 1) (i 2) := by
  funext y
  obtain ⟨l, n, j, rfl⟩ : ∃ l n j, y = ix3 l n j := ⟨y 0, y 1, y 2, eq_ix3 y⟩
  show val_main_v5 (F := Ideal) C W B (ix3 l n j) = modulation C W B l n j
  rw [val_main_v5_apply, ref_product, ref_bias]
  rfl

end Cert.Ada

end
-- ==== Proof.Ada.Array.lean ====
/-
  The modulation of every layer, the kernel's side. The grid is the four layers by eighteen blocks of 1024 columns; every point
  multiplies `silu` of the conditions by its columns of the layer's weights and adds its piece of the bias. So the result array is
  `modulation`.
-/
module

public import proofs.«01_k».proof.Proof.Ada.Ref
public import proofs.«01_k».proof.Proof.Gen.AdaIdeal.Value
public import Idealize.ShloMosaic.Lib.Pipeline.ValueKit.Geometry
public import Idealize.ShloMosaic.Lib.MatmulPlain
public import Idealize.ShloMosaic.Lib.Claim

@[expose] public section

noncomputable section

namespace Cert.Ada

open Idealize.ShloMosaic Idealize.ShloMosaic.ValueIdx Idealize.ShloMosaic.TcCoe Idealize.SL.Sem Cert.AdaIdeal Cert.AdaIdeal.Gen
open scoped BigOperators

/-- The layer of a point. -/
def layer (t : Nat) : Fin 4 := ⟨t / 18 % 4, Nat.mod_lt _ (by decide)⟩

theorem layer_val {t : Nat} (ht : t < 72) : (layer t).val = t / 18 := by
  show t / 18 % 4 = _
  omega

/-- Column `j` of a point's block. -/
def column (t : Nat) (j : Fin 1024) : Fin 18432 := ⟨t % 18 * 1024 + j.val, by have := j.isLt; omega⟩

/-- The stored word, at an index. -/
theorem pay_apply (x : FVec Ideal S8x2048 .f32) (w : FVec Ideal S1x2048x1024 .f32) (b : FVec Ideal S1x1x1024 .f32) (n : Fin 8)
    (j : Fin 1024) : k0_pay1 (F := Ideal) x w b (ix3 (0 : Fin 1) n j)
      = (∑ k : Fin 2048, x (ix2 n k) * Ideal.logistic (x (ix2 n k)) * w (ix3 (0 : Fin 1) k j)) + b (ix3 (0 : Fin 1) (0 : Fin 1) j) := by
  have weight : ∀ k : Fin 2048, shapeCast S2048x1024 w shapeCasts_S1x2048x1024_S2048x1024 (ix2 k j) = w (ix3 (0 : Fin 1) k j) :=
    fun k => shapeCast_apply _ _ _ _ (by rw [Shape.rowMajor_val_three, Shape.rowMajor_val_two]; simp)
  have bias : broadcastTo S8x1024 (shapeCast S1x1024 b shapeCasts_S1x1x1024_S1x1024) broadcasts_S1x1024_S8x1024 (ix2 n j)
      = b (ix3 (0 : Fin 1) (0 : Fin 1) j) :=
    (broadcastTo_apply _ _ _ (ix2 (0 : Fin 1) j) (fun a => by match a with | ⟨0, _⟩ => rfl | ⟨1, _⟩ => rfl)).trans
      (shapeCast_apply _ _ _ _ (by rw [Shape.rowMajor_val_three, Shape.rowMajor_val_two]; simp))
  unfold k0_pay1
  refine (shapeCast_apply _ _ _ (ix2 n j) (by rw [Shape.rowMajor_val_three, Shape.rowMajor_val_two]; simp)).trans ?_
  refine congrArg₂ (· + ·) ((Ideal.matmul_plain_apply (M := 8) (K := 2048) (N := 1024) none _ _ _ n j).trans ?_) bias
  show Ideal.ofBits .f32 0x00000000#32 + _ = _
  rw [Ideal.ofBits_zero_f32, zero_add]
  exact Finset.sum_congr rfl fun k _ => congrArg₂ (· * ·) rfl (weight k)

/-- The biases with an axis of one row, laid out by the host. -/
theorem biases_apply (B : FVec Ideal S4x18432 .f32) (l : Fin 4) (j : Fin 18432) :
    shapeCast S4x1x18432 B shapeCasts_S4x18432_S4x1x18432 (ix3 l (0 : Fin 1) j) = B (ix2 l j) :=
  shapeCast_apply _ _ _ _ (by rw [Shape.rowMajor_val_three, Shape.rowMajor_val_two]; simp)

variable (m : (ℓ : Loc nD τ sig) → Buf (Elt Ideal) ℓ)

/-! ### The blocks -/

theorem index_0 : ∀ t : Fin cfg0.N, win0_0.index t = ![0, 0] := (by decide +kernel : ∀ t : Fin grid0.N, _)
theorem index_1 : ∀ t : Fin cfg0.N, win0_1.index t = ![t.val / 18, 0, t.val % 18] := (by decide +kernel : ∀ t : Fin grid0.N, _)
theorem index_2 : ∀ t : Fin cfg0.N, win0_2.index t = ![t.val / 18, 0, t.val % 18] := (by decide +kernel : ∀ t : Fin grid0.N, _)
theorem index_3 : ∀ t : Fin cfg0.N, win0_3.index t = ![t.val / 18, 0, t.val % 18] := (by decide +kernel : ∀ t : Fin grid0.N, _)

theorem point_lt (t : Fin cfg0.N) : t.val < 72 := lt_of_lt_of_eq t.isLt N_0

/-- The conditions. -/
theorem block0_apply (c : Dev nD) (t : Fin cfg0.N) (n : Fin 8) (k : Fin 2048) :
    iblk m c 0 t (ix2 n k) = m ((c : Thread nD τ).loc main_arg0) (ix2 n k) := by
  have e := index_0 t
  blk_simp [iblk]
  rw [V_main_arg0]
  refine congrArg _ (funext fun a => Fin.ext ?_)
  match a with
  | ⟨0, _⟩ => blk_simp [e]
  | ⟨1, _⟩ => blk_simp [e]

/-- The weights. -/
theorem block1_apply (c : Dev nD) (t : Fin cfg0.N) (k : Fin 2048) (j : Fin 1024) :
    iblk m c 1 t (ix3 (0 : Fin 1) k j) = m ((c : Thread nD τ).loc main_arg1) (ix3 (layer t.val) k (column t.val j)) := by
  have e := index_1 t
  blk_simp [iblk]
  rw [V_main_arg1]
  refine congrArg _ (funext fun a => Fin.ext ?_)
  match a with
  | ⟨0, _⟩ => blk_simp [e]; exact (layer_val (point_lt t)).symm
  | ⟨1, _⟩ => blk_simp [e]
  | ⟨2, _⟩ => blk_simp [e]; rfl

/-- The bias. -/
theorem block2_apply (c : Dev nD) (t : Fin cfg0.N) (j : Fin 1024) :
    iblk m c 2 t (ix3 (0 : Fin 1) (0 : Fin 1) j) = m ((c : Thread nD τ).loc main_arg2) (ix2 (layer t.val) (column t.val j)) := by
  have e := index_2 t
  blk_simp [iblk]
  entry_read
  have hx : ((View.whole main_v0).slice (win0_2.rect t)).emb (ix3 (0 : Fin 1) (0 : Fin 1) j)
      = ix3 (layer t.val) (0 : Fin 1) (column t.val j) := by
    refine funext fun a => Fin.ext ?_
    match a with
    | ⟨0, _⟩ => blk_simp [e]; exact (layer_val (point_lt t)).symm
    | ⟨1, _⟩ => blk_simp [e]
    | ⟨2, _⟩ => blk_simp [e]; rfl
  exact (congrArg _ hx).trans (biases_apply _ _ _)

/-- What a point leaves in its block. -/
theorem block_eq (x0 : FVec Ideal S8x2048 .f32) (x1 : FVec Ideal S1x2048x1024 .f32) (x2 : FVec Ideal S1x1x1024 .f32) :
    out0_3 (F := Ideal) x0 x1 x2 = k0_pay1 (F := Ideal) x0 x1 x2 := by
  frame_out

theorem out_apply (c : Dev nD) (t : Fin cfg0.N) (n : Fin 8) (j : Fin 1024) :
    out0_3 (F := Ideal) (iblk m c 0 t) (iblk m c 1 t) (iblk m c 2 t) (ix3 (0 : Fin 1) n j)
      = modulation (m ((c : Thread nD τ).loc main_arg0)) (m ((c : Thread nD τ).loc main_arg1)) (m ((c : Thread nD τ).loc main_arg2))
          (layer t.val) n (column t.val j) := by
  rw [block_eq, pay_apply]
  refine congrArg₂ (· + ·) (Finset.sum_congr rfl fun k _ => ?_) (block2_apply m c t j)
  exact congrArg₂ (fun x w => x * Ideal.logistic x * w) (block0_apply m c t n k) (block1_apply m c t k j)

/-- The result array after the run. -/
theorem array (c : Dev nD) : (dats m 0 c).arrAt 3 cfg0.N = fun i : S4x8x18432.Idx =>
    modulation (m ((c : Thread nD τ).loc main_arg0)) (m ((c : Thread nD τ).loc main_arg1)) (m ((c : Thread nD τ).loc main_arg2))
      (i 0) (i 1) (i 2) := by
  refine (dats m 0 c).arrAt_eq_of_covers 3 _ (by decide +kernel) fun t hf y => ?_
  have e := index_3 t
  have hy : y 0 = (0 : Fin 1) := Subsingleton.elim (α := Fin 1) _ _
  blk_simp
  rw [after0_3]
  have h0 : ((cfg0.win 3).blk t).view.emb y 0 = layer t.val :=
    Fin.ext ((by blk_simp [e] : (((cfg0.win 3).blk t).view.emb y 0).val = t.val / 18 * 1 + (y 0).val).trans
      (by rw [hy, layer_val (point_lt t)]; simp))
  have h1 : ((cfg0.win 3).blk t).view.emb y 1 = y 1 :=
    Fin.ext (by blk_simp [e] : (((cfg0.win 3).blk t).view.emb y 1).val = (y 1).val)
  have h2 : ((cfg0.win 3).blk t).view.emb y 2 = column t.val (y 2) :=
    Fin.ext (by blk_simp [e]; rfl : (((cfg0.win 3).blk t).view.emb y 2).val = (column t.val (y 2)).val)
  have hy3 : y = ix3 (0 : Fin 1) (y 1) (y 2) := (eq_ix3 y).trans (congrArg (fun z => ix3 z (y 1) (y 2)) hy)
  refine Eq.trans (congrArg _ hy3) ((out_apply m c t (y 1) (y 2)).trans ?_)
  exact (congr (congrArg₂ (modulation _ _ _) h0 h1) h2).symm

end Cert.Ada

end
-- ==== Proof.Ada.Claim.lean ====
/-
  The claims about the modulation: the reference's frame, and the equality of the kernel's result array with the reference's.
-/
module

public import proofs.«01_k».proof.Proof.Ada.Array
public import proofs.«01_k».proof.Proof.Gen.AdaRefIdeal.Run
public import proofs.«01_k».proof.Defs

@[expose] public section

noncomputable section

namespace Cert.Ada

open Idealize.ShloMosaic Idealize.ShloMosaic.ValueIdx Idealize.ShloMosaic.TcCoe Idealize.SL.Sem

theorem ref_frame : Cert.quiescent_AdaRefIdeal := fun m ρ _ =>
  (θ_run Cert.AdaRefIdeal.defs _ _).mono (fun r h => ⟨fun c => (h c).2, sem_eq_zero_of_no_sems (by decide) r.2⟩)
    (Cert.AdaRefIdeal.Value.run (F := Ideal) m ρ)

/-- **The kernel computes the reference's modulation.** -/
theorem value : Cert.algebraic_AdaIdeal_AdaRefIdeal := by
  intro m ρ m' ρ' _ hagree
  refine ⟨_, (θ_run _ _ _).mono (fun r h c => ⟨(h c).1.trans (array m c), (h c).2⟩) (Cert.AdaIdeal.Value.run_blocks (F := Ideal) m ρ), ?_⟩
  refine (θ_run _ _ _).mono (fun r h c => ⟨(h c).1.trans ?_, (h c).2⟩) (Cert.AdaRefIdeal.Value.run (F := Ideal) m' ρ')
  refine (Cert.AdaRefIdeal.Read.val_main_v5_eq _ _ _).trans ?_
  obtain ⟨h0, h1, h2⟩ := hagree c
  rw [h0, h1, h2]
  exact ref_eq _ _ _

end Cert.Ada

end
-- ==== Proof.lean ====
/-
  The certificate: the claims about the context attention, the two feed-forward halves, the input projections, the output
  projection, the queries, keys and values of the odd layers, the gated unit of the even layers, the gated sum of the odd layers and
  the modulation, each from its module.
-/
module

public import proofs.«01_k».proof.Proof.Attn.Ctx
public import proofs.«01_k».proof.Proof.Ffn.Half1Claim
public import proofs.«01_k».proof.Proof.Ffn.Half0Claim
public import proofs.«01_k».proof.Proof.Proj.Even
public import proofs.«01_k».proof.Proof.Proj.Odd
public import proofs.«01_k».proof.Proof.Proj.OutClaim
public import proofs.«01_k».proof.Proof.Qkv.Claim
public import proofs.«01_k».proof.Proof.Glu.Claim
public import proofs.«01_k».proof.Proof.Rg.Claim
public import proofs.«01_k».proof.Proof.Ada.Claim
public import proofs.«01_k».proof.Proof.Gen.CtxIdeal.Value
public import proofs.«01_k».proof.Proof.Gen.CtxRefIdeal.Run
public import proofs.«01_k».proof.Proof.Gen.CtxRefIdeal.Read
public import proofs.«01_k».proof.Proof.Gen.Ctx.Frame
public import proofs.«01_k».proof.Proof.Gen.CtxIdeal.Frame
public import proofs.«01_k».proof.Proof.Gen.Ffn1.Frame
public import proofs.«01_k».proof.Proof.Gen.Ffn1Ideal.Frame
public import proofs.«01_k».proof.Proof.Gen.Ffn1RefIdeal.Run
public import proofs.«01_k».proof.Proof.Gen.Ffn0.Frame
public import proofs.«01_k».proof.Proof.Gen.Ffn0Ideal.Frame
public import proofs.«01_k».proof.Proof.Gen.Ffn0RefIdeal.Run
public import proofs.«01_k».proof.Proof.Gen.InEven.Frame
public import proofs.«01_k».proof.Proof.Gen.InEvenIdeal.Frame
public import proofs.«01_k».proof.Proof.Gen.InEvenIdeal.Value
public import proofs.«01_k».proof.Proof.Gen.InEvenRefIdeal.Run
public import proofs.«01_k».proof.Proof.Gen.InEvenRefIdeal.Read
public import proofs.«01_k».proof.Proof.Gen.InOdd.Frame
public import proofs.«01_k».proof.Proof.Gen.InOddIdeal.Frame
public import proofs.«01_k».proof.Proof.Gen.InOddIdeal.Value
public import proofs.«01_k».proof.Proof.Gen.InOddRefIdeal.Run
public import proofs.«01_k».proof.Proof.Gen.InOddRefIdeal.Read
public import proofs.«01_k».proof.Proof.Gen.Out.Frame
public import proofs.«01_k».proof.Proof.Gen.OutIdeal.Frame
public import proofs.«01_k».proof.Proof.Gen.OutIdeal.Value
public import proofs.«01_k».proof.Proof.Gen.OutRefIdeal.Run
public import proofs.«01_k».proof.Proof.Gen.OutRefIdeal.Read
public import proofs.«01_k».proof.Proof.Gen.Qkv.Frame
public import proofs.«01_k».proof.Proof.Gen.QkvIdeal.Frame
public import proofs.«01_k».proof.Proof.Gen.QkvIdeal.Value
public import proofs.«01_k».proof.Proof.Gen.QkvRefIdeal.Run
public import proofs.«01_k».proof.Proof.Gen.QkvRefIdeal.Read
public import proofs.«01_k».proof.Proof.Gen.Glu.Frame
public import proofs.«01_k».proof.Proof.Gen.GluIdeal.Frame
public import proofs.«01_k».proof.Proof.Gen.GluIdeal.Value
public import proofs.«01_k».proof.Proof.Gen.GluRefIdeal.Run
public import proofs.«01_k».proof.Proof.Gen.GluRefIdeal.Read
public import proofs.«01_k».proof.Proof.Gen.Rg.Frame
public import proofs.«01_k».proof.Proof.Gen.RgIdeal.Frame
public import proofs.«01_k».proof.Proof.Gen.RgIdeal.Value
public import proofs.«01_k».proof.Proof.Gen.RgRefIdeal.Run
public import proofs.«01_k».proof.Proof.Gen.RgRefIdeal.Read
public import proofs.«01_k».proof.Proof.Gen.Ada.Frame
public import proofs.«01_k».proof.Proof.Gen.AdaIdeal.Frame
public import proofs.«01_k».proof.Proof.Gen.AdaIdeal.Value
public import proofs.«01_k».proof.Proof.Gen.AdaRefIdeal.Run
public import proofs.«01_k».proof.Proof.Gen.AdaRefIdeal.Read
public import proofs.«01_k».proof.Defs
public import Idealize.ShloMosaic.Adequacy
public import Idealize.ShloMosaic.Init

@[expose] public section

noncomputable section

namespace Cert.Proof

open Idealize.ShloMosaic Idealize.SL.Sem Cert.Ctx

theorem claim : Cert.Claim := ⟨Cert.Ctx.Gen.facts, Cert.CtxIdeal.Gen.facts, Cert.CtxRefIdeal.Gen.facts, Cert.Ffn1.Gen.facts,
  Cert.Ffn1Ideal.Gen.facts, Cert.Ffn1RefIdeal.Gen.facts, Cert.Ffn0.Gen.facts, Cert.Ffn0Ideal.Gen.facts,
  Cert.Ffn0RefIdeal.Gen.facts, Cert.InEven.Gen.facts, Cert.InEvenIdeal.Gen.facts, Cert.InEvenRefIdeal.Gen.facts,
  Cert.InOdd.Gen.facts, Cert.InOddIdeal.Gen.facts, Cert.InOddRefIdeal.Gen.facts, Cert.Out.Gen.facts, Cert.OutIdeal.Gen.facts,
  Cert.OutRefIdeal.Gen.facts, Cert.Qkv.Gen.facts, Cert.QkvIdeal.Gen.facts, Cert.QkvRefIdeal.Gen.facts,
  Cert.Glu.Gen.facts, Cert.GluIdeal.Gen.facts, Cert.GluRefIdeal.Gen.facts,
  Cert.Rg.Gen.facts, Cert.RgIdeal.Gen.facts, Cert.RgRefIdeal.Gen.facts, Cert.Ada.Gen.facts, Cert.AdaIdeal.Gen.facts,
  Cert.AdaRefIdeal.Gen.facts, Cert.Attn.pre_facts, Cert.Qkv.pre_facts,
  fun m ρ _ => Cert.Ctx.Gen.frame m ρ, fun m ρ _ => Cert.CtxIdeal.Gen.frame m ρ, fun m ρ _ => Cert.CtxIdeal.Gen.frame m ρ,
  Cert.Attn.ref_frame, fun m ρ _ => Cert.Attn.ref_frame m ρ trivial,
  fun m ρ _ => Cert.Ffn1.Gen.frame m ρ, fun m ρ _ => Cert.Ffn1Ideal.Gen.frame m ρ, Cert.Ffn.Half1.ref_frame,
  fun m ρ _ => Cert.Ffn0.Gen.frame m ρ, fun m ρ _ => Cert.Ffn0Ideal.Gen.frame m ρ, Cert.Ffn.Half0.ref_frame,
  fun m ρ _ => Cert.InEven.Gen.frame m ρ, fun m ρ _ => Cert.InEvenIdeal.Gen.frame m ρ, Cert.Proj.Even.ref_frame,
  fun m ρ _ => Cert.InOdd.Gen.frame m ρ, fun m ρ _ => Cert.InOddIdeal.Gen.frame m ρ, Cert.Proj.Odd.ref_frame,
  fun m ρ _ => Cert.Out.Gen.frame m ρ, fun m ρ _ => Cert.OutIdeal.Gen.frame m ρ, Cert.Proj.Out.ref_frame,
  fun m ρ _ => Cert.Qkv.Gen.frame m ρ, fun m ρ _ => Cert.QkvIdeal.Gen.frame m ρ, fun m ρ _ => Cert.QkvIdeal.Gen.frame m ρ,
  Cert.Qkv.ref_frame, fun m ρ _ => Cert.Qkv.ref_frame m ρ trivial,
  fun m ρ _ => Cert.Glu.Gen.frame m ρ, fun m ρ _ => Cert.GluIdeal.Gen.frame m ρ, Cert.Glu.ref_frame,
  fun m ρ _ => Cert.Rg.Gen.frame m ρ, fun m ρ _ => Cert.RgIdeal.Gen.frame m ρ, Cert.Rg.ref_frame,
  fun m ρ _ => Cert.Ada.Gen.frame m ρ, fun m ρ _ => Cert.AdaIdeal.Gen.frame m ρ, Cert.Ada.ref_frame,
  trivial, Cert.Attn.ctx_value, trivial, Cert.Ffn.Half1.value, trivial, Cert.Ffn.Half0.value, trivial, Cert.Proj.Even.value,
  trivial, Cert.Proj.Odd.value, trivial, Cert.Proj.Out.value,
  trivial, Cert.Qkv.value, trivial, Cert.Glu.value, trivial, Cert.Rg.value, trivial, Cert.Ada.value⟩

end Cert.Proof

end
